-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![16384, 1]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = Layout.block ⟨2, ![1024, 1024]⟩ ⟨2, ![16384, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x512 : Shape := ⟨2, ![1024, 512]⟩
abbrev S512x64 : Shape := ⟨2, ![512, 64]⟩
abbrev S1024x1 : Shape := ⟨2, ![1024, 1]⟩
abbrev S4x512x1024 : Shape := ⟨3, ![4, 512, 1024]⟩
abbrev S512x1024 : Shape := ⟨2, ![512, 1024]⟩
abbrev S16 : Shape := ⟨1, ![16]⟩
abbrev S1x16 : Shape := ⟨2, ![1, 16]⟩
abbrev S_ : Shape := ⟨0, ![]⟩
abbrev S1024x16 : Shape := ⟨2, ![1024, 16]⟩

class Facts : Prop where
  bcast_S16_S1x16_1 : S16.BroadcastsInDim S1x16 (![1] : Fin 1 → Fin S1x16.rank)
  bcast_S_S1x16 : S_.BroadcastsInDim S1x16 (![] : Fin 0 → Fin S1x16.rank)
  bcast_S1024x1_S1024x16_0_1 : S1024x1.BroadcastsInDim S1024x16 (![0, 1] : Fin 2 → Fin S1024x16.rank)
  bcast_S1x16_S1024x16_0_1 : S1x16.BroadcastsInDim S1024x16 (![0, 1] : Fin 2 → Fin S1024x16.rank)
  natLt_1_32 : 1 < 32
  reducesTo_S1024x16_S16_d0 : S1024x16.ReducesTo [0] S16
  h_S_ : 0 < S_.numel
  bcast_S_S1024x1 : S_.BroadcastsInDim S1024x1 (![] : Fin 0 → Fin S1024x1.rank)
  reducesTo_S1024x1_S_d0_1 : S1024x1.ReducesTo [0, 1] S_
  bcast_S_S16 : S_.BroadcastsInDim S16 (![] : Fin 0 → Fin S16.rank)
  reducesTo_S16_S_d0 : S16.ReducesTo [0] S_
  bcast_S_S1024x512 : S_.BroadcastsInDim S1024x512 (![] : Fin 0 → Fin S1024x512.rank)
  reducesTo_S1024x512_S_d0_1 : S1024x512.ReducesTo [0, 1] S_
  bcast_S_S512x64 : S_.BroadcastsInDim S512x64 (![] : Fin 0 → Fin S512x64.rank)
  reducesTo_S512x64_S_d0_1 : S512x64.ReducesTo [0, 1] S_

variable [Facts]

def fn_part2 {F : FTy → Type} [FloatOps F] (main_v30 : IVec S_ 1) (main_v34 : IVec S_ 1) : IVec S_ 1 :=
  let main_v35 : IVec S_ 1 := andi main_v30 main_v34
  main_v35

def fn_part1 {F : FTy → Type} [FloatOps F] (main_arg0 : FVec F S1024x512 .f32) (main_arg1 : FVec F S512x64 .f32) (main_arg2 : IVec S1024x1 32) (main_v14 : IVec S16 32) (main_v17 : IVec S_ 1) (main_c_4 : IVec S_ 32) : IVec S_ 1 :=
  let main_v18 : IVec S1024x1 32 := broadcastInDim S1024x1 ![] bcast_S_S1024x1 main_c_4
  let main_v19 : IVec S1024x1 1 := cmpi .slt main_arg2 main_v18
  let main_c_5 : IVec S_ 1 := constantI S_ 1 1#1
  let main_v20 : IVec S_ 1 := (fun x v => Host.reduce IntOp.andi x v reducesTo_S1024x1_S_d0_1 h_S_) main_v19 main_c_5
  let main_v21 : IVec S_ 1 := andi main_v17 main_v20
  let main_c_6 : IVec S_ 32 := constantI S_ 32 112#32
  let main_v22 : IVec S16 32 := broadcastInDim S16 ![] bcast_S_S16 main_c_6
  let main_v23 : IVec S16 1 := cmpi .sle main_v14 main_v22
  let main_c_7 : IVec S_ 1 := constantI S_ 1 1#1
  let main_v24 : IVec S_ 1 := (fun x v => Host.reduce IntOp.andi x v reducesTo_S16_S_d0 h_S_) main_v23 main_c_7
  let main_v25 : IVec S_ 1 := andi main_v21 main_v24
  let main_v26 : FVec F S1024x512 .f32 := Host.absf main_arg0
  let main_cst : FVec F S_ .f32 := constant S_ .f32 0x7F800000#32
  let main_v27 : FVec F S1024x512 .f32 := broadcastInDim S1024x512 ![] bcast_S_S1024x512 main_cst
  let main_v28 : IVec S1024x512 1 := cmpf .olt main_v26 main_v27
  let main_c_8 : IVec S_ 1 := constantI S_ 1 1#1
  let main_v29 : IVec S_ 1 := (fun x v => Host.reduce IntOp.andi x v reducesTo_S1024x512_S_d0_1 h_S_) main_v28 main_c_8
  let main_v30 : IVec S_ 1 := andi main_v25 main_v29
  let main_v31 : FVec F S512x64 .f32 := Host.absf main_arg1
  let main_cst_9 : FVec F S_ .f32 := constant S_ .f32 0x7F800000#32
  let main_v32 : FVec F S512x64 .f32 := broadcastInDim S512x64 ![] bcast_S_S512x64 main_cst_9
  let main_v33 : IVec S512x64 1 := cmpf .olt main_v31 main_v32
  let main_c_10 : IVec S_ 1 := constantI S_ 1 1#1
  let main_v34 : IVec S_ 1 := (fun x v => Host.reduce IntOp.andi x v reducesTo_S512x64_S_d0_1 h_S_) main_v33 main_c_10
  fn_part2 (F := F) main_v30 main_v34

def fn {F : FTy → Type} [FloatOps F] (main_arg0 : FVec F S1024x512 .f32) (main_arg1 : FVec F S512x64 .f32) (main_arg2 : IVec S1024x1 32) (main_arg3 : FVec F S4x512x1024 .f32) (main_arg4 : FVec F S512x1024 .f32) : IVec S_ 1 :=
  let main_v0 : IVec S16 32 := iotaInDim S16 32 0
  let main_v1 : IVec S1x16 32 := broadcastInDim S1x16 ![1] bcast_S16_S1x16_1 main_v0
  let main_c : IVec S_ 32 := constantI S_ 32 4#32
  let main_v2 : IVec S1x16 32 := broadcastInDim S1x16 ![] bcast_S_S1x16 main_c
  let main_v3 : IVec S1x16 32 := muli main_v2 main_v1
  let main_v4 : IVec S1024x16 32 := broadcastInDim S1024x16 ![0, 1] bcast_S1024x1_S1024x16_0_1 main_arg2
  let main_v5 : IVec S1024x16 32 := broadcastInDim S1024x16 ![0, 1] bcast_S1x16_S1024x16_0_1 main_v3
  let main_v6 : IVec S1024x16 1 := cmpi .sge main_v4 main_v5
  let main_c_0 : IVec S_ 32 := constantI S_ 32 4#32
  let main_v7 : IVec S1x16 32 := broadcastInDim S1x16 ![] bcast_S_S1x16 main_c_0
  let main_v8 : IVec S1x16 32 := addi main_v3 main_v7
  let main_v9 : IVec S1024x16 32 := broadcastInDim S1024x16 ![0, 1] bcast_S1024x1_S1024x16_0_1 main_arg2
  let main_v10 : IVec S1024x16 32 := broadcastInDim S1024x16 ![0, 1] bcast_S1x16_S1024x16_0_1 main_v8
  let main_v11 : IVec S1024x16 1 := cmpi .slt main_v9 main_v10
  let main_v12 : IVec S1024x16 1 := andi main_v6 main_v11
  let main_v13 : IVec S1024x16 32 := (extui 32 · natLt_1_32) main_v12
  let main_c_1 : IVec S_ 32 := constantI S_ 32 0#32
  let main_v14 : IVec S16 32 := (fun x v => Host.reduce IntOp.addi x v reducesTo_S1024x16_S16_d0 h_S_) main_v13 main_c_1
  let main_c_2 : IVec S_ 32 := constantI S_ 32 0#32
  let main_v15 : IVec S1024x1 32 := broadcastInDim S1024x1 ![] bcast_S_S1024x1 main_c_2
  let main_v16 : IVec S1024x1 1 := cmpi .sge main_arg2 main_v15
  let main_c_3 : IVec S_ 1 := constantI S_ 1 1#1
  let main_v17 : IVec S_ 1 := (fun x v => Host.reduce IntOp.andi x v reducesTo_S1024x1_S_d0_1 h_S_) main_v16 main_c_3
  let main_c_4 : IVec S_ 32 := constantI S_ 32 64#32
  fn_part1 (F := F) main_arg0 main_arg1 main_arg2 main_v14 main_v17 main_c_4
-- ==== Pre_routed_ReferenceIdeal.lean ====
abbrev S16384x512 : Shape := ⟨2, ![16384, 512]⟩
abbrev S512x64 : Shape := ⟨2, ![512, 64]⟩
abbrev S16384x1 : Shape := ⟨2, ![16384, 1]⟩
abbrev S64x512x1024 : Shape := ⟨3, ![64, 512, 1024]⟩
abbrev S512x1024 : Shape := ⟨2, ![512, 1024]⟩
abbrev S16 : Shape := ⟨1, ![16]⟩
abbrev S1x16 : Shape := ⟨2, ![1, 16]⟩
abbrev S_ : Shape := ⟨0, ![]⟩
abbrev S16384x16 : Shape := ⟨2, ![16384, 16]⟩

class Facts : Prop where
  bcast_S16_S1x16_1 : S16.BroadcastsInDim S1x16 (![1] : Fin 1 → Fin S1x16.rank)
  bcast_S_S1x16 : S_.BroadcastsInDim S1x16 (![] : Fin 0 → Fin S1x16.rank)
  bcast_S16384x1_S16384x16_0_1 : S16384x1.BroadcastsInDim S16384x16 (![0, 1] : Fin 2 → Fin S16384x16.rank)
  bcast_S1x16_S16384x16_0_1 : S1x16.BroadcastsInDim S16384x16 (![0, 1] : Fin 2 → Fin S16384x16.rank)
  natLt_1_32 : 1 < 32
  reducesTo_S16384x16_S16_d0 : S16384x16.ReducesTo [0] S16
  h_S_ : 0 < S_.numel
  bcast_S_S16384x1 : S_.BroadcastsInDim S16384x1 (![] : Fin 0 → Fin S16384x1.rank)
  reducesTo_S16384x1_S_d0_1 : S16384x1.ReducesTo [0, 1] S_
  bcast_S_S16 : S_.BroadcastsInDim S16 (![] : Fin 0 → Fin S16.rank)
  reducesTo_S16_S_d0 : S16.ReducesTo [0] S_
  bcast_S_S16384x512 : S_.BroadcastsInDim S16384x512 (![] : Fin 0 → Fin S16384x512.rank)
  reducesTo_S16384x512_S_d0_1 : S16384x512.ReducesTo [0, 1] S_
  bcast_S_S512x64 : S_.BroadcastsInDim S512x64 (![] : Fin 0 → Fin S512x64.rank)
  reducesTo_S512x64_S_d0_1 : S512x64.ReducesTo [0, 1] S_

variable [Facts]

def fn_part2 {F : FTy → Type} [FloatOps F] (main_v30 : IVec S_ 1) (main_v34 : IVec S_ 1) : IVec S_ 1 :=
  let main_v35 : IVec S_ 1 := andi main_v30 main_v34
  main_v35

def fn_part1 {F : FTy → Type} [FloatOps F] (main_arg0 : FVec F S16384x512 .f32) (main_arg1 : FVec F S512x64 .f32) (main_arg2 : IVec S16384x1 32) (main_v14 : IVec S16 32) (main_v17 : IVec S_ 1) (main_c_4 : IVec S_ 32) : IVec S_ 1 :=
  let main_v18 : IVec S16384x1 32 := broadcastInDim S16384x1 ![] bcast_S_S16384x1 main_c_4
  let main_v19 : IVec S16384x1 1 := cmpi .slt main_arg2 main_v18
  let main_c_5 : IVec S_ 1 := constantI S_ 1 1#1
  let main_v20 : IVec S_ 1 := (fun x v => Host.reduce IntOp.andi x v reducesTo_S16384x1_S_d0_1 h_S_) main_v19 main_c_5
  let main_v21 : IVec S_ 1 := andi main_v17 main_v20
  let main_c_6 : IVec S_ 32 := constantI S_ 32 112#32
  let main_v22 : IVec S16 32 := broadcastInDim S16 ![] bcast_S_S16 main_c_6
  let main_v23 : IVec S16 1 := cmpi .sle main_v14 main_v22
  let main_c_7 : IVec S_ 1 := constantI S_ 1 1#1
  let main_v24 : IVec S_ 1 := (fun x v => Host.reduce IntOp.andi x v reducesTo_S16_S_d0 h_S_) main_v23 main_c_7
  let main_v25 : IVec S_ 1 := andi main_v21 main_v24
  let main_v26 : FVec F S16384x512 .f32 := Host.absf main_arg0
  let main_cst : FVec F S_ .f32 := constant S_ .f32 0x7F800000#32
  let main_v27 : FVec F S16384x512 .f32 := broadcastInDim S16384x512 ![] bcast_S_S16384x512 main_cst
  let main_v28 : IVec S16384x512 1 := cmpf .olt main_v26 main_v27
  let main_c_8 : IVec S_ 1 := constantI S_ 1 1#1
  let main_v29 : IVec S_ 1 := (fun x v => Host.reduce IntOp.andi x v reducesTo_S16384x512_S_d0_1 h_S_) main_v28 main_c_8
  let main_v30 : IVec S_ 1 := andi main_v25 main_v29
  let main_v31 : FVec F S512x64 .f32 := Host.absf main_arg1
  let main_cst_9 : FVec F S_ .f32 := constant S_ .f32 0x7F800000#32
  let main_v32 : FVec F S512x64 .f32 := broadcastInDim S512x64 ![] bcast_S_S512x64 main_cst_9
  let main_v33 : IVec S512x64 1 := cmpf .olt main_v31 main_v32
  let main_c_10 : IVec S_ 1 := constantI S_ 1 1#1
  let main_v34 : IVec S_ 1 := (fun x v => Host.reduce IntOp.andi x v reducesTo_S512x64_S_d0_1 h_S_) main_v33 main_c_10
  fn_part2 (F := F) main_v30 main_v34

def fn {F : FTy → Type} [FloatOps F] (main_arg0 : FVec F S16384x512 .f32) (main_arg1 : FVec F S512x64 .f32) (main_arg2 : IVec S16384x1 32) (main_arg3 : FVec F S64x512x1024 .f32) (main_arg4 : FVec F S512x1024 .f32) : IVec S_ 1 :=
  let main_v0 : IVec S16 32 := iotaInDim S16 32 0
  let main_v1 : IVec S1x16 32 := broadcastInDim S1x16 ![1] bcast_S16_S1x16_1 main_v0
  let main_c : IVec S_ 32 := constantI S_ 32 4#32
  let main_v2 : IVec S1x16 32 := broadcastInDim S1x16 ![] bcast_S_S1x16 main_c
  let main_v3 : IVec S1x16 32 := muli main_v2 main_v1
  let main_v4 : IVec S16384x16 32 := broadcastInDim S16384x16 ![0, 1] bcast_S16384x1_S16384x16_0_1 main_arg2
  let main_v5 : IVec S16384x16 32 := broadcastInDim S16384x16 ![0, 1] bcast_S1x16_S16384x16_0_1 main_v3
  let main_v6 : IVec S16384x16 1 := cmpi .sge main_v4 main_v5
  let main_c_0 : IVec S_ 32 := constantI S_ 32 4#32
  let main_v7 : IVec S1x16 32 := broadcastInDim S1x16 ![] bcast_S_S1x16 main_c_0
  let main_v8 : IVec S1x16 32 := addi main_v3 main_v7
  let main_v9 : IVec S16384x16 32 := broadcastInDim S16384x16 ![0, 1] bcast_S16384x1_S16384x16_0_1 main_arg2
  let main_v10 : IVec S16384x16 32 := broadcastInDim S16384x16 ![0, 1] bcast_S1x16_S16384x16_0_1 main_v8
  let main_v11 : IVec S16384x16 1 := cmpi .slt main_v9 main_v10
  let main_v12 : IVec S16384x16 1 := andi main_v6 main_v11
  let main_v13 : IVec S16384x16 32 := (extui 32 · natLt_1_32) main_v12
  let main_c_1 : IVec S_ 32 := constantI S_ 32 0#32
  let main_v14 : IVec S16 32 := (fun x v => Host.reduce IntOp.addi x v reducesTo_S16384x16_S16_d0 h_S_) main_v13 main_c_1
  let main_c_2 : IVec S_ 32 := constantI S_ 32 0#32
  let main_v15 : IVec S16384x1 32 := broadcastInDim S16384x1 ![] bcast_S_S16384x1 main_c_2
  let main_v16 : IVec S16384x1 1 := cmpi .sge main_arg2 main_v15
  let main_c_3 : IVec S_ 1 := constantI S_ 1 1#1
  let main_v17 : IVec S_ 1 := (fun x v => Host.reduce IntOp.andi x v reducesTo_S16384x1_S_d0_1 h_S_) main_v16 main_c_3
  let main_c_4 : IVec S_ 32 := constantI S_ 32 64#32
  fn_part1 (F := F) main_arg0 main_arg1 main_arg2 main_v14 main_v17 main_c_4
-- ==== Kernel.lean ====
abbrev S1024x512 : Shape := ⟨2, ![1024, 512]⟩
abbrev S512x64 : Shape := ⟨2, ![512, 64]⟩
abbrev S1024x1 : Shape := ⟨2, ![1024, 1]⟩
abbrev S4x512x1024 : Shape := ⟨3, ![4, 512, 1024]⟩
abbrev S512x1024 : Shape := ⟨2, ![512, 1024]⟩
abbrev S_ : Shape := ⟨0, ![]⟩
abbrev S1024x1024 : Shape := ⟨2, ![1024, 1024]⟩
abbrev S16x112x512 : Shape := ⟨3, ![16, 112, 512]⟩
abbrev S16x112x1 : Shape := ⟨3, ![16, 112, 1]⟩
abbrev S16x112x1024 : Shape := ⟨3, ![16, 112, 1024]⟩
abbrev S16 : Shape := ⟨1, ![16]⟩
abbrev S1024x64 : Shape := ⟨2, ![1024, 64]⟩
abbrev S1024x16 : Shape := ⟨2, ![1024, 16]⟩
abbrev S1024 : Shape := ⟨1, ![1024]⟩
abbrev S1024x112 : Shape := ⟨2, ![1024, 112]⟩
abbrev S112x512 : Shape := ⟨2, ![112, 512]⟩
abbrev S1x112x512 : Shape := ⟨3, ![1, 112, 512]⟩
abbrev S112x1 : Shape := ⟨2, ![112, 1]⟩
abbrev S1x112x1 : Shape := ⟨3, ![1, 112, 1]⟩
abbrev S1 : Shape := ⟨1, ![1]⟩
abbrev S1024x1792 : Shape := ⟨2, ![1024, 1792]⟩
abbrev S112x1024 : Shape := ⟨2, ![112, 1024]⟩
abbrev S1x512x1024 : Shape := ⟨3, ![1, 512, 1024]⟩
abbrev S1x112x1024 : Shape := ⟨3, ![1, 112, 1024]⟩
abbrev S8x112x1024 : Shape := ⟨3, ![8, 112, 1024]⟩
abbrev S896x1024 : Shape := ⟨2, ![896, 1024]⟩
abbrev S1024x896 : Shape := ⟨2, ![1024, 896]⟩

abbrev nBuf : Space → Nat
  | .hbm => 18
  | .vmem => 13
  | .smem => 0
  | _ => 0

abbrev bufTy : (tb : Table) → Fin (tcTables nBuf tb) → BufTy
  | .hbm, ⟨0, _⟩ => ⟨S1024x512, .f32⟩
  | .hbm, ⟨1, _⟩ => ⟨S512x64, .f32⟩
  | .hbm, ⟨2, _⟩ => ⟨S1024x1, .i32⟩
  | .hbm, ⟨3, _⟩ => ⟨S4x512x1024, .f32⟩
  | .hbm, ⟨4, _⟩ => ⟨S512x1024, .f32⟩
  | .hbm, ⟨5, _⟩ => ⟨S4x512x1024, .bf16⟩
  | .hbm, ⟨6, _⟩ => ⟨S_, .bf16⟩
  | .hbm, ⟨7, _⟩ => ⟨S1024x1024, .bf16⟩
  | .hbm, ⟨8, _⟩ => ⟨S1024x1024, .i32⟩
  | .hbm, ⟨9, _⟩ => ⟨S_, .i32⟩
  | .hbm, ⟨10, _⟩ => ⟨S1024x1024, .i32⟩
  | .hbm, ⟨11, _⟩ => ⟨S1024x1024, .i32⟩
  | .hbm, ⟨12, _⟩ => ⟨S1024x1024, .i32⟩
  | .hbm, ⟨13, _⟩ => ⟨S1024x1024, .i1⟩
  | .hbm, ⟨14, _⟩ => ⟨S_, .bf16⟩
  | .hbm, ⟨15, _⟩ => ⟨S1024x1024, .bf16⟩
  | .hbm, ⟨16, _⟩ => ⟨S1024x1024, .bf16⟩
  | .hbm, ⟨17, _⟩ => ⟨S1024x1024, .f32⟩
  | .local _ .vmem, ⟨0, _⟩ => ⟨S1024x1, .i32⟩
  | .local _ .vmem, ⟨1, _⟩ => ⟨S1024x512, .f32⟩
  | .local _ .vmem, ⟨2, _⟩ => ⟨S512x64, .f32⟩
  | .local _ .vmem, ⟨3, _⟩ => ⟨S512x1024, .f32⟩
  | .local _ .vmem, ⟨4, _⟩ => ⟨S4x512x1024, .bf16⟩
  | .local _ .vmem, ⟨5, _⟩ => ⟨S1024x1024, .bf16⟩
  | .local _ .vmem, ⟨6, _⟩ => ⟨S1024x1024, .f32⟩
  | .local _ .vmem, ⟨7, _⟩ => ⟨S16x112x512, .bf16⟩
  | .local _ .vmem, ⟨8, _⟩ => ⟨S16x112x1, .bf16⟩
  | .local _ .vmem, ⟨9, _⟩ => ⟨S16x112x512, .bf16⟩
  | .local _ .vmem, ⟨10, _⟩ => ⟨S16x112x1, .bf16⟩
  | .local _ .vmem, ⟨11, _⟩ => ⟨S16x112x1024, .bf16⟩
  | .local _ .vmem, ⟨12, _⟩ => ⟨S16x112x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 103 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | _ => false

abbrev sig : RefSig :=
  (ofTc nBuf bufTy 1 103 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_1686 : BitVec 32 := 0#32
  let c0_i32_1684 : BitVec 32 := 0#32
  let c1_i32_1685 : BitVec 32 := 1#32
  let v2160 : BitVec 32 := Scalar.muli c0_i32_1684 c1_i32_1685
  let v2161 : BitVec 32 := Scalar.addi c0_i32_1686 v2160
  v2161.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_1686 : BitVec 32 := 0#32
  let c1_i32_1684 : BitVec 32 := 1#32
  let c1_i32_1685 : BitVec 32 := 1#32
  let v2160 : BitVec 32 := Scalar.muli c1_i32_1684 c1_i32_1685
  let v2161 : BitVec 32 := Scalar.addi c0_i32_1686 v2160
  v2161.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_1686 : BitVec 32 := 0#32
  let c2_i32_1684 : BitVec 32 := 2#32
  let c1_i32_1685 : BitVec 32 := 1#32
  let v2160 : BitVec 32 := Scalar.muli c2_i32_1684 c1_i32_1685
  let v2161 : BitVec 32 := Scalar.addi c0_i32_1686 v2160
  v2161.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_1686 : BitVec 32 := 0#32
  let c3_i32_1684 : BitVec 32 := 3#32
  let c1_i32_1685 : BitVec 32 := 1#32
  let v2160 : BitVec 32 := Scalar.muli c3_i32_1684 c1_i32_1685
  let v2161 : BitVec 32 := Scalar.addi c0_i32_1686 v2160
  v2161.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_1686 : BitVec 32 := 0#32
  let c4_i32_1684 : BitVec 32 := 4#32
  let c1_i32_1685 : BitVec 32 := 1#32
  let v2160 : BitVec 32 := Scalar.muli c4_i32_1684 c1_i32_1685
  let v2161 : BitVec 32 := Scalar.addi c0_i32_1686 v2160
  v2161.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_1686 : BitVec 32 := 0#32
  let c5_i32_1684 : BitVec 32 := 5#32
  let c1_i32_1685 : BitVec 32 := 1#32
  let v2160 : BitVec 32 := Scalar.muli c5_i32_1684 c1_i32_1685
  let v2161 : BitVec 32 := Scalar.addi c0_i32_1686 v2160
  v2161.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_1686 : BitVec 32 := 0#32
  let c6_i32_1684 : BitVec 32 := 6#32
  let c1_i32_1685 : BitVec 32 := 1#32
  let v2160 : BitVec 32 := Scalar.muli c6_i32_1684 c1_i32_1685
  let v2161 : BitVec 32 := Scalar.addi c0_i32_1686 v2160
  v2161.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_1686 : BitVec 32 := 0#32
  let c7_i32_1684 : BitVec 32 := 7#32
  let c1_i32_1685 : BitVec 32 := 1#32
  let v2160 : BitVec 32 := Scalar.muli c7_i32_1684 c1_i32_1685
  let v2161 : BitVec 32 := Scalar.addi c0_i32_1686 v2160
  v2161.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_1686 : BitVec 32 := 0#32
  let c8_i32_1684 : BitVec 32 := 8#32
  let c1_i32_1685 : BitVec 32 := 1#32
  let v2160 : BitVec 32 := Scalar.muli c8_i32_1684 c1_i32_1685
  let v2161 : BitVec 32 := Scalar.addi c0_i32_1686 v2160
  v2161.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_1686 : BitVec 32 := 0#32
  let c9_i32_1684 : BitVec 32 := 9#32
  let c1_i32_1685 : BitVec 32 := 1#32
  let v2160 : BitVec 32 := Scalar.muli c9_i32_1684 c1_i32_1685
  let v2161 : BitVec 32 := Scalar.addi c0_i32_1686 v2160
  v2161.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_1686 : BitVec 32 := 0#32
  let c10_i32_1684 : BitVec 32 := 10#32
  let c1_i32_1685 : BitVec 32 := 1#32
  let v2160 : BitVec 32 := Scalar.muli c10_i32_1684 c1_i32_1685
  let v2161 : BitVec 32 := Scalar.addi c0_i32_1686 v2160
  v2161.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_1686 : BitVec 32 := 0#32
  let c11_i32_1684 : BitVec 32 := 11#32
  let c1_i32_1685 : BitVec 32 := 1#32
  let v2160 : BitVec 32 := Scalar.muli c11_i32_1684 c1_i32_1685
  let v2161 : BitVec 32 := Scalar.addi c0_i32_1686 v2160
  v2161.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_1686 : BitVec 32 := 0#32
  let c12_i32_1684 : BitVec 32 := 12#32
  let c1_i32_1685 : BitVec 32 := 1#32
  let v2160 : BitVec 32 := Scalar.muli c12_i32_1684 c1_i32_1685
  let v2161 : BitVec 32 := Scalar.addi c0_i32_1686 v2160
  v2161.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_1686 : BitVec 32 := 0#32
  let c13_i32_1684 : BitVec 32 := 13#32
  let c1_i32_1685 : BitVec 32 := 1#32
  let v2160 : BitVec 32 := Scalar.muli c13_i32_1684 c1_i32_1685
  let v2161 : BitVec 32 := Scalar.addi c0_i32_1686 v2160
  v2161.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_1686 : BitVec 32 := 0#32
  let c14_i32_1684 : BitVec 32 := 14#32
  let c1_i32_1685 : BitVec 32 := 1#32
  let v2160 : BitVec 32 := Scalar.muli c14_i32_1684 c1_i32_1685
  let v2161 : BitVec 32 := Scalar.addi c0_i32_1686 v2160
  v2161.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_1686 : BitVec 32 := 0#32
  let c15_i32_1684 : BitVec 32 := 15#32
  let c1_i32_1685 : BitVec 32 := 1#32
  let v2160 : BitVec 32 := Scalar.muli c15_i32_1684 c1_i32_1685
  let v2161 : BitVec 32 := Scalar.addi c0_i32_1686 v2160
  v2161.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_50 : BitVec 32 := 0#32
  let v148 : BitVec 1 := Scalar.cmpi .ne v2 c0_i32_50
  let v149 : BitVec 32 := Scalar.extui v148
  let c0_i32_51 : BitVec 32 := 0#32
  let v150 : BitVec 1 := Scalar.cmpi .ne v149 c0_i32_51
  v150

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev17 : Nat :=
  let c0_i32_1687 : BitVec 32 := 0#32
  let c0_i32_1685 : BitVec 32 := 0#32
  let c1_i32_1686 : BitVec 32 := 1#32
  let v2160 : BitVec 32 := Scalar.muli c0_i32_1685 c1_i32_1686
  let v2161 : BitVec 32 := Scalar.addi c0_i32_1687 v2160
  v2161.toNat
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1697 : BitVec 32 := 0#32
  let c0_i32_1698 : BitVec 32 := 0#32
  ![v2.toNat, 0, 0]
def k0_dev18 : Nat :=
  let c0_i32_1696 : BitVec 32 := 0#32
  let c0_i32_1694 : BitVec 32 := 0#32
  let c1_i32_1695 : BitVec 32 := 1#32
  let v2170 : BitVec 32 := Scalar.muli c0_i32_1694 c1_i32_1695
  let v2171 : BitVec 32 := Scalar.addi c0_i32_1696 v2170
  v2171.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_62 : BitVec 32 := 1#32
  let v172 : BitVec 1 := Scalar.cmpi .ne v2 c1_i32_62
  let v173 : BitVec 32 := Scalar.extui v172
  let c0_i32_63 : BitVec 32 := 0#32
  let v174 : BitVec 1 := Scalar.cmpi .ne v173 c0_i32_63
  v174

def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev19 : Nat :=
  let c0_i32_1687 : BitVec 32 := 0#32
  let c1_i32_1685 : BitVec 32 := 1#32
  let c1_i32_1686 : BitVec 32 := 1#32
  let v2160 : BitVec 32 := Scalar.muli c1_i32_1685 c1_i32_1686
  let v2161 : BitVec 32 := Scalar.addi c0_i32_1687 v2160
  v2161.toNat
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1697 : BitVec 32 := 0#32
  let c0_i32_1698 : BitVec 32 := 0#32
  ![v2.toNat, 0, 0]
def k0_dev20 : Nat :=
  let c0_i32_1696 : BitVec 32 := 0#32
  let c1_i32_1694 : BitVec 32 := 1#32
  let c1_i32_1695 : BitVec 32 := 1#32
  let v2170 : BitVec 32 := Scalar.muli c1_i32_1694 c1_i32_1695
  let v2171 : BitVec 32 := Scalar.addi c0_i32_1696 v2170
  v2171.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_73 : BitVec 32 := 2#32
  let v196 : BitVec 1 := Scalar.cmpi .ne v2 c2_i32_73
  let v197 : BitVec 32 := Scalar.extui v196
  let c0_i32_74 : BitVec 32 := 0#32
  let v198 : BitVec 1 := Scalar.cmpi .ne v197 c0_i32_74
  v198

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev21 : Nat :=
  let c0_i32_1687 : BitVec 32 := 0#32
  let c2_i32_1685 : BitVec 32 := 2#32
  let c1_i32_1686 : BitVec 32 := 1#32
  let v2160 : BitVec 32 := Scalar.muli c2_i32_1685 c1_i32_1686
  let v2161 : BitVec 32 := Scalar.addi c0_i32_1687 v2160
  v2161.toNat
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1697 : BitVec 32 := 0#32
  let c0_i32_1698 : BitVec 32 := 0#32
  ![v2.toNat, 0, 0]
def k0_dev22 : Nat :=
  let c0_i32_1696 : BitVec 32 := 0#32
  let c2_i32_1694 : BitVec 32 := 2#32
  let c1_i32_1695 : BitVec 32 := 1#32
  let v2170 : BitVec 32 := Scalar.muli c2_i32_1694 c1_i32_1695
  let v2171 : BitVec 32 := Scalar.addi c0_i32_1696 v2170
  v2171.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_84 : BitVec 32 := 3#32
  let v220 : BitVec 1 := Scalar.cmpi .ne v2 c3_i32_84
  let v221 : BitVec 32 := Scalar.extui v220
  let c0_i32_85 : BitVec 32 := 0#32
  let v222 : BitVec 1 := Scalar.cmpi .ne v221 c0_i32_85
  v222

def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev23 : Nat :=
  let c0_i32_1687 : BitVec 32 := 0#32
  let c3_i32_1685 : BitVec 32 := 3#32
  let c1_i32_1686 : BitVec 32 := 1#32
  let v2160 : BitVec 32 := Scalar.muli c3_i32_1685 c1_i32_1686
  let v2161 : BitVec 32 := Scalar.addi c0_i32_1687 v2160
  v2161.toNat
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1697 : BitVec 32 := 0#32
  let c0_i32_1698 : BitVec 32 := 0#32
  ![v2.toNat, 0, 0]
def k0_dev24 : Nat :=
  let c0_i32_1696 : BitVec 32 := 0#32
  let c3_i32_1694 : BitVec 32 := 3#32
  let c1_i32_1695 : BitVec 32 := 1#32
  let v2170 : BitVec 32 := Scalar.muli c3_i32_1694 c1_i32_1695
  let v2171 : BitVec 32 := Scalar.addi c0_i32_1696 v2170
  v2171.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_95 : BitVec 32 := 4#32
  let v244 : BitVec 1 := Scalar.cmpi .ne v2 c4_i32_95
  let v245 : BitVec 32 := Scalar.extui v244
  let c0_i32_96 : BitVec 32 := 0#32
  let v246 : BitVec 1 := Scalar.cmpi .ne v245 c0_i32_96
  v246

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev25 : Nat :=
  let c0_i32_1687 : BitVec 32 := 0#32
  let c4_i32_1685 : BitVec 32 := 4#32
  let c1_i32_1686 : BitVec 32 := 1#32
  let v2160 : BitVec 32 := Scalar.muli c4_i32_1685 c1_i32_1686
  let v2161 : BitVec 32 := Scalar.addi c0_i32_1687 v2160
  v2161.toNat
def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1697 : BitVec 32 := 0#32
  let c0_i32_1698 : BitVec 32 := 0#32
  ![v2.toNat, 0, 0]
def k0_dev26 : Nat :=
  let c0_i32_1696 : BitVec 32 := 0#32
  let c4_i32_1694 : BitVec 32 := 4#32
  let c1_i32_1695 : BitVec 32 := 1#32
  let v2170 : BitVec 32 := Scalar.muli c4_i32_1694 c1_i32_1695
  let v2171 : BitVec 32 := Scalar.addi c0_i32_1696 v2170
  v2171.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_106 : BitVec 32 := 5#32
  let v268 : BitVec 1 := Scalar.cmpi .ne v2 c5_i32_106
  let v269 : BitVec 32 := Scalar.extui v268
  let c0_i32_107 : BitVec 32 := 0#32
  let v270 : BitVec 1 := Scalar.cmpi .ne v269 c0_i32_107
  v270

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev27 : Nat :=
  let c0_i32_1687 : BitVec 32 := 0#32
  let c5_i32_1685 : BitVec 32 := 5#32
  let c1_i32_1686 : BitVec 32 := 1#32
  let v2160 : BitVec 32 := Scalar.muli c5_i32_1685 c1_i32_1686
  let v2161 : BitVec 32 := Scalar.addi c0_i32_1687 v2160
  v2161.toNat
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1697 : BitVec 32 := 0#32
  let c0_i32_1698 : BitVec 32 := 0#32
  ![v2.toNat, 0, 0]
def k0_dev28 : Nat :=
  let c0_i32_1696 : BitVec 32 := 0#32
  let c5_i32_1694 : BitVec 32 := 5#32
  let c1_i32_1695 : BitVec 32 := 1#32
  let v2170 : BitVec 32 := Scalar.muli c5_i32_1694 c1_i32_1695
  let v2171 : BitVec 32 := Scalar.addi c0_i32_1696 v2170
  v2171.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_117 : BitVec 32 := 6#32
  let v292 : BitVec 1 := Scalar.cmpi .ne v2 c6_i32_117
  let v293 : BitVec 32 := Scalar.extui v292
  let c0_i32_118 : BitVec 32 := 0#32
  let v294 : BitVec 1 := Scalar.cmpi .ne v293 c0_i32_118
  v294

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev29 : Nat :=
  let c0_i32_1687 : BitVec 32 := 0#32
  let c6_i32_1685 : BitVec 32 := 6#32
  let c1_i32_1686 : BitVec 32 := 1#32
  let v2160 : BitVec 32 := Scalar.muli c6_i32_1685 c1_i32_1686
  let v2161 : BitVec 32 := Scalar.addi c0_i32_1687 v2160
  v2161.toNat
def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1697 : BitVec 32 := 0#32
  let c0_i32_1698 : BitVec 32 := 0#32
  ![v2.toNat, 0, 0]
def k0_dev30 : Nat :=
  let c0_i32_1696 : BitVec 32 := 0#32
  let c6_i32_1694 : BitVec 32 := 6#32
  let c1_i32_1695 : BitVec 32 := 1#32
  let v2170 : BitVec 32 := Scalar.muli c6_i32_1694 c1_i32_1695
  let v2171 : BitVec 32 := Scalar.addi c0_i32_1696 v2170
  v2171.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_128 : BitVec 32 := 7#32
  let v316 : BitVec 1 := Scalar.cmpi .ne v2 c7_i32_128
  let v317 : BitVec 32 := Scalar.extui v316
  let c0_i32_129 : BitVec 32 := 0#32
  let v318 : BitVec 1 := Scalar.cmpi .ne v317 c0_i32_129
  v318

def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev31 : Nat :=
  let c0_i32_1687 : BitVec 32 := 0#32
  let c7_i32_1685 : BitVec 32 := 7#32
  let c1_i32_1686 : BitVec 32 := 1#32
  let v2160 : BitVec 32 := Scalar.muli c7_i32_1685 c1_i32_1686
  let v2161 : BitVec 32 := Scalar.addi c0_i32_1687 v2160
  v2161.toNat
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1697 : BitVec 32 := 0#32
  let c0_i32_1698 : BitVec 32 := 0#32
  ![v2.toNat, 0, 0]
def k0_dev32 : Nat :=
  let c0_i32_1696 : BitVec 32 := 0#32
  let c7_i32_1694 : BitVec 32 := 7#32
  let c1_i32_1695 : BitVec 32 := 1#32
  let v2170 : BitVec 32 := Scalar.muli c7_i32_1694 c1_i32_1695
  let v2171 : BitVec 32 := Scalar.addi c0_i32_1696 v2170
  v2171.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_139 : BitVec 32 := 8#32
  let v340 : BitVec 1 := Scalar.cmpi .ne v2 c8_i32_139
  let v341 : BitVec 32 := Scalar.extui v340
  let c0_i32_140 : BitVec 32 := 0#32
  let v342 : BitVec 1 := Scalar.cmpi .ne v341 c0_i32_140
  v342

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev33 : Nat :=
  let c0_i32_1687 : BitVec 32 := 0#32
  let c8_i32_1685 : BitVec 32 := 8#32
  let c1_i32_1686 : BitVec 32 := 1#32
  let v2160 : BitVec 32 := Scalar.muli c8_i32_1685 c1_i32_1686
  let v2161 : BitVec 32 := Scalar.addi c0_i32_1687 v2160
  v2161.toNat
def k0_off27 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1697 : BitVec 32 := 0#32
  let c0_i32_1698 : BitVec 32 := 0#32
  ![v2.toNat, 0, 0]
def k0_dev34 : Nat :=
  let c0_i32_1696 : BitVec 32 := 0#32
  let c8_i32_1694 : BitVec 32 := 8#32
  let c1_i32_1695 : BitVec 32 := 1#32
  let v2170 : BitVec 32 := Scalar.muli c8_i32_1694 c1_i32_1695
  let v2171 : BitVec 32 := Scalar.addi c0_i32_1696 v2170
  v2171.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_150 : BitVec 32 := 9#32
  let v364 : BitVec 1 := Scalar.cmpi .ne v2 c9_i32_150
  let v365 : BitVec 32 := Scalar.extui v364
  let c0_i32_151 : BitVec 32 := 0#32
  let v366 : BitVec 1 := Scalar.cmpi .ne v365 c0_i32_151
  v366

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev35 : Nat :=
  let c0_i32_1687 : BitVec 32 := 0#32
  let c9_i32_1685 : BitVec 32 := 9#32
  let c1_i32_1686 : BitVec 32 := 1#32
  let v2160 : BitVec 32 := Scalar.muli c9_i32_1685 c1_i32_1686
  let v2161 : BitVec 32 := Scalar.addi c0_i32_1687 v2160
  v2161.toNat
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1697 : BitVec 32 := 0#32
  let c0_i32_1698 : BitVec 32 := 0#32
  ![v2.toNat, 0, 0]
def k0_dev36 : Nat :=
  let c0_i32_1696 : BitVec 32 := 0#32
  let c9_i32_1694 : BitVec 32 := 9#32
  let c1_i32_1695 : BitVec 32 := 1#32
  let v2170 : BitVec 32 := Scalar.muli c9_i32_1694 c1_i32_1695
  let v2171 : BitVec 32 := Scalar.addi c0_i32_1696 v2170
  v2171.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_161 : BitVec 32 := 10#32
  let v388 : BitVec 1 := Scalar.cmpi .ne v2 c10_i32_161
  let v389 : BitVec 32 := Scalar.extui v388
  let c0_i32_162 : BitVec 32 := 0#32
  let v390 : BitVec 1 := Scalar.cmpi .ne v389 c0_i32_162
  v390

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev37 : Nat :=
  let c0_i32_1687 : BitVec 32 := 0#32
  let c10_i32_1685 : BitVec 32 := 10#32
  let c1_i32_1686 : BitVec 32 := 1#32
  let v2160 : BitVec 32 := Scalar.muli c10_i32_1685 c1_i32_1686
  let v2161 : BitVec 32 := Scalar.addi c0_i32_1687 v2160
  v2161.toNat
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1697 : BitVec 32 := 0#32
  let c0_i32_1698 : BitVec 32 := 0#32
  ![v2.toNat, 0, 0]
def k0_dev38 : Nat :=
  let c0_i32_1696 : BitVec 32 := 0#32
  let c10_i32_1694 : BitVec 32 := 10#32
  let c1_i32_1695 : BitVec 32 := 1#32
  let v2170 : BitVec 32 := Scalar.muli c10_i32_1694 c1_i32_1695
  let v2171 : BitVec 32 := Scalar.addi c0_i32_1696 v2170
  v2171.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_172 : BitVec 32 := 11#32
  let v412 : BitVec 1 := Scalar.cmpi .ne v2 c11_i32_172
  let v413 : BitVec 32 := Scalar.extui v412
  let c0_i32_173 : BitVec 32 := 0#32
  let v414 : BitVec 1 := Scalar.cmpi .ne v413 c0_i32_173
  v414

def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev39 : Nat :=
  let c0_i32_1687 : BitVec 32 := 0#32
  let c11_i32_1685 : BitVec 32 := 11#32
  let c1_i32_1686 : BitVec 32 := 1#32
  let v2160 : BitVec 32 := Scalar.muli c11_i32_1685 c1_i32_1686
  let v2161 : BitVec 32 := Scalar.addi c0_i32_1687 v2160
  v2161.toNat
def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1697 : BitVec 32 := 0#32
  let c0_i32_1698 : BitVec 32 := 0#32
  ![v2.toNat, 0, 0]
def k0_dev40 : Nat :=
  let c0_i32_1696 : BitVec 32 := 0#32
  let c11_i32_1694 : BitVec 32 := 11#32
  let c1_i32_1695 : BitVec 32 := 1#32
  let v2170 : BitVec 32 := Scalar.muli c11_i32_1694 c1_i32_1695
  let v2171 : BitVec 32 := Scalar.addi c0_i32_1696 v2170
  v2171.toNat
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_183 : BitVec 32 := 12#32
  let v436 : BitVec 1 := Scalar.cmpi .ne v2 c12_i32_183
  let v437 : BitVec 32 := Scalar.extui v436
  let c0_i32_184 : BitVec 32 := 0#32
  let v438 : BitVec 1 := Scalar.cmpi .ne v437 c0_i32_184
  v438

def k0_off37 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev41 : Nat :=
  let c0_i32_1687 : BitVec 32 := 0#32
  let c12_i32_1685 : BitVec 32 := 12#32
  let c1_i32_1686 : BitVec 32 := 1#32
  let v2160 : BitVec 32 := Scalar.muli c12_i32_1685 c1_i32_1686
  let v2161 : BitVec 32 := Scalar.addi c0_i32_1687 v2160
  v2161.toNat
def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1697 : BitVec 32 := 0#32
  let c0_i32_1698 : BitVec 32 := 0#32
  ![v2.toNat, 0, 0]
def k0_dev42 : Nat :=
  let c0_i32_1696 : BitVec 32 := 0#32
  let c12_i32_1694 : BitVec 32 := 12#32
  let c1_i32_1695 : BitVec 32 := 1#32
  let v2170 : BitVec 32 := Scalar.muli c12_i32_1694 c1_i32_1695
  let v2171 : BitVec 32 := Scalar.addi c0_i32_1696 v2170
  v2171.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_194 : BitVec 32 := 13#32
  let v460 : BitVec 1 := Scalar.cmpi .ne v2 c13_i32_194
  let v461 : BitVec 32 := Scalar.extui v460
  let c0_i32_195 : BitVec 32 := 0#32
  let v462 : BitVec 1 := Scalar.cmpi .ne v461 c0_i32_195
  v462

def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev43 : Nat :=
  let c0_i32_1687 : BitVec 32 := 0#32
  let c13_i32_1685 : BitVec 32 := 13#32
  let c1_i32_1686 : BitVec 32 := 1#32
  let v2160 : BitVec 32 := Scalar.muli c13_i32_1685 c1_i32_1686
  let v2161 : BitVec 32 := Scalar.addi c0_i32_1687 v2160
  v2161.toNat
def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1697 : BitVec 32 := 0#32
  let c0_i32_1698 : BitVec 32 := 0#32
  ![v2.toNat, 0, 0]
def k0_dev44 : Nat :=
  let c0_i32_1696 : BitVec 32 := 0#32
  let c13_i32_1694 : BitVec 32 := 13#32
  let c1_i32_1695 : BitVec 32 := 1#32
  let v2170 : BitVec 32 := Scalar.muli c13_i32_1694 c1_i32_1695
  let v2171 : BitVec 32 := Scalar.addi c0_i32_1696 v2170
  v2171.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_205 : BitVec 32 := 14#32
  let v484 : BitVec 1 := Scalar.cmpi .ne v2 c14_i32_205
  let v485 : BitVec 32 := Scalar.extui v484
  let c0_i32_206 : BitVec 32 := 0#32
  let v486 : BitVec 1 := Scalar.cmpi .ne v485 c0_i32_206
  v486

def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev45 : Nat :=
  let c0_i32_1687 : BitVec 32 := 0#32
  let c14_i32_1685 : BitVec 32 := 14#32
  let c1_i32_1686 : BitVec 32 := 1#32
  let v2160 : BitVec 32 := Scalar.muli c14_i32_1685 c1_i32_1686
  let v2161 : BitVec 32 := Scalar.addi c0_i32_1687 v2160
  v2161.toNat
def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1697 : BitVec 32 := 0#32
  let c0_i32_1698 : BitVec 32 := 0#32
  ![v2.toNat, 0, 0]
def k0_dev46 : Nat :=
  let c0_i32_1696 : BitVec 32 := 0#32
  let c14_i32_1694 : BitVec 32 := 14#32
  let c1_i32_1695 : BitVec 32 := 1#32
  let v2170 : BitVec 32 := Scalar.muli c14_i32_1694 c1_i32_1695
  let v2171 : BitVec 32 := Scalar.addi c0_i32_1696 v2170
  v2171.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_216 : BitVec 32 := 15#32
  let v508 : BitVec 1 := Scalar.cmpi .ne v2 c15_i32_216
  let v509 : BitVec 32 := Scalar.extui v508
  let c0_i32_217 : BitVec 32 := 0#32
  let v510 : BitVec 1 := Scalar.cmpi .ne v509 c0_i32_217
  v510

def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev47 : Nat :=
  let c0_i32_1687 : BitVec 32 := 0#32
  let c15_i32_1685 : BitVec 32 := 15#32
  let c1_i32_1686 : BitVec 32 := 1#32
  let v2160 : BitVec 32 := Scalar.muli c15_i32_1685 c1_i32_1686
  let v2161 : BitVec 32 := Scalar.addi c0_i32_1687 v2160
  v2161.toNat
def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1697 : BitVec 32 := 0#32
  let c0_i32_1698 : BitVec 32 := 0#32
  ![v2.toNat, 0, 0]
def k0_dev48 : Nat :=
  let c0_i32_1696 : BitVec 32 := 0#32
  let c15_i32_1694 : BitVec 32 := 15#32
  let c1_i32_1695 : BitVec 32 := 1#32
  let v2170 : BitVec 32 := Scalar.muli c15_i32_1694 c1_i32_1695
  let v2171 : BitVec 32 := Scalar.addi c0_i32_1696 v2170
  v2171.toNat
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_300 : BitVec 32 := 0#32
  let v612 : BitVec 1 := Scalar.cmpi .ne v2 c0_i32_300
  let v613 : BitVec 32 := Scalar.extui v612
  let c0_i32_301 : BitVec 32 := 0#32
  let v614 : BitVec 1 := Scalar.cmpi .ne v613 c0_i32_301
  v614

def k0_off49 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev49 : Nat :=
  let c0_i32_1687 : BitVec 32 := 0#32
  let c0_i32_1685 : BitVec 32 := 0#32
  let c1_i32_1686 : BitVec 32 := 1#32
  let v2160 : BitVec 32 := Scalar.muli c0_i32_1685 c1_i32_1686
  let v2161 : BitVec 32 := Scalar.addi c0_i32_1687 v2160
  v2161.toNat
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_377 : BitVec 32 := 1#32
  let v702 : BitVec 1 := Scalar.cmpi .ne v2 c1_i32_377
  let v703 : BitVec 32 := Scalar.extui v702
  let c0_i32_378 : BitVec 32 := 0#32
  let v704 : BitVec 1 := Scalar.cmpi .ne v703 c0_i32_378
  v704

def k0_off51 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev50 : Nat :=
  let c0_i32_1687 : BitVec 32 := 0#32
  let c1_i32_1685 : BitVec 32 := 1#32
  let c1_i32_1686 : BitVec 32 := 1#32
  let v2160 : BitVec 32 := Scalar.muli c1_i32_1685 c1_i32_1686
  let v2161 : BitVec 32 := Scalar.addi c0_i32_1687 v2160
  v2161.toNat
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_454 : BitVec 32 := 2#32
  let v792 : BitVec 1 := Scalar.cmpi .ne v2 c2_i32_454
  let v793 : BitVec 32 := Scalar.extui v792
  let c0_i32_455 : BitVec 32 := 0#32
  let v794 : BitVec 1 := Scalar.cmpi .ne v793 c0_i32_455
  v794

def k0_off53 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev51 : Nat :=
  let c0_i32_1687 : BitVec 32 := 0#32
  let c2_i32_1685 : BitVec 32 := 2#32
  let c1_i32_1686 : BitVec 32 := 1#32
  let v2160 : BitVec 32 := Scalar.muli c2_i32_1685 c1_i32_1686
  let v2161 : BitVec 32 := Scalar.addi c0_i32_1687 v2160
  v2161.toNat
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_531 : BitVec 32 := 3#32
  let v882 : BitVec 1 := Scalar.cmpi .ne v2 c3_i32_531
  let v883 : BitVec 32 := Scalar.extui v882
  let c0_i32_532 : BitVec 32 := 0#32
  let v884 : BitVec 1 := Scalar.cmpi .ne v883 c0_i32_532
  v884

def k0_off55 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev52 : Nat :=
  let c0_i32_1687 : BitVec 32 := 0#32
  let c3_i32_1685 : BitVec 32 := 3#32
  let c1_i32_1686 : BitVec 32 := 1#32
  let v2160 : BitVec 32 := Scalar.muli c3_i32_1685 c1_i32_1686
  let v2161 : BitVec 32 := Scalar.addi c0_i32_1687 v2160
  v2161.toNat
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_608 : BitVec 32 := 4#32
  let v972 : BitVec 1 := Scalar.cmpi .ne v2 c4_i32_608
  let v973 : BitVec 32 := Scalar.extui v972
  let c0_i32_609 : BitVec 32 := 0#32
  let v974 : BitVec 1 := Scalar.cmpi .ne v973 c0_i32_609
  v974

def k0_off57 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev53 : Nat :=
  let c0_i32_1687 : BitVec 32 := 0#32
  let c4_i32_1685 : BitVec 32 := 4#32
  let c1_i32_1686 : BitVec 32 := 1#32
  let v2160 : BitVec 32 := Scalar.muli c4_i32_1685 c1_i32_1686
  let v2161 : BitVec 32 := Scalar.addi c0_i32_1687 v2160
  v2161.toNat
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_685 : BitVec 32 := 5#32
  let v1062 : BitVec 1 := Scalar.cmpi .ne v2 c5_i32_685
  let v1063 : BitVec 32 := Scalar.extui v1062
  let c0_i32_686 : BitVec 32 := 0#32
  let v1064 : BitVec 1 := Scalar.cmpi .ne v1063 c0_i32_686
  v1064

def k0_off59 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev54 : Nat :=
  let c0_i32_1687 : BitVec 32 := 0#32
  let c5_i32_1685 : BitVec 32 := 5#32
  let c1_i32_1686 : BitVec 32 := 1#32
  let v2160 : BitVec 32 := Scalar.muli c5_i32_1685 c1_i32_1686
  let v2161 : BitVec 32 := Scalar.addi c0_i32_1687 v2160
  v2161.toNat
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_762 : BitVec 32 := 6#32
  let v1152 : BitVec 1 := Scalar.cmpi .ne v2 c6_i32_762
  let v1153 : BitVec 32 := Scalar.extui v1152
  let c0_i32_763 : BitVec 32 := 0#32
  let v1154 : BitVec 1 := Scalar.cmpi .ne v1153 c0_i32_763
  v1154

def k0_off61 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev55 : Nat :=
  let c0_i32_1687 : BitVec 32 := 0#32
  let c6_i32_1685 : BitVec 32 := 6#32
  let c1_i32_1686 : BitVec 32 := 1#32
  let v2160 : BitVec 32 := Scalar.muli c6_i32_1685 c1_i32_1686
  let v2161 : BitVec 32 := Scalar.addi c0_i32_1687 v2160
  v2161.toNat
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_839 : BitVec 32 := 7#32
  let v1242 : BitVec 1 := Scalar.cmpi .ne v2 c7_i32_839
  let v1243 : BitVec 32 := Scalar.extui v1242
  let c0_i32_840 : BitVec 32 := 0#32
  let v1244 : BitVec 1 := Scalar.cmpi .ne v1243 c0_i32_840
  v1244

def k0_off63 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev56 : Nat :=
  let c0_i32_1687 : BitVec 32 := 0#32
  let c7_i32_1685 : BitVec 32 := 7#32
  let c1_i32_1686 : BitVec 32 := 1#32
  let v2160 : BitVec 32 := Scalar.muli c7_i32_1685 c1_i32_1686
  let v2161 : BitVec 32 := Scalar.addi c0_i32_1687 v2160
  v2161.toNat
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_916 : BitVec 32 := 8#32
  let v1332 : BitVec 1 := Scalar.cmpi .ne v2 c8_i32_916
  let v1333 : BitVec 32 := Scalar.extui v1332
  let c0_i32_917 : BitVec 32 := 0#32
  let v1334 : BitVec 1 := Scalar.cmpi .ne v1333 c0_i32_917
  v1334

def k0_off65 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off66 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev57 : Nat :=
  let c0_i32_1687 : BitVec 32 := 0#32
  let c8_i32_1685 : BitVec 32 := 8#32
  let c1_i32_1686 : BitVec 32 := 1#32
  let v2160 : BitVec 32 := Scalar.muli c8_i32_1685 c1_i32_1686
  let v2161 : BitVec 32 := Scalar.addi c0_i32_1687 v2160
  v2161.toNat
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_993 : BitVec 32 := 9#32
  let v1422 : BitVec 1 := Scalar.cmpi .ne v2 c9_i32_993
  let v1423 : BitVec 32 := Scalar.extui v1422
  let c0_i32_994 : BitVec 32 := 0#32
  let v1424 : BitVec 1 := Scalar.cmpi .ne v1423 c0_i32_994
  v1424

def k0_off67 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off68 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev58 : Nat :=
  let c0_i32_1687 : BitVec 32 := 0#32
  let c9_i32_1685 : BitVec 32 := 9#32
  let c1_i32_1686 : BitVec 32 := 1#32
  let v2160 : BitVec 32 := Scalar.muli c9_i32_1685 c1_i32_1686
  let v2161 : BitVec 32 := Scalar.addi c0_i32_1687 v2160
  v2161.toNat
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1070 : BitVec 32 := 10#32
  let v1512 : BitVec 1 := Scalar.cmpi .ne v2 c10_i32_1070
  let v1513 : BitVec 32 := Scalar.extui v1512
  let c0_i32_1071 : BitVec 32 := 0#32
  let v1514 : BitVec 1 := Scalar.cmpi .ne v1513 c0_i32_1071
  v1514

def k0_off69 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off70 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev59 : Nat :=
  let c0_i32_1687 : BitVec 32 := 0#32
  let c10_i32_1685 : BitVec 32 := 10#32
  let c1_i32_1686 : BitVec 32 := 1#32
  let v2160 : BitVec 32 := Scalar.muli c10_i32_1685 c1_i32_1686
  let v2161 : BitVec 32 := Scalar.addi c0_i32_1687 v2160
  v2161.toNat
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1147 : BitVec 32 := 11#32
  let v1602 : BitVec 1 := Scalar.cmpi .ne v2 c11_i32_1147
  let v1603 : BitVec 32 := Scalar.extui v1602
  let c0_i32_1148 : BitVec 32 := 0#32
  let v1604 : BitVec 1 := Scalar.cmpi .ne v1603 c0_i32_1148
  v1604

def k0_off71 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off72 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev60 : Nat :=
  let c0_i32_1687 : BitVec 32 := 0#32
  let c11_i32_1685 : BitVec 32 := 11#32
  let c1_i32_1686 : BitVec 32 := 1#32
  let v2160 : BitVec 32 := Scalar.muli c11_i32_1685 c1_i32_1686
  let v2161 : BitVec 32 := Scalar.addi c0_i32_1687 v2160
  v2161.toNat
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1224 : BitVec 32 := 12#32
  let v1692 : BitVec 1 := Scalar.cmpi .ne v2 c12_i32_1224
  let v1693 : BitVec 32 := Scalar.extui v1692
  let c0_i32_1225 : BitVec 32 := 0#32
  let v1694 : BitVec 1 := Scalar.cmpi .ne v1693 c0_i32_1225
  v1694

def k0_off73 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off74 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev61 : Nat :=
  let c0_i32_1687 : BitVec 32 := 0#32
  let c12_i32_1685 : BitVec 32 := 12#32
  let c1_i32_1686 : BitVec 32 := 1#32
  let v2160 : BitVec 32 := Scalar.muli c12_i32_1685 c1_i32_1686
  let v2161 : BitVec 32 := Scalar.addi c0_i32_1687 v2160
  v2161.toNat
def k0_cond75 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1301 : BitVec 32 := 13#32
  let v1782 : BitVec 1 := Scalar.cmpi .ne v2 c13_i32_1301
  let v1783 : BitVec 32 := Scalar.extui v1782
  let c0_i32_1302 : BitVec 32 := 0#32
  let v1784 : BitVec 1 := Scalar.cmpi .ne v1783 c0_i32_1302
  v1784

def k0_off75 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off76 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev62 : Nat :=
  let c0_i32_1687 : BitVec 32 := 0#32
  let c13_i32_1685 : BitVec 32 := 13#32
  let c1_i32_1686 : BitVec 32 := 1#32
  let v2160 : BitVec 32 := Scalar.muli c13_i32_1685 c1_i32_1686
  let v2161 : BitVec 32 := Scalar.addi c0_i32_1687 v2160
  v2161.toNat
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1378 : BitVec 32 := 14#32
  let v1872 : BitVec 1 := Scalar.cmpi .ne v2 c14_i32_1378
  let v1873 : BitVec 32 := Scalar.extui v1872
  let c0_i32_1379 : BitVec 32 := 0#32
  let v1874 : BitVec 1 := Scalar.cmpi .ne v1873 c0_i32_1379
  v1874

def k0_off77 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off78 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev63 : Nat :=
  let c0_i32_1687 : BitVec 32 := 0#32
  let c14_i32_1685 : BitVec 32 := 14#32
  let c1_i32_1686 : BitVec 32 := 1#32
  let v2160 : BitVec 32 := Scalar.muli c14_i32_1685 c1_i32_1686
  let v2161 : BitVec 32 := Scalar.addi c0_i32_1687 v2160
  v2161.toNat
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1455 : BitVec 32 := 15#32
  let v1962 : BitVec 1 := Scalar.cmpi .ne v2 c15_i32_1455
  let v1963 : BitVec 32 := Scalar.extui v1962
  let c0_i32_1456 : BitVec 32 := 0#32
  let v1964 : BitVec 1 := Scalar.cmpi .ne v1963 c0_i32_1456
  v1964

def k0_off79 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off80 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1688 : BitVec 32 := 0#32
  let c0_i32_1689 : BitVec 32 := 0#32
  ![v2.toNat, 0, 0]
def k0_dev64 : Nat :=
  let c0_i32_1687 : BitVec 32 := 0#32
  let c15_i32_1685 : BitVec 32 := 15#32
  let c1_i32_1686 : BitVec 32 := 1#32
  let v2160 : BitVec 32 := Scalar.muli c15_i32_1685 c1_i32_1686
  let v2161 : BitVec 32 := Scalar.addi c0_i32_1687 v2160
  v2161.toNat
abbrev stage0_0 : Fin 1 → Memref sig .tc .vmem S1024x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S16384x512 : Shape := ⟨2, ![16384, 512]⟩
abbrev S512x64 : Shape := ⟨2, ![512, 64]⟩
abbrev S16384x1 : Shape := ⟨2, ![16384, 1]⟩
abbrev S64x512x1024 : Shape := ⟨3, ![64, 512, 1024]⟩
abbrev S512x1024 : Shape := ⟨2, ![512, 1024]⟩
abbrev S16384x64 : Shape := ⟨2, ![16384, 64]⟩
abbrev S_ : Shape := ⟨0, ![]⟩
abbrev S16384 : Shape := ⟨1, ![16384]⟩
abbrev S16384x1024 : Shape := ⟨2, ![16384, 1024]⟩
abbrev S16384x1x1 : Shape := ⟨3, ![16384, 1, 1]⟩
abbrev S1 : Shape := ⟨1, ![1]⟩
abbrev S1x1x1 : Shape := ⟨3, ![1, 1, 1]⟩
abbrev S16384x512x1024 : Shape := ⟨3, ![16384, 512, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x64, .f32⟩
  | .hbm, ⟨2, _⟩ => ⟨S16384x1, .i32⟩
  | .hbm, ⟨3, _⟩ => ⟨S64x512x1024, .f32⟩
  | .hbm, ⟨4, _⟩ => ⟨S512x1024, .f32⟩
  | .hbm, ⟨5, _⟩ => ⟨S16384x64, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S16384x64, .f32⟩
  | .hbm, ⟨10, _⟩ => ⟨S16384x64, .f32⟩
  | .hbm, ⟨11, _⟩ => ⟨S16384x64, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S16384x64, .f32⟩
  | .hbm, ⟨16, _⟩ => ⟨S16384x64, .f32⟩
  | .hbm, ⟨17, _⟩ => ⟨S16384x1024, .f32⟩
  | .hbm, ⟨18, _⟩ => ⟨S16384, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S_, .i32⟩
  | .hbm, ⟨23, _⟩ => ⟨S16384x1, .i32⟩
  | .hbm, ⟨24, _⟩ => ⟨S16384x1, .i32⟩
  | .hbm, ⟨25, _⟩ => ⟨S16384x1, .i32⟩
  | .hbm, ⟨26, _⟩ => ⟨S16384x1x1, .i32⟩
  | .hbm, ⟨27, _⟩ => ⟨S1, .i32⟩
  | .hbm, ⟨28, _⟩ => ⟨S_, .i32⟩
  | .hbm, ⟨29, _⟩ => ⟨S16384x1x1, .i32⟩
  | .hbm, ⟨30, _⟩ => ⟨S16384x1x1, .i1⟩
  | .hbm, ⟨31, _⟩ => ⟨S1x1x1, .i32⟩
  | .hbm, ⟨32, _⟩ => ⟨S16384x1x1, .i32⟩
  | .hbm, ⟨33, _⟩ => ⟨S16384x1x1, .i1⟩
  | .hbm, ⟨34, _⟩ => ⟨S16384x1x1, .i1⟩
  | .hbm, ⟨35, _⟩ => ⟨S_, .i1⟩
  | .hbm, ⟨36, _⟩ => ⟨S16384x1, .i1⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .i32⟩
  | .hbm, ⟨42, _⟩ => ⟨S16384, .i32⟩
  | .hbm, ⟨43, _⟩ => ⟨S16384, .i1⟩
  | .hbm, ⟨44, _⟩ => ⟨S_, .i32⟩
  | .hbm, ⟨45, _⟩ => ⟨S16384, .i32⟩
  | .hbm, ⟨46, _⟩ => ⟨S16384, .i32⟩
  | .hbm, ⟨47, _⟩ => ⟨S16384, .i32⟩
  | .hbm, ⟨48, _⟩ => ⟨S16384x1, .i32⟩
  | .hbm, ⟨49, _⟩ => ⟨S16384x512x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩

abbrev nD : Nat := 1
abbrev τ : Topo := Topo.v7x

variable {F : FTy → Type} [FloatOps F]
-- ==== Proof.Protocol.lean ====
/-
  The exchange of the kernel, before any program: who waits on which semaphore, who credits it, by how much, and
  what a landing hands over.

  Sixteen devices. On each device there is one BARRIER cell and six rows of sixteen DMA cells, one row for each of
  x-send, x-receive, e-send, e-receive, y-send, y-receive (rows 0 … 5), and one entry for each peer.

  * Barrier cell of `d`: every other device `p` signals it once. The signal of `p` hands `d` the landing slots number `d`
    of `p`'s three receive buffers, and that `p` has reached the first round of the receive cells number `d`. Device `d` waits for fifteen units.
  * Receive cell `s` of row 1, 3 or 5 on `d`: credited by the copy device `s` makes to `d` (its own local copy when
    `s = d`). The landing hands `d` its slot `s` of the receive buffer, at the contents device `s` sent; a local copy hands back
    its source slot too.
  * Send cell `m` of row 0, 2 or 4 on `d` (`m ≠ d`): credited by the read-out of the copy to `m`, which hands back the source slot.

  The contents are a parameter here (`Con`): what slot `m` of each send buffer holds on device `d` when it is sent.
-/
module

public import proofs.«01_k».proof.Defs
public import Idealize.ShloMosaic.Lib.Pipeline.Launch
public import Idealize.ShloMosaic.Lib.Pipeline.Regions
public import Idealize.ShloMosaic.Lib.Pipeline.RegionTalk
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The exchange's copy of the rounds algebra: duties are named by devices. -/
abbrev UT : Type := URounds (GSem nD τ sig) (Dev nD)
/-- The pipeline's copy and the exchange's. -/
abbrev UU : Type := UR sig nD τ × UT

local notation "𝕄" => MT nD τ sig Unit (Elt F) ℕ UU ℕ

abbrev EP : Emb (UR sig nD τ) (MT nD τ sig Unit (Elt F) ℕ UU ℕ) := embL
abbrev ER : Emb UT (MT nD τ sig Unit (Elt F) ℕ UU ℕ) := embR

/-- The kernel has no variants. -/
abbrev 𝒱₀ : Variants := Variants.none

/-! ## Slots -/

/-- Slot `m` of a buffer of sixteen slots of 112 rows of `w` numbers. -/
theorem slot_inb (w : ℕ) (m : Dev nD) :
    ∀ a, (![m.val, 0, 0] : Fin 3 → ℕ) a + (![1, 112, w] : Fin 3 → ℕ) a ≤ (⟨3, ![16, 112, w]⟩ : Shape).size a := by
  have h : m.val < 16 := m.isLt
  intro a
  match a with
  | 0 => show m.val + 1 ≤ 16; omega
  | 1 => show 0 + 112 ≤ 112; omega
  | 2 => show 0 + w ≤ w; omega

/-- A buffer of sixteen slots. -/
abbrev Buf16 (w : ℕ) : Type := Memref sig .tc .vmem ⟨3, ![16, 112, w]⟩ .bf16

/-- The memref of slot `m`. -/
abbrev slot {w : ℕ} (M : Buf16 w) (m : Dev nD) : Memref sig .tc .vmem ⟨3, ![1, 112, w]⟩ .bf16 :=
  M.slice (Rect.unit (s := ⟨3, ![16, 112, w]⟩) ![m.val, 0, 0] ![1, 112, w] (slot_inb w m)) (fun _ => rfl)

/-- What a slot holds. -/
abbrev Slot (F : FTy → Type) (w : ℕ) : Type := Vec F ⟨3, ![1, 112, w]⟩ .bf16

/-- The six buffers: tokens out, expert numbers out, tokens in, expert numbers in, results out, results in. -/
abbrev dxM : Buf16 512 := Memref.whole cc0_scratch0
abbrev deM : Buf16 1 := Memref.whole cc0_scratch1
abbrev xrM : Buf16 512 := Memref.whole cc0_scratch2
abbrev erM : Buf16 1 := Memref.whole cc0_scratch3
abbrev ysM : Buf16 1024 := Memref.whole cc0_scratch4
abbrev yrM : Buf16 1024 := Memref.whole cc0_scratch5

/-- Slot `m` of buffer `M` on device `d`, owned and holding `X`; -/
abbrev has {w : ℕ} (d : Dev nD) (M : Buf16 w) (m : Dev nD) (X : Slot F w) : sProp 𝕄 := owns (d : Thread nD τ) (slot M m) fullShare X
/-- and owned, holding anything. -/
abbrev free {w : ℕ} (d : Dev nD) (M : Buf16 w) (m : Dev nD) : sProp 𝕄 := iprop(∃ X : Slot F w, has d M m X)

/-- What the three send buffers hold when they are sent. -/
structure Con (F : FTy → Type) where
  x : Dev nD → Dev nD → Slot F 512
  e : Dev nD → Dev nD → Slot F 1
  y : Dev nD → Dev nD → Slot F 1024

/-! ## Cells -/

/-- The barrier semaphore. -/
abbrev barS : Sem sig := (SemArray.scalar (sig.barrier 0 rfl) : Sems sig S_).sem
abbrev barCell (d : Dev nD) : GSem nD τ sig := ((d : Thread nD τ), .reg barS)

/-- The DMA semaphore of row `k` for peer `m`. -/
def dsem (k : Fin 6) (m : Dev nD) : DmaSem sig := ⟨7 + 16 * k.val + m.val, by
  have := k.isLt; have h : m.val < 16 := m.isLt; show _ < 103; omega⟩
abbrev cell (d : Dev nD) (k : Fin 6) (m : Dev nD) : GSem nD τ sig := ((d : Thread nD τ), .dma (dsem k m))

/-- The row of a DMA semaphore, -/
def rowOf (q : DmaSem sig) : ℕ := (q.val - 7) / 16
/-- and its peer. -/
def peerOf (q : DmaSem sig) : Dev nD := ⟨(q.val - 7) % 16, Nat.mod_lt _ (by decide)⟩

theorem rowOf_dsem (k : Fin 6) (m : Dev nD) : rowOf (dsem k m) = k.val := by
  have h : m.val < 16 := m.isLt; show (7 + 16 * k.val + m.val - 7) / 16 = k.val; omega
theorem peerOf_dsem (k : Fin 6) (m : Dev nD) : peerOf (dsem k m) = m := by
  have h : m.val < 16 := m.isLt; apply Fin.ext; show (7 + 16 * k.val + m.val - 7) % 16 = m.val; omega
theorem le_dsem (k : Fin 6) (m : Dev nD) : 7 ≤ (dsem k m).val := by show 7 ≤ 7 + 16 * k.val + m.val; omega

/-- What one copy credits: of tokens, of expert numbers, of results. -/
def NX : ℕ := RefSig.tileCredit S112x512 .bf16
def NE : ℕ := RefSig.tileCredit S112x1 .bf16
def NY : ℕ := RefSig.tileCredit S112x1024 .bf16

theorem NX_pos : 0 < NX := RefSig.tileCredit_pos _ _ (by decide)
theorem NE_pos : 0 < NE := RefSig.tileCredit_pos _ _ (by decide)
theorem NY_pos : 0 < NY := RefSig.tileCredit_pos _ _ (by decide)

/-- The credit of row `k`. -/
def rowN : ℕ → ℕ
  | 0 | 1 => NX
  | 2 | 3 => NE
  | _ => NY

theorem rowN_pos (k : ℕ) : 0 < rowN k := by
  unfold rowN
  split <;> first | exact NX_pos | exact NE_pos | exact NY_pos

/-! ## The schedule -/

variable (C : Con F)

/-- The signal of `p` at `d`'s barrier hands over `p`'s landing slots for `d`. -/
def barPay (d p : Dev nD) : sProp 𝕄 :=
  iprop(free p xrM d ∗ free p erM d ∗ free p yrM d
    ∗ reached ER (cell p 1 d) 0 ∗ reached ER (cell p 3 d) 0 ∗ reached ER (cell p 5 d) 0)

/-- The read-out of a copy hands back its source, -/
def sendPay {w : ℕ} (M : Buf16 w) (X : Dev nD → Dev nD → Slot F w) (d m : Dev nD) : sProp 𝕄 := has d M m (X d m)
/-- its landing the slot of the receive buffer at what was sent, and for a local copy the source too. -/
def recvPay {w : ℕ} (M R : Buf16 w) (X : Dev nD → Dev nD → Slot F w) (d s : Dev nD) : sProp 𝕄 :=
  iprop(has d R s (X s d) ∗ (if s = d then has d M d (X d d) else emp))

/-- The payload of row `k`. -/
def rowPay (d : Dev nD) (k : ℕ) (m : Dev nD) : sProp 𝕄 :=
  match k with
  | 0 => sendPay dxM C.x d m
  | 1 => recvPay dxM xrM C.x d m
  | 2 => sendPay deM C.e d m
  | 3 => recvPay deM erM C.e d m
  | 4 => sendPay ysM C.y d m
  | _ => recvPay ysM yrM C.y d m

/-- Every cell has one round. A barrier cell's duties are the other devices; a DMA cell has one duty, named by the peer; a send cell
    for the device itself has none. -/
def Rd : Rounds.Schedule (GSem nD τ sig) (Dev nD) 𝕄 where
  duties g r :=
    match g.2 with
    | .reg _ => if r = 0 then Finset.univ.filter (· ≠ g.1.1) else ∅
    | .dma q => if r = 0 ∧ 7 ≤ q.val ∧ ¬ (rowOf q % 2 = 0 ∧ peerOf q = g.1.1) then {peerOf q} else ∅
  unitless _ := False
  amount g _ _ := match g.2 with
    | .reg _ => 1
    | .dma q => rowN (rowOf q)
  payload g _ p := match g.2 with
    | .reg _ => barPay g.1.1 p
    | .dma q => rowPay C g.1.1 (rowOf q) (peerOf q)
  amount_pos g _ _ _ := by
    cases g.2 with
    | reg _ => exact Nat.one_pos
    | dma q => exact rowN_pos _

instance Rd_payload_storable (g : GSem nD τ sig) (r : ℕ) (p : Dev nD) :
    BI.Storable (upEmb : UEmb _ 𝕄) ((Rd C).payload g r p) := by
  obtain ⟨t, sm⟩ := g
  cases sm with
  | reg s => show BI.Storable upEmb (barPay t.1 p); unfold barPay; infer_instance
  | dma q =>
    show BI.Storable upEmb (rowPay C t.1 (rowOf q) (peerOf q))
    unfold rowPay sendPay recvPay
    repeat' split
    all_goals infer_instance

omit [FloatOps F] in
theorem duties_later (g : GSem nD τ sig) : ∀ r, 1 ≤ r → (Rd C).duties g r = ∅ := by
  obtain ⟨t, sm⟩ := g
  intro r hr
  cases sm with
  | reg s => exact if_neg (by omega)
  | dma q => exact if_neg (by omega)

omit [FloatOps F] in
theorem duties_bar (d : Dev nD) : (Rd C).duties (barCell d) 0 = Finset.univ.filter (· ≠ d) := by
  show (if (0 : ℕ) = 0 then Finset.univ.filter (· ≠ d) else ∅) = _; exact if_pos rfl
omit [FloatOps F] in
theorem duties_send (d m : Dev nD) (k : Fin 6) (h : m ≠ d) : (Rd C).duties (cell d k m) 0 = {m} := by
  show (if 0 = 0 ∧ 7 ≤ (dsem k m).val ∧ ¬ (rowOf (dsem k m) % 2 = 0 ∧ peerOf (dsem k m) = d) then {peerOf (dsem k m)} else ∅) = {m}
  rw [peerOf_dsem, if_pos ⟨rfl, le_dsem k m, fun h' => h h'.2⟩]
omit [FloatOps F] in
theorem duties_recv (d m : Dev nD) (k : Fin 6) (h : k.val % 2 = 1) : (Rd C).duties (cell d k m) 0 = {m} := by
  show (if 0 = 0 ∧ 7 ≤ (dsem k m).val ∧ ¬ (rowOf (dsem k m) % 2 = 0 ∧ peerOf (dsem k m) = d) then {peerOf (dsem k m)} else ∅) = {m}
  rw [peerOf_dsem, rowOf_dsem, if_pos ⟨rfl, le_dsem k m, fun h' => by omega⟩]
omit [FloatOps F] in
/-- A device's send cell for itself is never credited. -/
theorem duties_self (d : Dev nD) (k : Fin 6) (h : k.val % 2 = 0) (r : ℕ) : (Rd C).duties (cell d k d) r = ∅ := by
  show (if r = 0 ∧ 7 ≤ (dsem k d).val ∧ ¬ (rowOf (dsem k d) % 2 = 0 ∧ peerOf (dsem k d) = d) then {peerOf (dsem k d)} else ∅) = ∅
  rw [peerOf_dsem, rowOf_dsem, if_neg fun h' => h'.2.2 ⟨h, rfl⟩]

omit [FloatOps F] in
theorem amount_bar (d p : Dev nD) : (Rd C).amount (barCell d) 0 p = 1 := rfl
omit [FloatOps F] in
theorem amount_cell (d m p : Dev nD) (k : Fin 6) : (Rd C).amount (cell d k m) 0 p = rowN k.val := by
  show rowN (rowOf (dsem k m)) = _; rw [rowOf_dsem]
omit [FloatOps F] in
theorem payload_bar (d p : Dev nD) : (Rd C).payload (barCell d) 0 p = barPay d p := rfl
omit [FloatOps F] in
theorem payload_cell (d m p : Dev nD) (k : Fin 6) : (Rd C).payload (cell d k m) 0 p = rowPay C d k.val m := by
  show rowPay C d (rowOf (dsem k m)) (peerOf (dsem k m)) = _; rw [rowOf_dsem, peerOf_dsem]

omit [FloatOps F] in
theorem expect_bar (d : Dev nD) : (Rd C).expect (barCell d) 0 = 15 := by
  unfold Schedule.expect Schedule.amountOf
  rw [duties_bar, Finset.sum_congr rfl fun p _ => amount_bar C d p, Finset.sum_const, Nat.smul_one_eq_cast, Nat.cast_id]
  revert d; decide
omit [FloatOps F] in
theorem expect_of {g : GSem nD τ sig} {m : Dev nD} (h : (Rd C).duties g 0 = {m}) : (Rd C).expect g 0 = (Rd C).amount g 0 m := by
  unfold Schedule.expect Schedule.amountOf; rw [h, Finset.sum_singleton]
omit [FloatOps F] in
theorem rest_of {g : GSem nD τ sig} {m : Dev nD} (h : (Rd C).duties g 0 = {m}) :
    bigSep ((Rd C).duties g 0 \ ∅) (fun p => (Rd C).payload g 0 p) = (Rd C).payload g 0 m := by
  rw [Finset.sdiff_empty, h, bigSep_singleton]

/-! ## What a device owes, and the levels -/

/-- The sum of `f p` over the devices `p ≥ n` other than `d`. -/
def owe (f : Dev nD → CellTallies nD τ sig Unit) (d : Dev nD) (n : ℕ) : CellTallies nD τ sig Unit :=
  ∑ p ∈ Finset.univ.filter (fun p : Dev nD => n ≤ p.val ∧ p ≠ d), f p

theorem owe_step (f : Dev nD → CellTallies nD τ sig Unit) (d m : Dev nD) (h : m ≠ d) :
    owe f d m.val = owe f d (m.val + 1) + f m := by
  unfold owe
  have hs : Finset.univ.filter (fun p : Dev nD => m.val ≤ p.val ∧ p ≠ d)
      = insert m (Finset.univ.filter (fun p : Dev nD => m.val + 1 ≤ p.val ∧ p ≠ d)) := by
    ext p
    simp only [Finset.mem_filter, Finset.mem_univ, true_and, Finset.mem_insert]
    constructor
    · rintro ⟨h1, h2⟩
      by_cases hp : p = m
      · exact .inl hp
      · exact .inr ⟨by have : p.val ≠ m.val := fun h => hp (Fin.ext h); omega, h2⟩
    · rintro (rfl | ⟨h1, h2⟩)
      · exact ⟨le_refl _, h⟩
      · exact ⟨by omega, h2⟩
  rw [hs, Finset.sum_insert (by simp), add_comm]
theorem owe_self (f : Dev nD → CellTallies nD τ sig Unit) (d : Dev nD) : owe f d d.val = owe f d (d.val + 1) := by
  unfold owe
  congr 1
  ext p
  simp only [Finset.mem_filter, Finset.mem_univ, true_and]
  constructor
  · rintro ⟨h1, h2⟩; exact ⟨by have : p.val ≠ d.val := fun h => h2 (Fin.ext h); omega, h2⟩
  · rintro ⟨h1, h2⟩; exact ⟨by omega, h2⟩
theorem owe_end (f : Dev nD → CellTallies nD τ sig Unit) (d : Dev nD) : owe f d 16 = 0 := by
  unfold owe
  rw [Finset.filter_false_of_mem, Finset.sum_empty]
  intro p _; have h : p.val < 16 := p.isLt; omega

/-- The barrier units, the token and expert-number credits, the result credits that `d` owes. -/
abbrev fB (p : Dev nD) : CellTallies nD τ sig Unit := tallyAt (barCell p) () 1
abbrev fX (d p : Dev nD) : CellTallies nD τ sig Unit := tallyAt (cell p 1 d) () NX + tallyAt (cell p 3 d) () NE
abbrev fY (d p : Dev nD) : CellTallies nD τ sig Unit := tallyAt (cell p 5 d) () NY

/-- What is owed from the dispatch to peer `n` on, -/
def owX (d : Dev nD) (n : ℕ) : CellTallies nD τ sig Unit := owe (fY d) d 0 + owe (fX d) d n
/-- and at launch. -/
def O₀ (d : Dev nD) : CellTallies nD τ sig Unit := owX d 0 + owe fB d 0

def L (g : GSem nD τ sig) : Finset Unit := if g.1.2 = .tc then {()} else ∅
/-- Barrier cells at 1, token and expert-number landings at 2, result landings at 3, all else at 0. -/
def lv (g : GSem nD τ sig) (_ : Unit) : ℕ := match g.2 with
  | .reg _ => 1
  | .dma q => if q.val < 7 then 0 else match rowOf q with
    | 1 | 3 => 2
    | 5 => 3
    | _ => 0

theorem L_of_ne (g : GSem nD τ sig) (h : g.1.2 ≠ .tc) : L g = ∅ := if_neg h
theorem L_tc (c : Dev nD) (sm : SemLoc sig) : L ((c : Thread nD τ), sm) = {()} := if_pos rfl

/-- Where a tally is owed: on a TensorCore, at a level above `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.tally {n : ℕ} {g : GSem nD τ sig} {N : ℕ} (hg : g.1.2 = .tc) (hn : n < lv g ()) : Above n (tallyAt g () N) := fun g' u h => by
  rw [tallyAt_apply] at h
  by_cases he : g' = g ∧ u = ()
  · rw [he.1]; exact ⟨hg, hn⟩
  · rw [if_neg he] at h; exact absurd h (Nat.lt_irrefl 0)
theorem Above.owe {n : ℕ} {f : Dev nD → CellTallies nD τ sig Unit} (h : ∀ p, Above n (f p)) (d : Dev nD) (k : ℕ) : Above n (owe f d k) := by
  unfold MoE.owe
  exact Finset.sum_induction _ (Above n) (fun _ _ => Above.add) (Above.zero n) fun p _ => h p

theorem lv_cell (d m : Dev nD) (k : Fin 6) : lv (cell d k m) () = (match k.val with | 1 | 3 => 2 | 5 => 3 | _ => 0) := by
  show (if (dsem k m).val < 7 then 0 else match rowOf (dsem k m) with | 1 | 3 => 2 | 5 => 3 | _ => 0) = _
  rw [if_neg (by have := le_dsem k m; omega), rowOf_dsem]

theorem above_fB {n : ℕ} (h : n < 1) (p : Dev nD) : Above n (fB p) := Above.tally rfl h
theorem above_fX {n : ℕ} (h : n < 2) (d p : Dev nD) : Above n (fX d p) :=
  (Above.tally rfl (by rw [lv_cell]; exact h)).add (Above.tally rfl (by rw [lv_cell]; exact h))
theorem above_fY {n : ℕ} (h : n < 3) (d p : Dev nD) : Above n (fY d p) := Above.tally rfl (by rw [lv_cell]; exact h)

theorem above_owX {n : ℕ} (h : n < 2) (d : Dev nD) (k : ℕ) : Above n (owX d k) :=
  (Above.owe (above_fY (by omega) d) d 0).add (Above.owe (above_fX h d) d k)
theorem above_O₀ (d : Dev nD) : Above 0 (O₀ d) := (above_owX (by decide) d 0).add (Above.owe (above_fB (by decide)) d 0)

omit [FloatOps F] in
/-- A device may wait on a cell at a level below all it owes. -/
theorem mayWait {d : Dev nD} {sm : SemLoc sig} {n : ℕ} (hn : lv ((d : Thread nD τ), sm) () ≤ n) {O : CellTallies nD τ sig Unit} (hO : Above n O) :
    (levAts L lv : sProp 𝕄) ⊢ MayWait (d : Thread nD τ) sm () O :=
  MayOwe.of_cut (L := L) (lev := lv) n
    (fun p hp => by rw [Finset.mem_singleton.mp hp, L_tc]; exact Finset.mem_singleton_self _)
    (fun g u hg => by
      have h := (hO g u hg).1
      show u ∈ L g
      unfold L; rw [if_pos h]; exact Finset.mem_singleton_self _)
    (fun p hp => by rw [Finset.mem_singleton.mp hp]; exact hn)
    (fun g u hg => (hO g u hg).2)

end Cert.MoE

end
-- ==== Proof.Contents.lean ====
/-
  What the kernel computes on a device, from what its windows hold: where each token goes, what is sent to each peer, what the experts
  make of what came in, and the result.
-/
module

public import proofs.«01_k».proof.Proof.Protocol

@[expose] public section

noncomputable section

namespace Cert.MoE

open Cert.KernelIdeal Cert.KernelIdeal.Gen

open Idealize.ShloMosaic
open Idealize.ShloMosaic.TcCoe

variable {F : FTy → Type} [FloatOps F]

/-- What a device's six input windows hold: the tokens' experts, the tokens, the router's weights, the shared expert's, the device's own
    four experts', and the matrix of ones below the diagonal. -/
structure In (F : FTy → Type) where
  rt : Vec F S1024x1 .i32
  x : Vec F S1024x512 .f32
  rw : Vec F S512x64 .f32
  sw : Vec F S512x1024 .f32
  ew : Vec F S4x512x1024 .bf16
  lt : Vec F S1024x1024 .bf16

/-! ## Dispatch -/

/-- The place of each token among all that leave the device, `-1` for one that is dropped. -/
def placeOf (I : In F) : IVec S1024x1 32 :=
  k0_pay9 (k0_pay5 (k0_pay1 I.rt) 4#32 (k0_pay2 I.rt) (k0_pay3 I.rt) (k0_pay4 I.rt))
    (k0_pay6 (k0_pay1 I.rt) 4#32 (k0_pay2 I.rt) (k0_pay3 I.rt) (k0_pay4 I.rt))
    (k0_pay7 (F := F) (k0_pay1 I.rt) 4#32 (k0_pay2 I.rt) (k0_pay3 I.rt) (k0_pay4 I.rt)) I.lt

/-- The tokens times their experts' probabilities, -/
def scaledOf (I : In F) : FVec F S1024x512 .bf16 := k0_pay10 (k0_pay8 (k0_pay1 I.rt) I.x I.rw) I.x
/-- and one more than their experts' numbers. -/
def markOf (I : In F) : FVec F S1024x1 .bf16 := k0_pay11 (F := F) (k0_pay1 I.rt)

/-- Which token takes which of the places of peer `m`. -/
def pickOf (I : In F) (m : Dev nD) : FVec F S1024x112 .bf16 :=
  truncf .bf16 (sitofp .f32 (extui 32 (cmpi .eq (broadcastTo S1024x112 (placeOf I) broadcasts_S1024x1_S1024x112)
    (addi (iota .tc S1024x112 32 [1] iota_S1024x112_d1_w32) (broadcast S1024x112 (BitVec.ofNat 32 (112 * m.val))))) natLt_1_32)) bitsLt_bf16_f32

/-- What is sent to peer `m`: tokens, -/
def xOf (I : In F) (m : Dev nD) : Slot F 512 :=
  shapeCast S1x112x512 (truncf .bf16 (matmul dot_S1024x112_S1024x512_S112x512_0_0_1_1_n_n none (pickOf I m) (scaledOf I)
    (constant S112x512 .f32 0x00000000#32)) bitsLt_bf16_f32) shapeCasts_S112x512_S1x112x512
/-- and expert numbers. -/
def eOf (I : In F) (m : Dev nD) : Slot F 1 :=
  shapeCast S1x112x1 (truncf .bf16 (matmul dot_S1024x112_S1024x1_S112x1_0_0_1_1_n_n none (pickOf I m) (markOf I)
    (constant S112x1 .f32 0x00000000#32)) bitsLt_bf16_f32) shapeCasts_S112x1_S1x112x1

/-! ## The experts -/

/-- The device's own number as the program computes it. -/
abbrev meW (d : Dev nD) : BitVec 32 := Scalar.remsi (Scalar.divsi (Dev.word d) 1#32) 16#32

theorem ew_inb (j : Fin 4) : ∀ a, (![j.val, 0, 0] : Fin 3 → ℕ) a + S1x512x1024.size a ≤ S4x512x1024.size a := by revert j; decide

/-- The weights of the device's expert `j`. -/
abbrev ewAt (ew : Vec F S4x512x1024 .bf16) (j : Fin 4) : Vec F S1x512x1024 .bf16 :=
  (Memref.whole cc0_stg4_0 : Memref sig .tc .vmem S4x512x1024 .bf16).view.readAt (Elt F)
    (Rect.unit (s := S4x512x1024) ![j.val, 0, 0] S1x512x1024.size (ew_inb j)).toLoadRect ew

/-- What expert `j` of device `d` adds, on the rows that are marked as its own. -/
def partOf (d : Dev nD) (ew : Vec F S4x512x1024 .bf16) (X : Slot F 512) (E : Slot F 1) (j : Fin 4) : FVec F S112x1024 .f32 :=
  select (broadcastTo S112x1024 (shapeCast S112x1
      (cmpi .eq (fptosi 32 (shapeCast S112x1 E shapeCasts_S1x112x1_S112x1))
        (broadcast S112x1 (Scalar.addi (Scalar.addi (Scalar.muli (meW d) 4#32) (BitVec.ofNat 32 j.val)) 1#32)))
      shapeCasts_S112x1_S112x1) broadcasts_S112x1_S112x1024)
    (matmul dot_S112x512_S512x1024_S112x1024_1_0_0_1_n_n none (shapeCast S112x512 X shapeCasts_S1x112x512_S112x512)
      (shapeCast S512x1024 (ewAt ew j) shapeCasts_S1x512x1024_S512x1024) (constant S112x1024 .f32 0x00000000#32))
    (broadcast S112x1024 (Scalar.ofBits .f32 0x00000000#32))

/-- What the experts of device `d` make of tokens `X` marked `E`. -/
def yOf (d : Dev nD) (ew : Vec F S4x512x1024 .bf16) (X : Slot F 512) (E : Slot F 1) : Slot F 1024 :=
  shapeCast S1x112x1024 (truncf .bf16 (addf (addf (addf (addf (broadcast S112x1024 (Scalar.ofBits .f32 0x00000000#32))
    (partOf d ew X E 0)) (partOf d ew X E 1)) (partOf d ew X E 2)) (partOf d ew X E 3)) bitsLt_bf16_f32) shapeCasts_S112x1024_S1x112x1024

/-- What the send buffers hold, from every device's inputs. -/
def con (I : Dev nD → In F) : Con F where
  x d m := xOf (I d) m
  e d m := eOf (I d) m
  y d s := yOf d (I d).ew (xOf (I s) d) (eOf (I s) d)

/-! ## The result -/

/-- The eight slots from `8 * h` on of what came back. -/
def backOf (I : Dev nD → In F) (d : Dev nD) (h : Fin 2) : Vec F S8x112x1024 .bf16 :=
  fun i => (con I).y ⟨8 * h.val + (i 0).val, by have : (i 0).val < 8 := (i 0).isLt; have := h.isLt; show _ < 16; omega⟩ d
    (fun a => match a with | 0 => (0 : Fin 1) | 1 => (i 1 : Fin 112) | 2 => (i 2 : Fin 1024))

/-- The shared expert's part, with the first half of what came back, with all of it. -/
def out1 (I : Dev nD → In F) (d : Dev nD) : FVec F S1024x1024 .f32 := k0_pay67 (I d).x (I d).sw
def out2 (I : Dev nD → In F) (d : Dev nD) : FVec F S1024x1024 .f32 := k0_pay162 (k0_pay66 (placeOf (I d))) (backOf I d 0) (out1 I d)
def out3 (I : Dev nD → In F) (d : Dev nD) : FVec F S1024x1024 .f32 := k0_pay163 (k0_pay66 (placeOf (I d))) (backOf I d 1) (out2 I d)

end Cert.MoE
-- ==== Proof.Rules.lean ====
/-
  One operation at a time, on what it touches alone: a load and a store of a slot, a copy of a slot to a peer, a copy of a slot on the
  device itself, a wait for a row's cell, a signal of a peer's barrier and the wait at one's own.
-/
module

public import proofs.«01_k».proof.Proof.Contents

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's programs on a TensorCore. -/
abbrev PG (F : FTy → Type) [FloatOps F] (α : Type) : Type 1 := Prog (TpuEff nD τ sig (Elt F) Λ₀ .tc) α

/-- What makes program `p` on device `d` safe and end in `Q`. -/
abbrev run {α : Type} (d : Dev nD) (p : PG F α) (Q : α → sProp 𝕄) : sProp 𝕄 :=
  wp frame (wpE (defs₀ (F := F)) 𝒱₀ (d : Thread nD τ) none) Set.univ p Q

/-- What device `d` owes, whatever it has waited for. -/
def ow (d : Dev nD) (O : CellTallies nD τ sig Unit) : sProp 𝕄 := iprop(∃ W, owes (d : Thread nD τ) O W)

/-! ## Indices as the program computes them -/

theorem off1_eq (d : Dev nD) : (![(meW d).toNat] : Fin 1 → ℕ) = ![d.val] := by revert d; decide
theorem off3_eq (d : Dev nD) : (![(meW d).toNat, 0, 0] : Fin 3 → ℕ) = ![d.val, 0, 0] := by revert d; decide

/-- The program's test whether the device is not `m`, -/
abbrev neW (d m : Dev nD) : BitVec 1 := Scalar.cmpi .ne (Scalar.extui (Scalar.cmpi .ne (meW d) (BitVec.ofNat 32 m.val))) 0#32
/-- and whether it is. -/
abbrev eqW (d m : Dev nD) : BitVec 1 := Scalar.cmpi .ne (Scalar.extui (Scalar.cmpi .eq (meW d) (BitVec.ofNat 32 m.val))) 0#32

theorem neW_iff (d m : Dev nD) : neW d m = 1#1 ↔ m ≠ d := by revert d m; decide
theorem eqW_iff (d m : Dev nD) : eqW d m = 1#1 ↔ m = d := by revert d m; decide

/-- A row of semaphores, as the kernel is given it, -/
abbrev row (k : Fin 6) : DmaSems sig S16 :=
  SemArray.consecutive (n := 103) (7 + 16 * k.val) S16 (by have := k.isLt; show 7 + 16 * k.val + 16 ≤ 103; omega)

/-- and the semaphore it takes out of it. -/
theorem sem_eq (k : Fin 6) (m : Dev nD) {off : Fin 1 → ℕ} (hoff : off = ![m.val]) (p) :
    (((row k).slice (Rect.unit (s := S16) off S1.size p)).squeeze S_ squeezes_S1_S_).sem = dsem k m := by
  subst hoff
  apply Fin.ext
  show 7 + 16 * k.val + (S16.rowMajor _).val = 7 + 16 * k.val + m.val
  refine congrArg (7 + 16 * k.val + ·) ((Shape.rowMajor_val_one _).trans ?_)
  have h (i : Fin (S1.size 0)) : m.val + 1 * i.val = m.val := by
    have h : i.val < 1 := i.isLt
    omega
  exact h _

/-! ## Slots -/

section slots

variable {w : ℕ} (M : Buf16 w)

/-- Slot `m` without its leading axis of size one, as copies name it. -/
abbrev sq {off : Fin 3 → ℕ} (p : ∀ a, off a + (![1, 112, w] : Fin 3 → ℕ) a ≤ (⟨3, ![16, 112, w]⟩ : Shape).size a)
    (hq : (⟨3, ![1, 112, w]⟩ : Shape).Squeezes ⟨2, ![112, w]⟩) : Memref sig .tc .vmem ⟨2, ![112, w]⟩ .bf16 :=
  (M.slice (Rect.unit (s := ⟨3, ![16, 112, w]⟩) off ![1, 112, w] p) (fun _ => rfl)).squeeze ⟨2, ![112, w]⟩ hq

variable {M}

omit [FloatOps F] in
/-- What is read from one slot and written to another, both without the leading axis, reads back with it. -/
theorem read_transfer {R : Buf16 w} (m m' : Dev nD) (hq hq') (fs : (slot M m).view.ty.Contents (Elt F)) (fd : (slot R m').view.ty.Contents (Elt F)) :
    (slot R m').view.read (Elt F) ((sq R (slot_inb w m') hq).view.write (Elt F) fd ((sq M (slot_inb w m) hq').view.read (Elt F) fs) Finset.univ)
      = (slot M m).view.read (Elt F) fs := by
  refine (congrArg ((slot R m').view.read (Elt F))
    (View.write_reshape_univ (Val := Elt F) (v := (slot R m').view) hq.numel_eq fd ((sq M (slot_inb w m) hq').view.read (Elt F) fs))).trans ?_
  rw [View.read_write_univ]
  funext x
  show (slot M m).view.read (Elt F) fs (Shape.reshapeEquiv _ ((Shape.reshapeEquiv _).symm x)) = _
  rw [Equiv.apply_symm_apply]

/-- A load of a slot. -/
theorem load_slot (d m : Dev nD) {off : Fin 3 → ℕ} (hoff : off = ![m.val, 0, 0]) {p} {hl} {X : Slot F w} {α : Type} {k : Slot F w → PG F α} {Q : α → sProp 𝕄} :
    has d M m X ⊢ iprop((has d M m X -∗ run d (k X) Q)
      -∗ run d (.op (.load M (Rect.unit (s := ⟨3, ![16, 112, w]⟩) off ![1, 112, w] p).toLoadRect hl) k) Q) := by
  subst hoff
  unfold has owns
  iintro ⟨%f, %hf, H⟩ Hk
  subst hf
  iapply (wp_load_rect 𝒱₀ (d : Thread nD τ) none Set.univ (m := M) (r := Rect.unit (s := ⟨3, ![16, 112, w]⟩) ![m.val, 0, 0] ![1, 112, w] p) (hl := hl) (k := k) (Finset.Subset.refl _)) $$ H
  iintro H
  iapply Hk
  iexists f; isplitr
  · ipureintro; rfl
  · iexact H

/-- A store of a slot. -/
theorem store_slot (d m : Dev nD) {off : Fin 3 → ℕ} (hoff : off = ![m.val, 0, 0]) {p} {hx hm} {X : Slot F w} {α : Type} {k : PUnit → PG F α} {Q : α → sProp 𝕄} :
    free d M m ⊢ iprop((has d M m X -∗ run d (k ⟨⟩) Q)
      -∗ run d (.op (.store M (Rect.unit (s := ⟨3, ![16, 112, w]⟩) off ![1, 112, w] p) X Finset.univ hx hm) k) Q) := by
  subst hoff
  unfold free has owns
  iintro ⟨%Y, %f, %hf, H⟩ Hk
  iapply (wp_store 𝒱₀ (d : Thread nD τ) none Set.univ (m := M) (r := Rect.unit (s := ⟨3, ![16, 112, w]⟩) ![m.val, 0, 0] ![1, 112, w] p) (w := X) (Mk := Finset.univ) (hx := hx) (hm := hm) (k := k)
    (by rw [View.setOn_univ])) $$ H
  iintro H
  iapply Hk
  iexists ((M.access (Rect.unit (s := ⟨3, ![16, 112, w]⟩) ![m.val, 0, 0] ![1, 112, w] p)).write (Elt F) f X Finset.univ); isplitr
  · ipureintro; exact View.read_write_univ _ _
  · iexact H

end slots

/-! ## Cells -/

variable (C : Con F) (κ : GSem nD τ sig → ℕ)

/-- One cell's invariant. -/
abbrev iv (g : GSem nD τ sig) : sProp 𝕄 := cellInv ER (Rd C) (κ g) g

/-- A lane: one send buffer, one receive buffer, what is sent, and the two rows of cells. -/
structure Lane where
  w : ℕ
  M : Buf16 w
  R : Buf16 w
  X : Dev nD → Dev nD → Slot F w
  ks : Fin 6
  kr : Fin 6
  N : ℕ
  sendRow : ∀ d m, rowPay C d ks.val m = sendPay M X d m
  recvRow : ∀ d m, rowPay C d kr.val m = recvPay M R X d m
  even : ks.val % 2 = 0
  odd : kr.val % 2 = 1
  sendN : rowN ks.val = N
  recvN : rowN kr.val = N
  tile : RefSig.tileCredit ⟨2, ![112, w]⟩ .bf16 = N

/-- Tokens, -/
def laneX : Lane C := ⟨512, dxM, xrM, C.x, 0, 1, NX, fun _ _ => rfl, fun _ _ => rfl, rfl, rfl, rfl, rfl, rfl⟩
/-- expert numbers, -/
def laneE : Lane C := ⟨1, deM, erM, C.e, 2, 3, NE, fun _ _ => rfl, fun _ _ => rfl, rfl, rfl, rfl, rfl, rfl⟩
/-- results. -/
def laneY : Lane C := ⟨1024, ysM, yrM, C.y, 4, 5, NY, fun _ _ => rfl, fun _ _ => rfl, rfl, rfl, rfl, rfl, rfl⟩

variable {C}

/-- A slot's elements are the ones its copies name. -/
theorem has_sq {w : ℕ} {M : Buf16 w} (d m : Dev nD) (X : Slot F w) (hq) :
    has d M m X = iprop(∃ f, ⌜(slot M m).view.read (Elt F) f = X⌝ ∗ ((sq M (slot_inb w m) hq).view.loc (d : Thread nD τ) ↦[(sq M (slot_inb w m) hq).view.set]{fullShare} f)) := by
  unfold has owns
  rw [show (sq M (slot_inb w m) hq).view.set = (slot M m).view.set from View.set_reshape ..]

/-- A copy of slot `m` to device `m`. -/
theorem remote (ln : Lane C) {d m n : Dev nD} (hmd : m ≠ d) (hn : n = m) {off off' : Fin 3 → ℕ} (hoff : off = ![m.val, 0, 0]) (hoff' : off' = ![d.val, 0, 0]) {p p' hq hq'}
    {sS sR : DmaSem sig} (hS : sS = dsem ln.ks m) (hR : sR = dsem ln.kr d) {h1 h2 h3 h4} {α : Type} {k : PUnit → PG F α} {Q : α → sProp 𝕄}
    {O O' : CellTallies nD τ sig Unit} (hO : O = O' + tallyAt (cell m ln.kr d) () ln.N) :
    iprop(iv C κ (cell d ln.ks m) ∗ iv C κ (cell m ln.kr d) ∗ has d ln.M m (ln.X d m) ∗ free m ln.R d ∗ ow d O
        ∗ dutyTok ER (cell d ln.ks m) 0 m ∗ reached ER (cell d ln.ks m) 0 ∗ dutyTok ER (cell m ln.kr d) 0 d ∗ reached ER (cell m ln.kr d) 0)
      ⊢ iprop((cred (tallyAt (cell d ln.ks m) () ln.N) ∗ ow d O' -∗ run d (k ⟨⟩) Q)
        -∗ run d (.op (.enqueueDma (sq ln.M (off := off) p hq) (.remote (Dev.tc n) (sq ln.R (off := off') p' hq') (.dma sS) h1) (.dma sR) h2 h3 h4) k) Q) := by
  subst hn hoff hoff' hS hR
  rw [has_sq d n (ln.X d n) hq]
  unfold free ow
  iintro ⟨#I1, #I2, ⟨%fs, %hfs, Hs⟩, ⟨%Y, Hd⟩, ⟨%W, HO⟩, Ht1, #Hr1, Ht2, #Hr2⟩ Hk
  ihave Hd := (Entails.of_eq (has_sq n d Y hq')) $$ Hd
  icases Hd with ⟨%fd, -, Hd⟩
  iapply (Rounds.wp_send_pointsTo 𝒱₀ ER (Rd C) (d : Thread nD τ) none (κ₁ := κ (cell d ln.ks n)) (κ₂ := κ (cell n ln.kr d)) (r₁ := 0) (r₂ := 0) (d₁ := n) (d₂ := d) (fd := fd)
    (by rw [duties_send C d n ln.ks hmd]; exact Finset.mem_singleton_self _) (by rw [duties_recv C n d ln.kr ln.odd]; exact Finset.mem_singleton_self _)
    () () ln.N (by exact ln.tile) ((amount_cell C d n n ln.ks).trans ln.sendN) ((amount_cell C n d d ln.kr).trans ln.recvN) O' hO (W := W)
    (by
      rw [payload_cell, ln.sendRow]; unfold sendPay
      rw [has_sq d n (ln.X d n) hq]
      iintro H; iexists fs; isplitr
      · ipureintro; exact hfs
      · iexact H)
    (by
      rw [payload_cell, ln.recvRow]; unfold recvPay
      rw [if_neg (fun h => hmd h.symm), has_sq n d (ln.X d n) hq']
      iintro H
      isplitl [H]
      · iexists ((sq ln.R (slot_inb ln.w d) hq').view.write (Elt F) fd ((sq ln.M (slot_inb ln.w n) hq).view.read (Elt F) fs) Finset.univ)
        isplitr
        · ipureintro; exact (read_transfer n d hq' hq fs fd).trans hfs
        · iexact H
      · iempintro)) $$ [Hs Hd HO Ht1 Ht2]
  · isplitr; · iexact I1
    isplitr; · iexact I2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- A copy of slot `d` on the device itself. -/
theorem hereCopy (ln : Lane C) {d m : Dev nD} (hmd : m = d) {off off' : Fin 3 → ℕ} (hoff : off = ![m.val, 0, 0]) (hoff' : off' = ![m.val, 0, 0]) {p p' hq hq'}
    {sR : DmaSem sig} (hR : sR = dsem ln.kr m) {h2 h3 h4} {α : Type} {k : PUnit → PG F α} {Q : α → sProp 𝕄} :
    iprop(iv C κ (cell d ln.kr m) ∗ has d ln.M m (ln.X d m) ∗ free d ln.R m ∗ dutyTok ER (cell d ln.kr m) 0 m ∗ reached ER (cell d ln.kr m) 0)
      ⊢ iprop((cred (tallyAt (cell d ln.kr m) () ln.N) -∗ run d (k ⟨⟩) Q)
        -∗ run d (.op (.enqueueDma (sq ln.M (off := off) p hq) (.here (sq ln.R (off := off') p' hq')) (.dma sR) h2 h3 h4) k) Q) := by
  subst hoff hoff' hR hmd
  rw [has_sq m m (ln.X m m) hq]
  unfold free
  iintro ⟨#I1, ⟨%fs, %hfs, Hs⟩, ⟨%Y, Hd⟩, Ht, #Hr⟩ Hk
  ihave Hd := (Entails.of_eq (has_sq m m Y hq')) $$ Hd
  icases Hd with ⟨%fd, -, Hd⟩
  iapply (Rounds.wp_copy_pointsTo 𝒱₀ ER (Rd C) (m : Thread nD τ) none (κ := κ (cell m ln.kr m)) (r := 0) (d := m) (fd := fd)
    (by rw [duties_recv C m m ln.kr ln.odd]; exact Finset.mem_singleton_self _)
    () ln.N (by exact ln.tile) ((amount_cell C m m m ln.kr).trans ln.recvN)
    (by
      rw [payload_cell, ln.recvRow]; unfold recvPay
      rw [if_pos rfl, has_sq m m (ln.X m m) hq', has_sq m m (ln.X m m) hq]
      iintro ⟨H, Hs⟩
      isplitl [H]
      · iexists ((sq ln.R (slot_inb ln.w m) hq').view.write (Elt F) fd ((sq ln.M (slot_inb ln.w m) hq).view.read (Elt F) fs) Finset.univ)
        isplitr
        · ipureintro; exact (read_transfer m m hq' hq fs fd).trans hfs
        · iexact H
      · iexists fs; isplitr
        · ipureintro; exact hfs
        · iexact Hs)) $$ [Hs Hd Ht]
  · isplitr; · iexact I1
    isplitl [Hs]; · iexact Hs
    isplitl [Hd]; · iexact Hd
    isplitl [Ht]; · iexact Ht
    iexact Hr
  iintro Hc
  iapply Hk
  iexact Hc

/-- What a cell that is still to be waited for needs, -/
def due (d : Dev nD) (k : Fin 6) (i : Dev nD) : sProp 𝕄 := iprop(cred (tallyAt (cell d k i) () (rowN k.val)) ∗ atPos ER (cell d k i) 0 ∅ 0)
/-- and what the wait leaves. -/
def zero (d : Dev nD) (k : Fin 6) (i : Dev nD) : sProp 𝕄 := semVal (cell d k i) 0

/-- A wait for a cell of a row. -/
theorem wait_cell {d i : Dev nD} {k : Fin 6} (hd : (Rd C).duties (cell d k i) 0 = {i}) {sm : DmaSem sig} (hsm : sm = dsem k i)
    {s s' : Shape} {e e' : EltTy} {src : Memref sig .tc .vmem s' e'} {dst : Memref sig .tc .vmem s e} (hN : dst.view.dmaCredit = rowN k.val)
    {h1 h2} {n : ℕ} {O : CellTallies nD τ sig Unit} (hn : lv (cell d k i) () ≤ n) (hO : Above n O) {α : Type} {kk : PUnit → PG F α} {Q : α → sProp 𝕄} :
    iprop(iv C κ (cell d k i) ∗ levAts L lv ∗ due d k i ∗ ow d O)
      ⊢ iprop((rowPay C d k.val i ∗ zero d k i ∗ ow d O -∗ run d (kk ⟨⟩) Q)
        -∗ run d (.op (.waitDma2 sm src dst h1 h2) kk) Q) := by
  subst hsm
  unfold due zero ow
  iintro ⟨#I, #Hl, ⟨Hc, Ha⟩, ⟨%W, HO⟩⟩ Hk
  iapply (Rounds.wp_wait_rest_token 𝒱₀ ER (Rd C) (d : Thread nD τ) none (κ := κ (cell d k i))
      (wpE_waitDma2_eq 𝒱₀ (d : Thread nD τ) none Set.univ) (Set.mem_univ _) () (O := O) (W := W) (R := 0) (m := 0) (T := ∅)
      (by rw [Nat.zero_add, hN, expect_of C hd, amount_cell])) $$ [Hc Ha HO]
  · isplitr; · iexact I
    isplitl [Hc]; · rw [hN]; iexact Hc
    isplitl [HO]; · iexact HO
    isplitr; · iapply (mayWait hn hO); iexact Hl
    iexact Ha
  iintro ⟨HO, Ha, -, Hp⟩
  ihave Hp := (Entails.of_eq ((rest_of C hd).trans (payload_cell C d i i k))) $$ Hp
  imod (Rounds.cell_close ER (Rd C) (Set.mem_univ (κ (cell d k i))) (fun h => h) (R := 0 + 1) (duties_later C (cell d k i))) $$ [Ha] with Hz
  · isplitr; · iexact I
    iexact Ha
  iapply Hk
  isplitl [Hp]; · iexact Hp
  isplitl [Hz]; · iexact Hz
  iexists _; iexact HO

/-- A signal of device `m`'s barrier. -/
theorem signal_bar {d m n : Dev nD} (hmd : m ≠ d) (hn : n = m) {O O' : CellTallies nD τ sig Unit} (hO : O = O' + fB m) {α : Type} {k : PUnit → PG F α} {Q : α → sProp 𝕄} :
    iprop(iv C κ (barCell m) ∗ ow d O ∗ dutyTok ER (barCell m) 0 d ∗ barPay m d ∗ reached ER (barCell m) 0)
      ⊢ iprop((ow d O' -∗ run d (k ⟨⟩) Q) -∗ run d (.op (.semSignal ((n : Dev nD) : Thread nD τ) barS 1) k) Q) := by
  subst hn
  unfold ow
  iintro ⟨#I, ⟨%W, HO⟩, Ht, Hp, #Hr⟩ Hk
  iapply (Rounds.wp_signal 𝒱₀ ER (Rd C) (d : Thread nD τ) none (dst := (n : Thread nD τ)) (κ := κ (barCell n)) (r := 0) (d := d) (k' := 1)
    (by rw [duties_bar]; exact Finset.mem_filter.mpr ⟨Finset.mem_univ _, fun h => hmd h.symm⟩) (amount_bar C n d) () O' hO (W := W)) $$ [HO Ht Hp]
  · isplitr; · iexact I
    isplitl [HO]; · iexact HO
    isplitl [Ht]; · iexact Ht
    isplitl [Hp]; · rw [payload_bar]; iexact Hp
    iexact Hr
  iintro HO
  iapply Hk
  iexists W; iexact HO

/-- The wait at the device's own barrier. -/
theorem wait_bar {d : Dev nD} {O : CellTallies nD τ sig Unit} (hO : Above 1 O) {α : Type} {k : PUnit → PG F α} {Q : α → sProp 𝕄} :
    iprop(iv C κ (barCell d) ∗ levAts L lv ∗ cred (tallyAt (barCell d) () 15) ∗ atPos ER (barCell d) 0 ∅ 0 ∗ ow d O)
      ⊢ iprop((bigSep (Finset.univ.filter (· ≠ d)) (fun p => barPay d p) ∗ semVal (barCell d) 0 ∗ ow d O -∗ run d (k ⟨⟩) Q)
        -∗ run d (.op (.semWait barS 15) k) Q) := by
  unfold ow
  iintro ⟨#I, #Hl, Hc, Ha, ⟨%W, HO⟩⟩ Hk
  iapply (Rounds.wp_wait_rest_token 𝒱₀ ER (Rd C) (d : Thread nD τ) none (κ := κ (barCell d))
      (wpE_semWait_eq 𝒱₀ (d : Thread nD τ) none Set.univ) (Set.mem_univ _) () (O := O) (W := W) (R := 0) (m := 0) (T := ∅)
      (by rw [expect_bar])) $$ [Hc Ha HO]
  · isplitr; · iexact I
    isplitl [Hc]; · iexact Hc
    isplitl [HO]; · iexact HO
    isplitr; · iapply (mayWait (n := 1) (le_refl _) hO); iexact Hl
    iexact Ha
  iintro ⟨HO, Ha, -, Hp⟩
  ihave Hp := (Entails.of_eq (show bigSep ((Rd C).duties (barCell d) 0 \ ∅) (fun p => (Rd C).payload (barCell d) 0 p) = bigSep (Finset.univ.filter (· ≠ d)) (fun p => barPay d p) by
    rw [Finset.sdiff_empty, duties_bar]; rfl)) $$ Hp
  imod (Rounds.cell_close ER (Rd C) (Set.mem_univ (κ (barCell d))) (fun h => h) (R := 0 + 1) (duties_later C (barCell d))) $$ [Ha] with Hz
  · isplitr; · iexact I
    iexact Ha
  iapply Hk
  isplitl [Hp]; · iexact Hp
  isplitl [Hz]; · iexact Hz
  iexists _; iexact HO

end Cert.MoE
-- ==== Proof.Lanes.lean ====
/-
  The stages a lane goes through for one peer, and the operations that take it from stage to stage: its slot is filled, sent (or copied,
  for the device itself), the peer's own landing is waited for, and last the read-out of the slot.
-/
module

public import proofs.«01_k».proof.Proof.Rules

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {C : Con F} (κ : GSem nD τ sig → ℕ)

/-! ## What every device may use -/

/-- Every cell's invariant, and that the barrier cells have been reached: what all devices share, -/
def shared (C : Con F) : sProp 𝕄 :=
  iprop(bigSep Finset.univ (fun d : Dev nD => iprop(iv C κ (barCell d) ∗ reached ER (barCell d) 0))
    ∗ bigSep Finset.univ (fun p : Dev nD × Fin 6 × Dev nD => iv C κ (cell p.1 p.2.1 p.2.2)) ∗ levAts L lv)
/-- and with it that the device's own cells have been. -/
def ctx (C : Con F) (d : Dev nD) : sProp 𝕄 :=
  iprop(shared κ C ∗ bigSep Finset.univ (fun p : Fin 6 × Dev nD => reached ER (cell d p.1 p.2) 0))

instance shared_persistent : BI.Persistent (shared κ C) := by unfold shared; infer_instance
instance ctx_persistent (d : Dev nD) : BI.Persistent (ctx κ C d) := by unfold ctx; infer_instance

omit [FloatOps F] in
theorem ctx_bar (d m : Dev nD) : ctx κ C d ⊢ iprop(iv C κ (barCell m) ∗ reached ER (barCell m) 0) := by
  unfold ctx shared
  refine (sep_elim_left.trans sep_elim_left).trans ?_
  exact bigSep_elim (s := Finset.univ) (Φ := fun d : Dev nD => iprop(iv C κ (barCell d) ∗ reached ER (barCell d) 0)) (Finset.mem_univ m)
omit [FloatOps F] in
theorem ctx_cell (d m : Dev nD) (k : Fin 6) (i : Dev nD) : ctx κ C d ⊢ iv C κ (cell m k i) := by
  unfold ctx shared
  refine ((sep_elim_left.trans sep_elim_right).trans sep_elim_left).trans ?_
  exact bigSep_elim (s := Finset.univ) (Φ := fun p : Dev nD × Fin 6 × Dev nD => iv C κ (cell p.1 p.2.1 p.2.2)) (Finset.mem_univ (m, k, i))
omit [FloatOps F] in
theorem ctx_lev (d : Dev nD) : ctx κ C d ⊢ iprop(levAts L lv ∗ emp) := by
  unfold ctx shared
  iintro ⟨⟨-, -, #H⟩, -⟩
  isplitr; · iexact H
  iempintro
omit [FloatOps F] in
theorem ctx_reached (d : Dev nD) (k : Fin 6) (i : Dev nD) : ctx κ C d ⊢ reached ER (cell d k i) 0 := by
  unfold ctx
  refine sep_elim_right.trans ?_
  exact bigSep_elim (s := Finset.univ) (Φ := fun p : Fin 6 × Dev nD => reached ER (cell d p.1 p.2) 0) (Finset.mem_univ (k, i))

/-! ## Stages -/

/-- A send cell at the start: for the device itself it stays out of the protocol. -/
def sendNew (d : Dev nD) (k : Fin 6) (i : Dev nD) : sProp 𝕄 := if i = d then zero d k i else atPos ER (cell d k i) 0 ∅ 0
/-- A landing cell at the start: a peer owes it its credit. -/
def recvNew (d : Dev nD) (k : Fin 6) (i : Dev nD) : sProp 𝕄 :=
  iprop(atPos ER (cell d k i) 0 ∅ 0 ∗ if i = d then emp else cred (tallyAt (cell d k i) () (rowN k.val)))
/-- A send cell whose copy is under way, -/
def sendDue (d : Dev nD) (k : Fin 6) (i : Dev nD) : sProp 𝕄 := if i = d then zero d k i else due d k i
/-- what a wait leaves, -/
def got (C : Con F) (d : Dev nD) (k : Fin 6) (i : Dev nD) : sProp 𝕄 := iprop(rowPay C d k.val i ∗ zero d k i)
/-- and what the wait for a send leaves. -/
def sendGot (C : Con F) (d : Dev nD) (k : Fin 6) (i : Dev nD) : sProp 𝕄 := if i = d then zero d k i else got C d k i

/-- What a copy to `i` needs beyond the slot. -/
def pend (ln : Lane C) (d i : Dev nD) : sProp 𝕄 :=
  iprop(free i ln.R d ∗ dutyTok ER (cell i ln.kr d) 0 d ∗ reached ER (cell i ln.kr d) 0
    ∗ if i = d then emp else dutyTok ER (cell d ln.ks i) 0 i)

/-- The lane of `d` for `i`: 0 slot free, 1 filled, 2 sent unless it is the device's own, 3 sent or copied, 4 the landing waited for,
    5 the read-out waited for. -/
def laneSt (ln : Lane C) (d i : Dev nD) : ℕ → sProp 𝕄
  | 0 => iprop(free d ln.M i ∗ pend ln d i ∗ sendNew d ln.ks i ∗ recvNew d ln.kr i)
  | 1 => iprop(has d ln.M i (ln.X d i) ∗ pend ln d i ∗ sendNew d ln.ks i ∗ recvNew d ln.kr i)
  | 2 => if i = d then iprop(has d ln.M i (ln.X d i) ∗ pend ln d i ∗ sendNew d ln.ks i ∗ recvNew d ln.kr i)
      else iprop(sendDue d ln.ks i ∗ due d ln.kr i)
  | 3 => iprop(sendDue d ln.ks i ∗ due d ln.kr i)
  | 4 => iprop(sendDue d ln.ks i ∗ got C d ln.kr i)
  | _ => iprop(sendGot C d ln.ks i ∗ got C d ln.kr i)

variable {κ}

/-- A load of a slot that is about to be filled reads something. -/
theorem lane_dead (ln : Lane C) (d m : Dev nD) {off : Fin 3 → ℕ} (hoff : off = ![m.val, 0, 0]) {p} {hl} {α : Type} {k : Slot F ln.w → PG F α} {Q : α → sProp 𝕄} :
    laneSt ln d m 0 ⊢ iprop((laneSt ln d m 0 -∗ ∀ X : Slot F ln.w, run d (k X) Q)
      -∗ run d (.op (.load ln.M (Rect.unit (s := ⟨3, ![16, 112, ln.w]⟩) off ![1, 112, ln.w] p).toLoadRect hl) k) Q) := by
  have e0 : laneSt ln d m 0 = iprop(free d ln.M m ∗ pend ln d m ∗ sendNew d ln.ks m ∗ recvNew d ln.kr m) := rfl
  rw [e0]
  unfold free
  iintro ⟨⟨%X, H⟩, Hr⟩ Hk
  iapply (load_slot d m hoff) $$ H
  iintro H
  ihave Hk := Hk $$ [H Hr]
  · isplitl [H]; · iexists X; iexact H
    iexact Hr
  ispecialize Hk $$ %X
  iexact Hk

/-- The store that fills it. -/
theorem lane_store (ln : Lane C) (d m : Dev nD) {off : Fin 3 → ℕ} (hoff : off = ![m.val, 0, 0]) {p} {hx hm} {X : Slot F ln.w} (hX : X = ln.X d m)
    {α : Type} {k : PUnit → PG F α} {Q : α → sProp 𝕄} :
    laneSt ln d m 0 ⊢ iprop((laneSt ln d m 1 -∗ run d (k ⟨⟩) Q)
      -∗ run d (.op (.store ln.M (Rect.unit (s := ⟨3, ![16, 112, ln.w]⟩) off ![1, 112, ln.w] p) X Finset.univ hx hm) k) Q) := by
  subst hX
  have e0 : laneSt ln d m 0 = iprop(free d ln.M m ∗ pend ln d m ∗ sendNew d ln.ks m ∗ recvNew d ln.kr m) := rfl
  have e1 : laneSt ln d m 1 = iprop(has d ln.M m (ln.X d m) ∗ pend ln d m ∗ sendNew d ln.ks m ∗ recvNew d ln.kr m) := rfl
  rw [e0, e1]
  iintro ⟨H, Hr⟩ Hk
  iapply (store_slot d m hoff) $$ H
  iintro H
  iapply Hk
  isplitl [H]; · iexact H
  iexact Hr

/-- For the device itself the remote copy is skipped. -/
theorem lane_skip (ln : Lane C) {d m : Dev nD} (h : m = d) : laneSt ln d m 1 = laneSt ln d m 2 := (if_pos h).symm

/-- The copy to a peer. -/
theorem lane_remote (ln : Lane C) {d m n : Dev nD} (hmd : m ≠ d) (hn : n = m) {off off' : Fin 3 → ℕ} (hoff : off = ![m.val, 0, 0]) (hoff' : off' = ![d.val, 0, 0]) {p p' hq hq'}
    {sS sR : DmaSem sig} (hS : sS = dsem ln.ks m) (hR : sR = dsem ln.kr d) {h1 h2 h3 h4} {α : Type} {k : PUnit → PG F α} {Q : α → sProp 𝕄}
    {O O' : CellTallies nD τ sig Unit} (hO : O = O' + tallyAt (cell m ln.kr d) () ln.N) :
    iprop(ctx κ C d ∗ laneSt ln d m 1 ∗ ow d O)
      ⊢ iprop((laneSt ln d m 2 ∗ ow d O' -∗ run d (k ⟨⟩) Q)
        -∗ run d (.op (.enqueueDma (sq ln.M (off := off) p hq) (.remote (Dev.tc n) (sq ln.R (off := off') p' hq') (.dma sS) h1) (.dma sR) h2 h3 h4) k) Q) := by
  have e1 : laneSt ln d m 1 = iprop(has d ln.M m (ln.X d m) ∗ pend ln d m ∗ sendNew d ln.ks m ∗ recvNew d ln.kr m) := rfl
  have e2 : laneSt ln d m 2 = iprop(sendDue d ln.ks m ∗ due d ln.kr m) := if_neg hmd
  rw [e1, e2]
  unfold pend sendNew recvNew sendDue due
  rw [if_neg hmd, if_neg hmd, if_neg hmd, if_neg hmd, ln.sendN]
  iintro ⟨#Hc, ⟨Hs, ⟨Hd, Ht2, #Hr2, Ht1⟩, Ha1, Ha2, Hc2⟩, HO⟩ Hk
  iapply (remote κ ln hmd hn hoff hoff' hS hR hO) $$ [Hs Hd HO Ht1 Ht2]
  · isplitr; · iapply (ctx_cell κ d d ln.ks m); iexact Hc
    isplitr; · iapply (ctx_cell κ d m ln.kr d); iexact Hc
    isplitl [Hs]; · iexact Hs
    isplitl [Hd]; · iexact Hd
    isplitl [HO]; · iexact HO
    isplitl [Ht1]; · iexact Ht1
    isplitr; · iapply (ctx_reached κ d ln.ks m); iexact Hc
    isplitl [Ht2]; · iexact Ht2
    iexact Hr2
  iintro ⟨Hc1, HO⟩
  iapply Hk
  isplitr [HO]
  · isplitl [Hc1 Ha1]
    · isplitl [Hc1]; · iexact Hc1
      iexact Ha1
    isplitl [Hc2]; · iexact Hc2
    iexact Ha2
  iexact HO

/-- For a peer the local copy is skipped. -/
theorem lane_skip' (ln : Lane C) {d m : Dev nD} (h : m ≠ d) : laneSt ln d m 2 = laneSt ln d m 3 := if_neg h

/-- The copy on the device itself. -/
theorem lane_here (ln : Lane C) {d m : Dev nD} (hmd : m = d) {off off' : Fin 3 → ℕ} (hoff : off = ![m.val, 0, 0]) (hoff' : off' = ![m.val, 0, 0]) {p p' hq hq'}
    {sR : DmaSem sig} (hR : sR = dsem ln.kr m) {h2 h3 h4} {α : Type} {k : PUnit → PG F α} {Q : α → sProp 𝕄} :
    iprop(ctx κ C d ∗ laneSt ln d m 2)
      ⊢ iprop((laneSt ln d m 3 -∗ run d (k ⟨⟩) Q)
        -∗ run d (.op (.enqueueDma (sq ln.M (off := off) p hq) (.here (sq ln.R (off := off') p' hq')) (.dma sR) h2 h3 h4) k) Q) := by
  have e2 : laneSt ln d m 2 = iprop(has d ln.M m (ln.X d m) ∗ pend ln d m ∗ sendNew d ln.ks m ∗ recvNew d ln.kr m) := if_pos hmd
  have e3 : laneSt ln d m 3 = iprop(sendDue d ln.ks m ∗ due d ln.kr m) := rfl
  rw [e2, e3]
  subst hmd
  unfold pend sendNew recvNew sendDue due
  rw [if_pos rfl, if_pos rfl, if_pos rfl, if_pos rfl, ln.recvN]
  iintro ⟨#Hc, ⟨Hs, ⟨Hd, Ht, #Hr, -⟩, Hz, Ha, -⟩⟩ Hk
  iapply (hereCopy κ ln rfl hoff hoff' hR) $$ [Hs Hd Ht]
  · isplitr; · iapply (ctx_cell κ m m ln.kr m); iexact Hc
    isplitl [Hs]; · iexact Hs
    isplitl [Hd]; · iexact Hd
    isplitl [Ht]; · iexact Ht
    iexact Hr
  iintro Hc1
  iapply Hk
  isplitl [Hz]; · iexact Hz
  isplitl [Hc1]; · iexact Hc1
  iexact Ha

/-- The wait for what the peer sends. -/
theorem lane_wait (ln : Lane C) {d m : Dev nD} {sm : DmaSem sig} (hsm : sm = dsem ln.kr m)
    {s s' : Shape} {e e' : EltTy} {src : Memref sig .tc .vmem s' e'} {dst : Memref sig .tc .vmem s e} (hN : dst.view.dmaCredit = ln.N)
    {h1 h2} {n : ℕ} {O : CellTallies nD τ sig Unit} (hn : lv (cell d ln.kr m) () ≤ n) (hO : Above n O) {α : Type} {kk : PUnit → PG F α} {Q : α → sProp 𝕄} :
    iprop(ctx κ C d ∗ laneSt ln d m 3 ∗ ow d O)
      ⊢ iprop((laneSt ln d m 4 ∗ ow d O -∗ run d (kk ⟨⟩) Q)
        -∗ run d (.op (.waitDma2 sm src dst h1 h2) kk) Q) := by
  have e3 : laneSt ln d m 3 = iprop(sendDue d ln.ks m ∗ due d ln.kr m) := rfl
  have e4 : laneSt ln d m 4 = iprop(sendDue d ln.ks m ∗ got C d ln.kr m) := rfl
  rw [e3, e4]
  unfold got
  iintro ⟨#Hc, ⟨Hs, Hd⟩, HO⟩ Hk
  have hN' : dst.view.dmaCredit = rowN ln.kr.val := hN.trans ln.recvN.symm
  have hd : (Rd C).duties (cell d ln.kr m) 0 = {m} := duties_recv C d m ln.kr ln.odd
  have hw := wait_cell κ hd hsm (src := src) hN' (h1 := h1) (h2 := h2) hn hO (kk := kk) (Q := Q)
  ihave Hl := (ctx_lev (C := C) κ d) $$ Hc
  icases Hl with ⟨#Hl, -⟩
  iapply hw $$ [Hd HO]
  · isplitr; · iapply (ctx_cell κ d d ln.kr m); iexact Hc
    isplitr; · iexact Hl
    isplitl [Hd]; · iexact Hd
    iexact HO
  iintro ⟨Hp, Hz, HO⟩
  iapply Hk
  isplitr [HO]
  · isplitl [Hs]; · iexact Hs
    isplitl [Hp]; · iexact Hp
    iexact Hz
  iexact HO

/-- A load of a slot that has come in. -/
theorem lane_load (ln : Lane C) (d m : Dev nD) {off : Fin 3 → ℕ} (hoff : off = ![m.val, 0, 0]) {p} {hl} {α : Type} {k : Slot F ln.w → PG F α} {Q : α → sProp 𝕄} :
    laneSt ln d m 4 ⊢ iprop((laneSt ln d m 4 -∗ run d (k (ln.X m d)) Q)
      -∗ run d (.op (.load ln.R (Rect.unit (s := ⟨3, ![16, 112, ln.w]⟩) off ![1, 112, ln.w] p).toLoadRect hl) k) Q) := by
  have e4 : laneSt ln d m 4 = iprop(sendDue d ln.ks m ∗ got C d ln.kr m) := rfl
  rw [e4]
  unfold got
  rw [ln.recvRow]; unfold recvPay
  iintro ⟨Hs, ⟨⟨H, Hr⟩, Hz⟩⟩ Hk
  iapply (load_slot d m hoff) $$ H
  iintro H
  iapply Hk
  isplitl [Hs]; · iexact Hs
  isplitr [Hz]
  · isplitl [H]; · iexact H
    iexact Hr
  iexact Hz

/-- For the device itself there is no read-out to wait for. -/
theorem lane_done (ln : Lane C) {d m : Dev nD} (h : m = d) : laneSt ln d m 4 = laneSt ln d m 5 := by
  have e : sendDue d ln.ks m = sendGot C d ln.ks m := (if_pos h).trans (if_pos h).symm
  show iprop(sendDue d ln.ks m ∗ got C d ln.kr m) = iprop(sendGot C d ln.ks m ∗ got C d ln.kr m)
  rw [e]

/-- The wait for the read-out. -/
theorem lane_sent (ln : Lane C) {d m : Dev nD} (hmd : m ≠ d) {sm : DmaSem sig} (hsm : sm = dsem ln.ks m)
    {s s' : Shape} {e e' : EltTy} {src : Memref sig .tc .vmem s' e'} {dst : Memref sig .tc .vmem s e} (hN : dst.view.dmaCredit = ln.N)
    {h1 h2} {n : ℕ} {O : CellTallies nD τ sig Unit} (hn : lv (cell d ln.ks m) () ≤ n) (hO : Above n O) {α : Type} {kk : PUnit → PG F α} {Q : α → sProp 𝕄} :
    iprop(ctx κ C d ∗ laneSt ln d m 4 ∗ ow d O)
      ⊢ iprop((laneSt ln d m 5 ∗ ow d O -∗ run d (kk ⟨⟩) Q)
        -∗ run d (.op (.waitDma2 sm src dst h1 h2) kk) Q) := by
  have e4 : laneSt ln d m 4 = iprop(due d ln.ks m ∗ got C d ln.kr m) := by
    show iprop(sendDue d ln.ks m ∗ got C d ln.kr m) = _
    rw [show sendDue d ln.ks m = due d ln.ks m from if_neg hmd]
  have e5 : laneSt ln d m 5 = iprop((rowPay C d ln.ks.val m ∗ zero d ln.ks m) ∗ got C d ln.kr m) := by
    show iprop(sendGot C d ln.ks m ∗ got C d ln.kr m) = _
    rw [show sendGot C d ln.ks m = iprop(rowPay C d ln.ks.val m ∗ zero d ln.ks m) from if_neg hmd]
  rw [e4, e5]
  iintro ⟨#Hc, ⟨Hd, Hg⟩, HO⟩ Hk
  have hN' : dst.view.dmaCredit = rowN ln.ks.val := hN.trans ln.sendN.symm
  have hd : (Rd C).duties (cell d ln.ks m) 0 = {m} := duties_send C d m ln.ks hmd
  have hw := wait_cell κ hd hsm (src := src) hN' (h1 := h1) (h2 := h2) hn hO (kk := kk) (Q := Q)
  ihave Hl := (ctx_lev (C := C) κ d) $$ Hc
  icases Hl with ⟨#Hl, -⟩
  iapply hw $$ [Hd HO]
  · isplitr; · iapply (ctx_cell κ d d ln.ks m); iexact Hc
    isplitr; · iexact Hl
    isplitl [Hd]; · iexact Hd
    iexact HO
  iintro ⟨Hp, Hz, HO⟩
  iapply Hk
  isplitr [HO]
  · isplitr [Hg]
    · isplitl [Hp]; · iexact Hp
      iexact Hz
    iexact Hg
  iexact HO

end Cert.MoE
-- ==== Proof.States.lean ====
/-
  What a device holds between two operations of the kernel, and what an operation of one phase does to it. The phases: the barrier, the
  dispatch to one peer after the other, the experts' work for one peer after the other, the results' return, the last waits.
-/
module

public import proofs.«01_k».proof.Proof.Lanes

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A family over the peers, worked through in order -/

/-- Peers below `n` are at stage `hi`, peer `n` at `j`, the others at `lo`. -/
def fam (Ψ : ℕ → Dev nD → sProp 𝕄) (lo hi n j : ℕ) : sProp 𝕄 :=
  bigSep Finset.univ fun i : Dev nD => Ψ (if i.val < n then hi else if i.val = n then j else lo) i

omit [FloatOps F] in
theorem fam_focus (Ψ : ℕ → Dev nD → sProp 𝕄) (lo hi j : ℕ) (m : Dev nD) :
    fam Ψ lo hi m.val j = iprop(Ψ j m ∗ bigSep (Finset.univ.erase m) fun i : Dev nD => Ψ (if i.val < m.val then hi else lo) i) := by
  have e (i : Dev nD) (hi' : i ∈ Finset.univ.erase m) : Ψ (if i.val < m.val then hi else if i.val = m.val then j else lo) i
      = Ψ (if i.val < m.val then hi else lo) i := by
    rw [if_neg (fun h => (Finset.mem_erase.mp hi').1 (Fin.ext h))]
  unfold fam
  rw [bigSep_erase (Finset.mem_univ m), bigSep_congr e, if_neg (lt_irrefl _), if_pos rfl]
  rfl
omit [FloatOps F] in
theorem fam_roll (Ψ : ℕ → Dev nD → sProp 𝕄) (lo hi n : ℕ) : fam Ψ lo hi n hi = fam Ψ lo hi (n + 1) lo := by
  refine bigSep_congr fun i _ => ?_
  congr 1
  split_ifs <;> omega
omit [FloatOps F] in
theorem fam_start (Ψ : ℕ → Dev nD → sProp 𝕄) (lo hi : ℕ) : fam Ψ lo hi 0 lo = bigSep Finset.univ (Ψ lo) := by
  refine bigSep_congr fun i _ => ?_
  congr 1
  split_ifs <;> omega
omit [FloatOps F] in
theorem fam_end (Ψ : ℕ → Dev nD → sProp 𝕄) (lo hi : ℕ) : fam Ψ lo hi 16 lo = bigSep Finset.univ (Ψ hi) := by
  refine bigSep_congr fun i _ => ?_
  have h : i.val < 16 := i.isLt
  rw [if_pos h]

variable (κ : GSem nD τ sig → ℕ) (I : Dev nD → In F) (d : Dev nD)

/-! ## What a device holds -/

/-- A staging buffer, whole. -/
abbrev pt (b : Ref sig .tc) (f : b.ty.Contents (Elt F)) : sProp 𝕄 := ((d : Thread nD τ).loc b) ↦{fullShare} f

/-- The windows: the inputs, and the result at `g`. -/
def Mem (g : FVec F S1024x1024 .f32) : sProp 𝕄 :=
  iprop(pt d cc0_stg0_0 (I d).rt ∗ pt d cc0_stg1_0 (I d).x ∗ pt d cc0_stg2_0 (I d).rw ∗ pt d cc0_stg3_0 (I d).sw
    ∗ pt d cc0_stg4_0 (I d).ew ∗ pt d cc0_stg5_0 (I d).lt ∗ pt d cc0_stg6_0 g)

/-- The stages of the three lanes at one global stage: dispatch 0–4 (with 12 and 13 between a
    pair of copies), experts 4–9, return 9–10, last waits 10–11 (with 14 and 15 between). -/
def stX : ℕ → ℕ
  | 0 => 0 | 1 => 1 | 2 => 1 | 3 => 2 | 4 => 3 | 11 => 5 | 12 => 2 | 13 => 3 | 14 => 5 | 15 => 5 | _ => 4
def stE : ℕ → ℕ
  | 0 => 0 | 1 => 0 | 2 => 1 | 3 => 2 | 4 => 3 | 5 => 3 | 11 => 5 | 12 => 1 | 13 => 2 | 14 => 4 | 15 => 5 | _ => 4
def stY : ℕ → ℕ
  | 7 => 1 | 8 => 2 | 9 => 3 | 10 => 4 | 11 => 5 | 14 => 4 | 15 => 4 | _ => 0

/-- Peer `i` at global stage `t`. -/
def Φ (t : ℕ) (i : Dev nD) : sProp 𝕄 :=
  iprop(laneSt (laneX (con I)) d i (stX t) ∗ laneSt (laneE (con I)) d i (stE t) ∗ laneSt (laneY (con I)) d i (stY t))

/-- Between two operations after the barrier. -/
def St (g : FVec F S1024x1024 .f32) (lo hi n j : ℕ) (O : CellTallies nD τ sig Unit) : sProp 𝕄 :=
  iprop(ctx κ (con I) d ∗ Mem I d g ∗ fam (Φ I d) lo hi n j ∗ ow d O ∗ semVal (barCell d) 0)

variable {κ I d}
variable {g : FVec F S1024x1024 .f32} {lo hi n j j' : ℕ} {O O' : CellTallies nD τ sig Unit}

theorem St_roll {q : sProp 𝕄} (h : St κ I d g lo hi (n + 1) lo O ⊢ q) : St κ I d g lo hi n hi O ⊢ q := by
  refine BIBase.Entails.trans (Entails.of_eq ?_) h
  unfold St; rw [fam_roll]

/-- An operation on peer `n`'s lanes. -/
theorem St_step (hn : n < nD) {p q : sProp 𝕄}
    (core : iprop(ctx κ (con I) d ∗ Φ I d j ⟨n, hn⟩ ∗ ow d O) ⊢ iprop((Φ I d j' ⟨n, hn⟩ ∗ ow d O' -∗ q) -∗ p))
    (h : St κ I d g lo hi n j' O' ⊢ q) : St κ I d g lo hi n j O ⊢ p := by
  show iprop(ctx κ (con I) d ∗ Mem I d g ∗ fam (Φ I d) lo hi n j ∗ ow d O ∗ semVal (barCell d) 0) ⊢ p
  rw [show fam (Φ I d) lo hi n j = _ from fam_focus (Φ I d) lo hi j ⟨n, hn⟩]
  iintro ⟨#Hc, HM, ⟨HF, HR⟩, HO, Hz⟩
  iapply core $$ [HF HO]
  · isplitr; · iexact Hc
    isplitl [HF]; · iexact HF
    iexact HO
  iintro ⟨HF, HO⟩
  iapply h
  unfold St
  rw [show fam (Φ I d) lo hi n j' = _ from fam_focus (Φ I d) lo hi j' ⟨n, hn⟩]
  isplitr; · iexact Hc
  isplitl [HM]; · iexact HM
  isplitl [HF HR]
  · isplitl [HF]; · iexact HF
    iexact HR
  isplitl [HO]; · iexact HO
  iexact Hz

/-! ## Plumbing -/

section plumbing

theorem st_bind {α β : Type} {S : sProp 𝕄} {p : PG F β} {k : β → PG F α} {Q : α → sProp 𝕄} (h : S ⊢ run d p (fun r => run d (k r) Q)) : S ⊢ run d (p >>= k) Q := by
  show S ⊢ wp _ _ _ _ _
  rw [wp_bind]; exact h
theorem st_pure {α : Type} {S : sProp 𝕄} {v : α} {Q : α → sProp 𝕄} (h : S ⊢ Q v) : S ⊢ run d (pure v) Q := by
  show S ⊢ wp _ _ _ _ _
  rw [wp_pure]
  refine h.trans ?_
  iintro H; imodintro; iexact H
theorem st_device {α : Type} {S : sProp 𝕄} {k : Dev nD → PG F α} {Q : α → sProp 𝕄} (h : S ⊢ run d (k d) Q) : S ⊢ run d ((Prog.lift TpuEff.deviceId : PG F (Dev nD)) >>= k) Q := by
  show S ⊢ wp frame (wpE (defs₀ (F := F)) 𝒱₀ (d : Thread nD τ) none) Set.univ (.op .deviceId k) Q
  rw [wp_deviceId]; exact h

end plumbing

/-! ## From one lane to all three -/

section lift

theorem core_same {L L' q p : sProp 𝕄} (c : L ⊢ iprop((L' -∗ q) -∗ p)) : iprop(ctx κ (con I) d ∗ L ∗ ow d O) ⊢ iprop((L' ∗ ow d O -∗ q) -∗ p) := by
  iintro ⟨-, HL, HO⟩ Hk
  iapply c $$ HL
  iintro HL
  iapply Hk
  isplitl [HL]; · iexact HL
  iexact HO
theorem core_ctx {L L' q p : sProp 𝕄} (c : iprop(ctx κ (con I) d ∗ L) ⊢ iprop((L' -∗ q) -∗ p)) : iprop(ctx κ (con I) d ∗ L ∗ ow d O) ⊢ iprop((L' ∗ ow d O -∗ q) -∗ p) := by
  iintro ⟨#Hc, HL, HO⟩ Hk
  iapply c $$ [HL]
  · isplitr; · iexact Hc
    iexact HL
  iintro HL
  iapply Hk
  isplitl [HL]; · iexact HL
  iexact HO

theorem core_x {m : Dev nD} {q p : sProp 𝕄} (hE : stE j = stE j') (hY : stY j = stY j')
    (c : iprop(ctx κ (con I) d ∗ laneSt (laneX (con I)) d m (stX j) ∗ ow d O) ⊢ iprop((laneSt (laneX (con I)) d m (stX j') ∗ ow d O' -∗ q) -∗ p)) :
    iprop(ctx κ (con I) d ∗ Φ I d j m ∗ ow d O) ⊢ iprop((Φ I d j' m ∗ ow d O' -∗ q) -∗ p) := by
  unfold Φ; rw [hE, hY]
  iintro ⟨#Hc, ⟨HX, HE, HY⟩, HO⟩ Hk
  iapply c $$ [HX HO]
  · isplitr; · iexact Hc
    isplitl [HX]; · iexact HX
    iexact HO
  iintro ⟨HX, HO⟩
  iapply Hk
  isplitr [HO]
  · isplitl [HX]; · iexact HX
    isplitl [HE]; · iexact HE
    iexact HY
  iexact HO
theorem core_e {m : Dev nD} {q p : sProp 𝕄} (hX : stX j = stX j') (hY : stY j = stY j')
    (c : iprop(ctx κ (con I) d ∗ laneSt (laneE (con I)) d m (stE j) ∗ ow d O) ⊢ iprop((laneSt (laneE (con I)) d m (stE j') ∗ ow d O' -∗ q) -∗ p)) :
    iprop(ctx κ (con I) d ∗ Φ I d j m ∗ ow d O) ⊢ iprop((Φ I d j' m ∗ ow d O' -∗ q) -∗ p) := by
  unfold Φ; rw [hX, hY]
  iintro ⟨#Hc, ⟨HX, HE, HY⟩, HO⟩ Hk
  iapply c $$ [HE HO]
  · isplitr; · iexact Hc
    isplitl [HE]; · iexact HE
    iexact HO
  iintro ⟨HE, HO⟩
  iapply Hk
  isplitr [HO]
  · isplitl [HX]; · iexact HX
    isplitl [HE]; · iexact HE
    iexact HY
  iexact HO
theorem core_y {m : Dev nD} {q p : sProp 𝕄} (hX : stX j = stX j') (hE : stE j = stE j')
    (c : iprop(ctx κ (con I) d ∗ laneSt (laneY (con I)) d m (stY j) ∗ ow d O) ⊢ iprop((laneSt (laneY (con I)) d m (stY j') ∗ ow d O' -∗ q) -∗ p)) :
    iprop(ctx κ (con I) d ∗ Φ I d j m ∗ ow d O) ⊢ iprop((Φ I d j' m ∗ ow d O' -∗ q) -∗ p) := by
  unfold Φ; rw [hX, hE]
  iintro ⟨#Hc, ⟨HX, HE, HY⟩, HO⟩ Hk
  iapply c $$ [HY HO]
  · isplitr; · iexact Hc
    isplitl [HY]; · iexact HY
    iexact HO
  iintro ⟨HY, HO⟩
  iapply Hk
  isplitr [HO]
  · isplitl [HX]; · iexact HX
    isplitl [HE]; · iexact HE
    iexact HY
  iexact HO

/-- A change of stage that changes nothing. -/
theorem St_stage (hn : n < nD) {q : sProp 𝕄} (e : Φ I d j ⟨n, hn⟩ = Φ I d j' ⟨n, hn⟩) (h : St κ I d g lo hi n j' O ⊢ q) : St κ I d g lo hi n j O ⊢ q :=
  St_step hn (core_same (by rw [e]; iintro H Hk; iapply Hk; iexact H)) h

end lift

end Cert.MoE
-- ==== Proof.Steps.lean ====
/-
  One statement of the kernel at a time, on the whole of what a device holds.
-/
module

public import proofs.«01_k».proof.Proof.States

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {κ : GSem nD τ sig → ℕ} {I : Dev nD → In F} {d : Dev nD}
variable {g : FVec F S1024x1024 .f32} {lo hi n : ℕ} {O : CellTallies nD τ sig Unit} {α : Type}

/-! ## Dispatch -/

section dispatch

/-- The slot of tokens for peer `n` is read (and the value dropped), then filled, -/
theorem st_deadX {Q : α → sProp 𝕄} (hn : n < nD) {off : Fin 3 → ℕ} (hoff : off = ![n, 0, 0]) {p hl} {k : Slot F 512 → PG F α}
    (h : ∀ X, St κ I d g lo hi n 0 O ⊢ run d (k X) Q) :
    St κ I d g lo hi n 0 O ⊢ run d (Prog.lift (.load dxM (Rect.unit (s := S16x112x512) off S1x112x512.size p).toLoadRect hl) >>= k) Q :=
  St_step (j' := 0) (O' := O) hn (core_x rfl rfl (core_same (lane_dead (laneX (con I)) d ⟨n, hn⟩ hoff))) (forall_intro h)
theorem st_storeX {Q : α → sProp 𝕄} (hn : n < nD) {off : Fin 3 → ℕ} (hoff : off = ![n, 0, 0]) {p hx hm} {X : Slot F 512} (hX : X = xOf (I d) ⟨n, hn⟩) {k : PUnit → PG F α}
    (h : St κ I d g lo hi n 1 O ⊢ run d (k ⟨⟩) Q) :
    St κ I d g lo hi n 0 O ⊢ run d (Prog.lift (.store dxM (Rect.unit (s := S16x112x512) off S1x112x512.size p) X Finset.univ hx hm) >>= k) Q :=
  St_step (j' := 1) (O' := O) hn (core_x rfl rfl (core_same (lane_store (laneX (con I)) d ⟨n, hn⟩ hoff hX))) h
/-- and so is the slot of expert numbers. -/
theorem st_deadE {Q : α → sProp 𝕄} (hn : n < nD) {off : Fin 3 → ℕ} (hoff : off = ![n, 0, 0]) {p hl} {k : Slot F 1 → PG F α}
    (h : ∀ X, St κ I d g lo hi n 1 O ⊢ run d (k X) Q) :
    St κ I d g lo hi n 1 O ⊢ run d (Prog.lift (.load deM (Rect.unit (s := S16x112x1) off S1x112x1.size p).toLoadRect hl) >>= k) Q :=
  St_step (j' := 1) (O' := O) hn (core_e rfl rfl (core_same (lane_dead (laneE (con I)) d ⟨n, hn⟩ hoff))) (forall_intro h)
theorem st_storeE {Q : α → sProp 𝕄} (hn : n < nD) {off : Fin 3 → ℕ} (hoff : off = ![n, 0, 0]) {p hx hm} {X : Slot F 1} (hX : X = eOf (I d) ⟨n, hn⟩) {k : PUnit → PG F α}
    (h : St κ I d g lo hi n 2 O ⊢ run d (k ⟨⟩) Q) :
    St κ I d g lo hi n 1 O ⊢ run d (Prog.lift (.store deM (Rect.unit (s := S16x112x1) off S1x112x1.size p) X Finset.univ hx hm) >>= k) Q :=
  St_step (j' := 2) (O' := O) hn (core_e rfl rfl (core_same (lane_store (laneE (con I)) d ⟨n, hn⟩ hoff hX))) h

/-- Both are sent, unless peer `n` is the device itself, -/
theorem st_sendXE {Q : α → sProp 𝕄} (hn : n < nD) {c : BitVec 1} (hc : c = neW d ⟨n, hn⟩) {k : PG F α}
    {dv dv' : c = 1#1 → Dev nD} (hdv : ∀ h, dv h = ⟨n, hn⟩) (hdv' : ∀ h, dv' h = ⟨n, hn⟩)
    {o1 o2 o3 o4 : Fin 3 → ℕ} (ho1 : o1 = ![n, 0, 0]) (ho2 : o2 = ![d.val, 0, 0]) (ho3 : o3 = ![n, 0, 0]) (ho4 : o4 = ![d.val, 0, 0])
    {p1 : ∀ a, o1 a + S1x112x512.size a ≤ S16x112x512.size a} {p2 : c = 1#1 → ∀ a, o2 a + S1x112x512.size a ≤ S16x112x512.size a}
    {p3 : ∀ a, o3 a + S1x112x1.size a ≤ S16x112x1.size a} {p4 : c = 1#1 → ∀ a, o4 a + S1x112x1.size a ≤ S16x112x1.size a}
    {s1 s3 : DmaSem sig} {s2 s4 : c = 1#1 → DmaSem sig} (hs1 : s1 = dsem 0 ⟨n, hn⟩) (hs2 : ∀ h, s2 h = dsem 1 d) (hs3 : s3 = dsem 2 ⟨n, hn⟩) (hs4 : ∀ h, s4 h = dsem 3 d)
    {r1 : ∀ h, _} {r2 r3 : ∀ h, _} {r4 : ∀ h, _} {q1 : ∀ h, _} {q2 q3 : ∀ h, _} {q4 : ∀ h, _}
    (h : St κ I d g lo hi n 3 (owX d (n + 1)) ⊢ run d k Q) :
    St κ I d g lo hi n 2 (owX d n) ⊢ run d (if h : c = 1#1 then
        (Prog.lift (.enqueueDma ((dxM.slice (Rect.unit (s := S16x112x512) o1 S1x112x512.size p1) (fun _ => rfl)).squeeze S112x512 squeezes_S1x112x512_S112x512)
            (.remote (Dev.tc (dv h)) ((xrM.slice (Rect.unit (s := S16x112x512) o2 S1x112x512.size (p2 h)) (fun _ => rfl)).squeeze S112x512 squeezes_S1x112x512_S112x512) (.dma s1) (r1 h))
            (.dma (s2 h)) (r2 h) (r3 h) (r4 h)) >>= fun _ =>
          Prog.lift (.enqueueDma ((deM.slice (Rect.unit (s := S16x112x1) o3 S1x112x1.size p3) (fun _ => rfl)).squeeze S112x1 squeezes_S1x112x1_S112x1)
            (.remote (Dev.tc (dv' h)) ((erM.slice (Rect.unit (s := S16x112x1) o4 S1x112x1.size (p4 h)) (fun _ => rfl)).squeeze S112x1 squeezes_S1x112x1_S112x1) (.dma s3) (q1 h))
            (.dma (s4 h)) (q2 h) (q3 h) (q4 h)) >>= fun _ => k)
      else k) Q := by
  by_cases hd : (⟨n, hn⟩ : Dev nD) = d
  · rw [dif_neg (by rw [hc, neW_iff]; exact fun h' => h' hd)]
    have e : owX d n = owX d (n + 1) := by
      unfold owX
      rw [show owe (fX d) d n = owe (fX d) d (n + 1) by rw [show n = d.val from congrArg Fin.val hd]; exact owe_self _ _]
    rw [e]
    refine St_stage hn ?_ h
    unfold Φ
    exact congrArg₂ (fun a b => iprop(a ∗ b ∗ _)) (lane_skip _ hd) (lane_skip _ hd)
  · rw [dif_pos (by rw [hc, neW_iff]; exact hd)]
    have e : owX d n = (owX d (n + 1) + tallyAt (cell ⟨n, hn⟩ 3 d) () NE) + tallyAt (cell ⟨n, hn⟩ 1 d) () NX := by
      unfold owX
      rw [show owe (fX d) d n = _ from owe_step (fX d) d ⟨n, hn⟩ hd,
        show fX d ⟨n, hn⟩ = tallyAt (cell ⟨n, hn⟩ 1 d) () NX + tallyAt (cell ⟨n, hn⟩ 3 d) () NE from rfl]
      abel
    exact St_step (j' := 12) (O' := owX d (n + 1) + tallyAt (cell ⟨n, hn⟩ 3 d) () NE) hn (core_x rfl rfl (lane_remote (laneX (con I)) hd (hdv _) ho1 ho2 hs1 (hs2 _) e))
      (St_step (j' := 3) (O' := owX d (n + 1)) hn (core_e rfl rfl (lane_remote (laneE (con I)) hd (hdv' _) ho3 ho4 hs3 (hs4 _) rfl)) h)

/-- and copied where it is. -/
theorem st_hereXE {Q : α → sProp 𝕄} (hn : n < nD) {c : BitVec 1} (hc : c = eqW d ⟨n, hn⟩) {k : PG F α}
    {o1 o2 o3 o4 : Fin 3 → ℕ} (ho1 : o1 = ![n, 0, 0]) (ho2 : o2 = ![n, 0, 0]) (ho3 : o3 = ![n, 0, 0]) (ho4 : o4 = ![n, 0, 0])
    {p1 : ∀ a, o1 a + S1x112x512.size a ≤ S16x112x512.size a} {p2 : ∀ a, o2 a + S1x112x512.size a ≤ S16x112x512.size a}
    {p3 : ∀ a, o3 a + S1x112x1.size a ≤ S16x112x1.size a} {p4 : ∀ a, o4 a + S1x112x1.size a ≤ S16x112x1.size a}
    {s2 s4 : DmaSem sig} (hs2 : s2 = dsem 1 ⟨n, hn⟩) (hs4 : s4 = dsem 3 ⟨n, hn⟩)
    {r2 r3 r4 q2 q3 q4}
    (h : St κ I d g lo hi n 4 O ⊢ run d k Q) :
    St κ I d g lo hi n 3 O ⊢ run d (if _h : c = 1#1 then
        (Prog.lift (.enqueueDma ((dxM.slice (Rect.unit (s := S16x112x512) o1 S1x112x512.size p1) (fun _ => rfl)).squeeze S112x512 squeezes_S1x112x512_S112x512)
            (.here ((xrM.slice (Rect.unit (s := S16x112x512) o2 S1x112x512.size p2) (fun _ => rfl)).squeeze S112x512 squeezes_S1x112x512_S112x512))
            (.dma s2) r2 r3 r4) >>= fun _ =>
          Prog.lift (.enqueueDma ((deM.slice (Rect.unit (s := S16x112x1) o3 S1x112x1.size p3) (fun _ => rfl)).squeeze S112x1 squeezes_S1x112x1_S112x1)
            (.here ((erM.slice (Rect.unit (s := S16x112x1) o4 S1x112x1.size p4) (fun _ => rfl)).squeeze S112x1 squeezes_S1x112x1_S112x1))
            (.dma s4) q2 q3 q4) >>= fun _ => k)
      else k) Q := by
  by_cases hd : (⟨n, hn⟩ : Dev nD) = d
  · rw [dif_pos (by rw [hc, eqW_iff]; exact hd)]
    exact St_step (j' := 13) (O' := O) hn (core_x rfl rfl (core_ctx (lane_here (laneX (con I)) hd ho1 ho2 hs2)))
      (St_step (j' := 4) (O' := O) hn (core_e rfl rfl (core_ctx (lane_here (laneE (con I)) hd ho3 ho4 hs4))) h)
  · rw [dif_neg (by rw [hc, eqW_iff]; exact hd)]
    refine St_stage hn ?_ h
    unfold Φ
    exact congrArg₂ (fun a b => iprop(a ∗ b ∗ _)) (lane_skip' _ hd) (lane_skip' _ hd)

end dispatch

/-! ## The experts -/

section experts

/-- The waits for the tokens and the expert numbers of peer `n`, -/
theorem st_waitX {Q : α → sProp 𝕄} (hn : n < nD) {sm : DmaSem sig} (hsm : sm = dsem 1 ⟨n, hn⟩) {src dst : Memref sig .tc .vmem S112x512 .bf16} (hN : dst.view.dmaCredit = NX) {h1 h2}
    (hO : Above 2 O) {k : PUnit → PG F α} (h : St κ I d g lo hi n 5 O ⊢ run d (k ⟨⟩) Q) :
    St κ I d g lo hi n 4 O ⊢ run d (Prog.lift (.waitDma2 sm src dst h1 h2) >>= k) Q :=
  St_step (j' := 5) (O' := O) hn (core_x rfl rfl (lane_wait (d := d) (laneX (con I)) hsm hN (by rw [lv_cell]; exact le_refl 2) hO)) h
theorem st_waitE {Q : α → sProp 𝕄} (hn : n < nD) {sm : DmaSem sig} (hsm : sm = dsem 3 ⟨n, hn⟩) {src dst : Memref sig .tc .vmem S112x1 .bf16} (hN : dst.view.dmaCredit = NE) {h1 h2}
    (hO : Above 2 O) {k : PUnit → PG F α} (h : St κ I d g lo hi n 6 O ⊢ run d (k ⟨⟩) Q) :
    St κ I d g lo hi n 5 O ⊢ run d (Prog.lift (.waitDma2 sm src dst h1 h2) >>= k) Q :=
  St_step (j' := 6) (O' := O) hn (core_e rfl rfl (lane_wait (d := d) (laneE (con I)) hsm hN (by rw [lv_cell]; exact le_refl 2) hO)) h
/-- the loads of what came in, -/
theorem st_loadX {Q : α → sProp 𝕄} (hn : n < nD) {off : Fin 3 → ℕ} (hoff : off = ![n, 0, 0]) {p hl} {k : Slot F 512 → PG F α}
    (h : St κ I d g lo hi n 6 O ⊢ run d (k (xOf (I ⟨n, hn⟩) d)) Q) :
    St κ I d g lo hi n 6 O ⊢ run d (Prog.lift (.load xrM (Rect.unit (s := S16x112x512) off S1x112x512.size p).toLoadRect hl) >>= k) Q :=
  St_step (j' := 6) (O' := O) hn (core_x rfl rfl (core_same (lane_load (laneX (con I)) d ⟨n, hn⟩ hoff))) h
theorem st_loadE {Q : α → sProp 𝕄} (hn : n < nD) {off : Fin 3 → ℕ} (hoff : off = ![n, 0, 0]) {p hl} {k : Slot F 1 → PG F α}
    (h : St κ I d g lo hi n 6 O ⊢ run d (k (eOf (I ⟨n, hn⟩) d)) Q) :
    St κ I d g lo hi n 6 O ⊢ run d (Prog.lift (.load erM (Rect.unit (s := S16x112x1) off S1x112x1.size p).toLoadRect hl) >>= k) Q :=
  St_step (j' := 6) (O' := O) hn (core_e rfl rfl (core_same (lane_load (laneE (con I)) d ⟨n, hn⟩ hoff))) h
/-- the slot of results for peer `n`, -/
theorem st_deadY {Q : α → sProp 𝕄} (hn : n < nD) {off : Fin 3 → ℕ} (hoff : off = ![n, 0, 0]) {p hl} {k : Slot F 1024 → PG F α}
    (h : ∀ X, St κ I d g lo hi n 6 O ⊢ run d (k X) Q) :
    St κ I d g lo hi n 6 O ⊢ run d (Prog.lift (.load ysM (Rect.unit (s := S16x112x1024) off S1x112x1024.size p).toLoadRect hl) >>= k) Q :=
  St_step (j' := 6) (O' := O) hn (core_y rfl rfl (core_same (lane_dead (laneY (con I)) d ⟨n, hn⟩ hoff))) (forall_intro h)
theorem st_storeY {Q : α → sProp 𝕄} (hn : n < nD) {off : Fin 3 → ℕ} (hoff : off = ![n, 0, 0]) {p hx hm} {X : Slot F 1024}
    (hX : X = yOf d (I d).ew (xOf (I ⟨n, hn⟩) d) (eOf (I ⟨n, hn⟩) d)) {k : PUnit → PG F α}
    (h : St κ I d g lo hi n 7 O ⊢ run d (k ⟨⟩) Q) :
    St κ I d g lo hi n 6 O ⊢ run d (Prog.lift (.store ysM (Rect.unit (s := S16x112x1024) off S1x112x1024.size p) X Finset.univ hx hm) >>= k) Q :=
  St_step (j' := 7) (O' := O) hn (core_y rfl rfl (core_same (lane_store (laneY (con I)) d ⟨n, hn⟩ hoff hX))) h
/-- its copy to the peer, -/
theorem st_sendY {Q : α → sProp 𝕄} (hn : n < nD) {c : BitVec 1} (hc : c = neW d ⟨n, hn⟩) {k : PG F α}
    {dv : c = 1#1 → Dev nD} (hdv : ∀ h, dv h = ⟨n, hn⟩)
    {o1 o2 : Fin 3 → ℕ} (ho1 : o1 = ![n, 0, 0]) (ho2 : o2 = ![d.val, 0, 0])
    {p1 : ∀ a, o1 a + S1x112x1024.size a ≤ S16x112x1024.size a} {p2 : c = 1#1 → ∀ a, o2 a + S1x112x1024.size a ≤ S16x112x1024.size a}
    {s1 : DmaSem sig} {s2 : c = 1#1 → DmaSem sig} (hs1 : s1 = dsem 4 ⟨n, hn⟩) (hs2 : ∀ h, s2 h = dsem 5 d)
    {r1 : ∀ h, _} {r2 r3 : ∀ h, _} {r4 : ∀ h, _}
    (h : St κ I d g lo hi n 8 (owe (fY d) d (n + 1)) ⊢ run d k Q) :
    St κ I d g lo hi n 7 (owe (fY d) d n) ⊢ run d (if h : c = 1#1 then
        (Prog.lift (.enqueueDma ((ysM.slice (Rect.unit (s := S16x112x1024) o1 S1x112x1024.size p1) (fun _ => rfl)).squeeze S112x1024 squeezes_S1x112x1024_S112x1024)
            (.remote (Dev.tc (dv h)) ((yrM.slice (Rect.unit (s := S16x112x1024) o2 S1x112x1024.size (p2 h)) (fun _ => rfl)).squeeze S112x1024 squeezes_S1x112x1024_S112x1024) (.dma s1) (r1 h))
            (.dma (s2 h)) (r2 h) (r3 h) (r4 h)) >>= fun _ => k)
      else k) Q := by
  by_cases hd : (⟨n, hn⟩ : Dev nD) = d
  · rw [dif_neg (by rw [hc, neW_iff]; exact fun h' => h' hd)]
    rw [show owe (fY d) d n = owe (fY d) d (n + 1) by rw [show n = d.val from congrArg Fin.val hd]; exact owe_self _ _]
    refine St_stage hn ?_ h
    unfold Φ
    exact congrArg (fun a => iprop(_ ∗ _ ∗ a)) (lane_skip _ hd)
  · rw [dif_pos (by rw [hc, neW_iff]; exact hd)]
    exact St_step (j' := 8) (O' := (owe (fY d) d (n + 1))) hn (core_y rfl rfl (lane_remote (laneY (con I)) hd (hdv _) ho1 ho2 hs1 (hs2 _) (owe_step (fY d) d ⟨n, hn⟩ hd))) h
/-- or on the device itself. -/
theorem st_hereY {Q : α → sProp 𝕄} (hn : n < nD) {c : BitVec 1} (hc : c = eqW d ⟨n, hn⟩) {k : PG F α}
    {o1 o2 : Fin 3 → ℕ} (ho1 : o1 = ![n, 0, 0]) (ho2 : o2 = ![n, 0, 0])
    {p1 : ∀ a, o1 a + S1x112x1024.size a ≤ S16x112x1024.size a} {p2 : ∀ a, o2 a + S1x112x1024.size a ≤ S16x112x1024.size a}
    {s2 : DmaSem sig} (hs2 : s2 = dsem 5 ⟨n, hn⟩) {r2 r3 r4}
    (h : St κ I d g lo hi n 9 O ⊢ run d k Q) :
    St κ I d g lo hi n 8 O ⊢ run d (if _h : c = 1#1 then
        (Prog.lift (.enqueueDma ((ysM.slice (Rect.unit (s := S16x112x1024) o1 S1x112x1024.size p1) (fun _ => rfl)).squeeze S112x1024 squeezes_S1x112x1024_S112x1024)
            (.here ((yrM.slice (Rect.unit (s := S16x112x1024) o2 S1x112x1024.size p2) (fun _ => rfl)).squeeze S112x1024 squeezes_S1x112x1024_S112x1024))
            (.dma s2) r2 r3 r4) >>= fun _ => k)
      else k) Q := by
  by_cases hd : (⟨n, hn⟩ : Dev nD) = d
  · rw [dif_pos (by rw [hc, eqW_iff]; exact hd)]
    exact St_step (j' := 9) (O' := O) hn (core_y rfl rfl (core_ctx (lane_here (laneY (con I)) hd ho1 ho2 hs2))) h
  · rw [dif_neg (by rw [hc, eqW_iff]; exact hd)]
    refine St_stage hn ?_ h
    unfold Φ
    exact congrArg (fun a => iprop(_ ∗ _ ∗ a)) (lane_skip' _ hd)

end experts

/-! ## The return and the last waits -/

section last

/-- The wait for the results of peer `n`. -/
theorem st_waitY {Q : α → sProp 𝕄} (hn : n < nD) {sm : DmaSem sig} (hsm : sm = dsem 5 ⟨n, hn⟩) {src dst : Memref sig .tc .vmem S112x1024 .bf16} (hN : dst.view.dmaCredit = NY) {h1 h2}
    {k : PUnit → PG F α} (h : St κ I d g lo hi n 10 0 ⊢ run d (k ⟨⟩) Q) :
    St κ I d g lo hi n 9 0 ⊢ run d (Prog.lift (.waitDma2 sm src dst h1 h2) >>= k) Q :=
  St_step (j' := 10) (O' := 0) hn (core_y rfl rfl (lane_wait (d := d) (laneY (con I)) hsm hN (n := 3) (by rw [lv_cell]; exact le_refl 3) (Above.zero _))) h

/-- The waits for the read-outs of what was sent to peer `n`. -/
theorem st_sent {Q : α → sProp 𝕄} (hn : n < nD) {c : BitVec 1} (hc : c = neW d ⟨n, hn⟩) {k : PG F α}
    {s1 s2 s3 : DmaSem sig} (hs1 : s1 = dsem 0 ⟨n, hn⟩) (hs2 : s2 = dsem 2 ⟨n, hn⟩) (hs3 : s3 = dsem 4 ⟨n, hn⟩)
    {m1 m1' : c = 1#1 → Memref sig .tc .vmem S112x512 .bf16} {m2 m2' : c = 1#1 → Memref sig .tc .vmem S112x1 .bf16} {m3 m3' : c = 1#1 → Memref sig .tc .vmem S112x1024 .bf16}
    (hN1 : ∀ h, (m1' h).view.dmaCredit = NX) (hN2 : ∀ h, (m2' h).view.dmaCredit = NE) (hN3 : ∀ h, (m3' h).view.dmaCredit = NY)
    {r1 : ∀ h, _} {r1' : ∀ h, _} {r2 : ∀ h, _} {r2' : ∀ h, _} {r3 : ∀ h, _} {r3' : ∀ h, _}
    (h : St κ I d g lo hi n 11 0 ⊢ run d k Q) :
    St κ I d g lo hi n 10 0 ⊢ run d (if h : c = 1#1 then
        (Prog.lift (.waitDma2 s1 (m1 h) (m1' h) (r1 h) (r1' h)) >>= fun _ =>
          Prog.lift (.waitDma2 s2 (m2 h) (m2' h) (r2 h) (r2' h)) >>= fun _ =>
          Prog.lift (.waitDma2 s3 (m3 h) (m3' h) (r3 h) (r3' h)) >>= fun _ => k)
      else k) Q := by
  by_cases hd : (⟨n, hn⟩ : Dev nD) = d
  · rw [dif_neg (by rw [hc, neW_iff]; exact fun h' => h' hd)]
    refine St_stage hn ?_ h
    unfold Φ
    rw [show laneSt (laneX (con I)) d ⟨n, hn⟩ (stX 10) = laneSt (laneX (con I)) d ⟨n, hn⟩ (stX 11) from lane_done _ hd,
      show laneSt (laneE (con I)) d ⟨n, hn⟩ (stE 10) = laneSt (laneE (con I)) d ⟨n, hn⟩ (stE 11) from lane_done _ hd,
      show laneSt (laneY (con I)) d ⟨n, hn⟩ (stY 10) = laneSt (laneY (con I)) d ⟨n, hn⟩ (stY 11) from lane_done _ hd]
  · have hc1 : c = 1#1 := by rw [hc, neW_iff]; exact hd
    rw [dif_pos hc1]
    exact St_step (j' := 14) (O' := 0) hn (core_x rfl rfl (lane_sent (d := d) (laneX (con I)) hd hs1 (hN1 hc1) (n := 0) (by rw [lv_cell]; exact le_refl 0) (Above.zero _)))
      (St_step (j' := 15) (O' := 0) hn (core_e rfl rfl (lane_sent (d := d) (laneE (con I)) hd hs2 (hN2 hc1) (n := 0) (by rw [lv_cell]; exact le_refl 0) (Above.zero _)))
        (St_step (j' := 11) (O' := 0) hn (core_y rfl rfl (lane_sent (d := d) (laneY (con I)) hd hs3 (hN3 hc1) (n := 0) (by rw [lv_cell]; exact le_refl 0) (Above.zero _))) h))

end last

end Cert.MoE
-- ==== Proof.Slots.lean ====
/-
  The slots of a buffer as a family: they are disjoint, eight of them make the rectangle the kernel loads at once, and all of them make
  the buffer. Also the loads of whole windows and the stores of the result.
-/
module

public import proofs.«01_k».proof.Proof.Steps

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {κ : GSem nD τ sig → ℕ} {I : Dev nD → In F} {d : Dev nD}
variable {g : FVec F S1024x1024 .f32} {lo hi n : ℕ} {O : CellTallies nD τ sig Unit} {α : Type}

/-! ## Slots as sets -/

section sets

theorem mem_slotR {w : ℕ} (m : Dev nD) (i : (⟨3, ![16, 112, w]⟩ : Shape).Idx) :
    i ∈ (Rect.unit (s := ⟨3, ![16, 112, w]⟩) ![m.val, 0, 0] ![1, 112, w] (slot_inb w m)).set ↔ (i 0).val = m.val := by
  rw [Rect.mem_set_unit]
  constructor
  · intro h
    have h0 := h 0
    have h1 : m.val ≤ (i 0).val ∧ (i 0).val < m.val + 1 := h0
    omega
  · intro h a
    match a with
    | 0 => show m.val ≤ (i 0).val ∧ (i 0).val < m.val + 1; omega
    | 1 => exact ⟨Nat.zero_le _, by have := (i 1).isLt; show (i 1).val < 0 + 112; have h' : (i 1).val < 112 := this; omega⟩
    | 2 => exact ⟨Nat.zero_le _, by have := (i 2).isLt; show (i 2).val < 0 + w; have h' : (i 2).val < w := this; omega⟩

/-- The elements of slot `m`. -/
abbrev slotSet {w : ℕ} (M : Buf16 w) (m : Dev nD) : Finset M.view.ty.Idx := (slot M m).view.set

theorem slotSet_disjoint {w : ℕ} (M : Buf16 w) (m m' : Dev nD) (h : m ≠ m') : Disjoint (slotSet M m) (slotSet M m') := by
  rw [show slotSet M m = _ from View.set_slice .., show slotSet M m' = _ from View.set_slice ..]
  refine (Finset.disjoint_map _).mpr (Finset.disjoint_left.mpr fun i h1 h2 => h (Fin.ext ?_))
  rw [← (mem_slotR m i).mp h1, ← (mem_slotR m' i).mp h2]

theorem slotSet_union {w : ℕ} (M : Buf16 w) (S : Finset (Dev nD)) :
    S.biUnion (slotSet M) = M.view.setOn (Finset.univ.filter fun i : (⟨3, ![16, 112, w]⟩ : Shape).Idx => ∃ m ∈ S, (i 0).val = m.val) := by
  ext x
  rw [Finset.mem_biUnion]
  unfold View.setOn
  rw [Finset.mem_map]
  constructor
  · rintro ⟨m, hm, hx⟩
    rw [show slotSet M m = _ from View.set_slice .., Finset.mem_map] at hx
    obtain ⟨i, hi, rfl⟩ := hx
    exact ⟨i, Finset.mem_filter.mpr ⟨Finset.mem_univ _, m, hm, (mem_slotR m i).mp hi⟩, rfl⟩
  · rintro ⟨i, hi, rfl⟩
    obtain ⟨-, m, hm, he⟩ := Finset.mem_filter.mp hi
    refine ⟨m, hm, ?_⟩
    rw [show slotSet M m = _ from View.set_slice .., Finset.mem_map]
    exact ⟨i, (mem_slotR m i).mpr he, rfl⟩

end sets

/-! ## Eight slots at once -/

section half

/-- The peers whose slots are in half `h`. -/
def halfOf (h : Fin 2) : Finset (Dev nD) := Finset.univ.filter fun i => i.val / 8 = h.val

/-- Slots of one buffer, each at contents of its own, are held together at one contents; -/
theorem slots_join {w : ℕ} (M : Buf16 w) (X : Dev nD → Slot F w) (S : Finset (Dev nD)) (f₀ : Buf (Elt F) (M.view.loc (d : Thread nD τ))) :
    bigSep S (fun i : Dev nD => has d M i (X i))
      ⊢ (iprop(∃ f, ⌜∀ i ∈ S, (slot M i).view.read (Elt F) f = X i⌝ ∗ (M.view.loc (d : Thread nD τ) ↦[S.biUnion (slotSet M)]{fullShare} f)) : sProp 𝕄) := by
  have hdj : ∀ t ∈ S, ∀ t' ∈ S, t ≠ t' → Disjoint (slotSet M t) (slotSet M t') := fun t _ t' _ => slotSet_disjoint M t t'
  unfold has owns
  iintro H
  have : Nonempty (Buf (Elt F) (M.view.loc (d : Thread nD τ))) := ⟨f₀⟩
  ihave H := (bigSep_exists_pi S (fun (i : Dev nD) (f : Buf (Elt F) (M.view.loc (d : Thread nD τ))) =>
    (iprop(⌜(slot M i).view.read (Elt F) f = X i⌝ ∗ (M.view.loc (d : Thread nD τ)) ↦[slotSet M i]{fullShare} f) : sProp 𝕄))) $$ H
  icases H with ⟨%fs, H⟩
  ihave H := (bigSep_pure_sep S (fun i => (slot M i).view.read (Elt F) (fs i) = X i)
    (fun i : Dev nD => (M.view.loc (d : Thread nD τ) ↦[slotSet M i]{fullShare} fs i : sProp 𝕄))) $$ H
  icases H with ⟨%hfs, H⟩
  ihave H := (pointsTo_biUnion_join S (slotSet M) fs f₀ hdj) $$ H
  icases H with ⟨%f, %hf, H⟩
  iexists f
  isplitr
  · ipureintro
    intro i hi
    rw [← hfs i hi]
    exact View.read_congr fun x hx => hf i hi x hx
  iexact H
/-- and back. -/
theorem slots_split {w : ℕ} (M : Buf16 w) (X : Dev nD → Slot F w) (S : Finset (Dev nD)) (f : Buf (Elt F) (M.view.loc (d : Thread nD τ)))
    (hread : ∀ i ∈ S, (slot M i).view.read (Elt F) f = X i) :
    ((M.view.loc (d : Thread nD τ) ↦[S.biUnion (slotSet M)]{fullShare} f) : sProp 𝕄) ⊢ bigSep S (fun i : Dev nD => has d M i (X i)) := by
  refine BIBase.Entails.trans (Entails.of_eq (pointsTo_biUnion (ℓ := M.view.loc (d : Thread nD τ)) (q := fullShare) (f := f) S (slotSet M) fun t _ t' _ => slotSet_disjoint M t t')) (bigSep_mono fun i hi => ?_)
  show _ ⊢ owns (d : Thread nD τ) (slot M i) fullShare (X i)
  rw [← hread i hi]
  exact owns_intro (d : Thread nD τ) (slot M i) fullShare f

theorem load_half (h : Fin 2) {off : Fin 3 → ℕ} (hoff : off = ![8 * h.val, 0, 0]) {p} {hl} {k : Vec F S8x112x1024 .bf16 → PG F α} {Q : α → sProp 𝕄} :
    bigSep (halfOf h) (fun i : Dev nD => has d yrM i ((con I).y i d))
      ⊢ iprop((bigSep (halfOf h) (fun i : Dev nD => has d yrM i ((con I).y i d)) -∗ run d (k (backOf I d h)) Q)
        -∗ run d (.op (.load yrM (Rect.unit (s := S16x112x1024) off S8x112x1024.size p).toLoadRect hl) k) Q) := by
  subst hoff
  have hS : (yrM.access (Rect.unit (s := S16x112x1024) ![8 * h.val, 0, 0] S8x112x1024.size p)).set ⊆ (halfOf h).biUnion (slotSet yrM) := by
    rw [slotSet_union, show (yrM.access (Rect.unit (s := S16x112x1024) ![8 * h.val, 0, 0] S8x112x1024.size p)).set = _ from View.set_slice ..]
    refine Finset.map_subset_map.mpr fun i hi => Finset.mem_filter.mpr ⟨Finset.mem_univ _, ?_⟩
    have hb : 8 * h.val ≤ (i 0).val ∧ (i 0).val < 8 * h.val + 8 := (Rect.mem_set_unit.mp hi) 0
    exact ⟨⟨(i 0).val, (i 0).isLt⟩, Finset.mem_filter.mpr ⟨Finset.mem_univ _, by show (i 0).val / 8 = h.val; omega⟩, rfl⟩
  have hv (f : Buf (Elt F) (yrM.view.loc (d : Thread nD τ))) (hread : ∀ i ∈ halfOf h, (slot yrM i).view.read (Elt F) f = (con I).y i d) :
      (yrM.access (Rect.unit (s := S16x112x1024) ![8 * h.val, 0, 0] S8x112x1024.size p)).read (Elt F) f = backOf I d h := by
    funext i
    have hi0 : (i 0).val < 8 := (i 0).isLt
    have hh : h.val < 2 := h.isLt
    have hm : (⟨8 * h.val + (i 0).val, by show _ < 16; omega⟩ : Dev nD) ∈ halfOf h :=
      Finset.mem_filter.mpr ⟨Finset.mem_univ _, by show (8 * h.val + (i 0).val) / 8 = h.val; omega⟩
    show f _ = (con I).y _ d _
    rw [← hread _ hm]
    show f _ = f _
    congr 1
    funext a
    apply Fin.ext
    match a with
    | 0 => show 8 * h.val + 1 * (i 0).val = (8 * h.val + (i 0).val) + 1 * 0; omega
    | 1 => rfl
    | 2 => rfl
  iintro H Hk
  ihave H := (slots_join (d := d) yrM (fun i => (con I).y i d) (halfOf h) (fun _ => (FloatOps.ofBits .bf16 0#16 : F .bf16))) $$ H
  icases H with ⟨%f, %hf, H⟩
  iapply (wp_load_rect 𝒱₀ (d : Thread nD τ) none Set.univ (m := yrM) (r := Rect.unit (s := S16x112x1024) ![8 * h.val, 0, 0] S8x112x1024.size p) (hl := hl) (k := k) hS) $$ H
  iintro H
  rw [hv f hf]
  iapply Hk
  iapply (slots_split (d := d) yrM (fun i => (con I).y i d) (halfOf h) f hf)
  iexact H

/-- What peer `i` holds once its results are in, the slot apart. -/
theorem Φ_back (I : Dev nD → In F) (d i : Dev nD) : ∃ R : sProp 𝕄, Φ I d 10 i = iprop(has d yrM i ((con I).y i d) ∗ R) := by
  refine ⟨iprop(laneSt (laneX (con I)) d i (stX 10) ∗ laneSt (laneE (con I)) d i (stE 10) ∗ sendDue d 4 i
    ∗ (if i = d then has d ysM d ((con I).y d d) else emp) ∗ zero d 5 i), ?_⟩
  refine equiv_iff.mp ⟨?_, ?_⟩
  · show iprop(_ ∗ _ ∗ (sendDue d 4 i ∗ ((has d yrM i ((con I).y i d) ∗ (if i = d then has d ysM d ((con I).y d d) else emp)) ∗ zero d 5 i))) ⊢ _
    iintro ⟨HX, HE, HS, ⟨⟨H, Hr⟩, Hz⟩⟩
    isplitl [H]; · iexact H
    isplitl [HX]; · iexact HX
    isplitl [HE]; · iexact HE
    isplitl [HS]; · iexact HS
    isplitl [Hr]; · iexact Hr
    iexact Hz
  · show _ ⊢ iprop(_ ∗ _ ∗ (sendDue d 4 i ∗ ((has d yrM i ((con I).y i d) ∗ (if i = d then has d ysM d ((con I).y d d) else emp)) ∗ zero d 5 i)))
    iintro ⟨H, HX, HE, HS, Hr, Hz⟩
    isplitl [HX]; · iexact HX
    isplitl [HE]; · iexact HE
    isplitl [HS]; · iexact HS
    isplitr [Hz]
    · isplitl [H]; · iexact H
      iexact Hr
    iexact Hz

/-- The load of a half of what came back, once its peers' results are in. -/
theorem st_half {Q : α → sProp 𝕄} (h : Fin 2) (hn : 8 * h.val + 8 ≤ n) {off : Fin 3 → ℕ} (hoff : off = ![8 * h.val, 0, 0]) {p} {hl} {k : Vec F S8x112x1024 .bf16 → PG F α}
    (hk : St κ I d g 9 10 n 9 O ⊢ run d (k (backOf I d h)) Q) :
    St κ I d g 9 10 n 9 O ⊢ run d (Prog.lift (.load yrM (Rect.unit (s := S16x112x1024) off S8x112x1024.size p).toLoadRect hl) >>= k) Q := by
  have e : fam (Φ I d) 9 10 n 9 = iprop(bigSep (halfOf h) (fun i : Dev nD => has d yrM i ((con I).y i d))
      ∗ bigSep (halfOf h) (fun i => (Φ_back I d i).choose)
      ∗ bigSep (Finset.univ.filter fun i : Dev nD => ¬ i.val / 8 = h.val) (fun i : Dev nD => Φ I d (if i.val < n then 10 else if i.val = n then 9 else 9) i)) := by
    unfold fam
    rw [BI.bigSep_filter_split Finset.univ (fun i : Dev nD => i.val / 8 = h.val)]
    have e1 : bigSep (Finset.univ.filter fun i : Dev nD => i.val / 8 = h.val) (fun i : Dev nD => Φ I d (if i.val < n then 10 else if i.val = n then 9 else 9) i)
        = bigSep (halfOf h) (fun i : Dev nD => iprop(has d yrM i ((con I).y i d) ∗ (Φ_back I d i).choose)) := by
      refine bigSep_congr fun i hi => ?_
      have hi' := (Finset.mem_filter.mp hi).2
      rw [if_pos (by omega)]
      exact (Φ_back I d i).choose_spec
    rw [e1, bigSep_sep']
    have key (A B D : sProp 𝕄) : BI.sep (iprop(A ∗ B)) D = iprop(A ∗ B ∗ D) := by
      refine equiv_iff.mp ⟨?_, ?_⟩
      · show iprop((A ∗ B) ∗ D) ⊢ iprop(A ∗ B ∗ D)
        iintro ⟨⟨HA, HB⟩, HD⟩
        isplitl [HA]; · iexact HA
        isplitl [HB]; · iexact HB
        iexact HD
      · show iprop(A ∗ B ∗ D) ⊢ iprop((A ∗ B) ∗ D)
        iintro ⟨HA, HB, HD⟩
        isplitr [HD]
        · isplitl [HA]; · iexact HA
          iexact HB
        iexact HD
    exact key _ _ _
  unfold St at hk ⊢
  rw [e] at hk ⊢
  iintro ⟨#Hc, HM, ⟨HF, HR⟩, HO, Hz⟩
  iapply (load_half h hoff) $$ HF
  iintro HF
  iapply hk
  isplitr; · iexact Hc
  isplitl [HM]; · iexact HM
  isplitl [HF HR]
  · isplitl [HF]; · iexact HF
    iexact HR
  isplitl [HO]; · iexact HO
  iexact Hz

end half

/-! ## Windows -/

section windows

/-- A window whose contents `f` come out of the windows and go back. -/
abbrev Acc (I : Dev nD → In F) (d : Dev nD) (g g' : FVec F S1024x1024 .f32) (b : Ref sig .tc) (f f' : b.ty.Contents (Elt F)) : Prop :=
  (Mem I d g : sProp 𝕄) ⊢ iprop(pt d b f ∗ (pt d b f' -∗ Mem I d g'))

theorem acc_rt : Acc I d g g cc0_stg0_0 (I d).rt (I d).rt := by
  unfold Acc Mem
  iintro ⟨H0, Hr⟩; isplitl [H0]; · iexact H0
  iintro H0; isplitl [H0]; · iexact H0
  iexact Hr
theorem acc_x : Acc I d g g cc0_stg1_0 (I d).x (I d).x := by
  unfold Acc Mem
  iintro ⟨H0, H1, Hr⟩; isplitl [H1]; · iexact H1
  iintro H1; isplitl [H0]; · iexact H0
  isplitl [H1]; · iexact H1
  iexact Hr
theorem acc_rw : Acc I d g g cc0_stg2_0 (I d).rw (I d).rw := by
  unfold Acc Mem
  iintro ⟨H0, H1, H2, Hr⟩; isplitl [H2]; · iexact H2
  iintro H2; isplitl [H0]; · iexact H0
  isplitl [H1]; · iexact H1
  isplitl [H2]; · iexact H2
  iexact Hr
theorem acc_sw : Acc I d g g cc0_stg3_0 (I d).sw (I d).sw := by
  unfold Acc Mem
  iintro ⟨H0, H1, H2, H3, Hr⟩; isplitl [H3]; · iexact H3
  iintro H3; isplitl [H0]; · iexact H0
  isplitl [H1]; · iexact H1
  isplitl [H2]; · iexact H2
  isplitl [H3]; · iexact H3
  iexact Hr
theorem acc_ew : Acc I d g g cc0_stg4_0 (I d).ew (I d).ew := by
  unfold Acc Mem
  iintro ⟨H0, H1, H2, H3, H4, Hr⟩; isplitl [H4]; · iexact H4
  iintro H4; isplitl [H0]; · iexact H0
  isplitl [H1]; · iexact H1
  isplitl [H2]; · iexact H2
  isplitl [H3]; · iexact H3
  isplitl [H4]; · iexact H4
  iexact Hr
theorem acc_lt : Acc I d g g cc0_stg5_0 (I d).lt (I d).lt := by
  unfold Acc Mem
  iintro ⟨H0, H1, H2, H3, H4, H5, H6⟩; isplitl [H5]; · iexact H5
  iintro H5; isplitl [H0]; · iexact H0
  isplitl [H1]; · iexact H1
  isplitl [H2]; · iexact H2
  isplitl [H3]; · iexact H3
  isplitl [H4]; · iexact H4
  isplitl [H5]; · iexact H5
  iexact H6
theorem acc_out (g' : FVec F S1024x1024 .f32) : Acc I d g g' cc0_stg6_0 g g' := by
  unfold Acc Mem
  iintro ⟨H0, H1, H2, H3, H4, H5, H6⟩; isplitl [H6]; · iexact H6
  iintro H6; isplitl [H0]; · iexact H0
  isplitl [H1]; · iexact H1
  isplitl [H2]; · iexact H2
  isplitl [H3]; · iexact H3
  isplitl [H4]; · iexact H4
  isplitl [H5]; · iexact H5
  iexact H6

/-- An operation on a window. -/
theorem St_win {j : ℕ} {g' : FVec F S1024x1024 .f32} {b : Ref sig .tc} {f f' : b.ty.Contents (Elt F)} {p q : sProp 𝕄} (acc : Acc I d g g' b f f')
    (core : (pt d b f : sProp 𝕄) ⊢ iprop((pt d b f' -∗ q) -∗ p)) (h : St κ I d g' lo hi n j O ⊢ q) : St κ I d g lo hi n j O ⊢ p := by
  unfold St at h ⊢
  iintro ⟨#Hc, HM, HF, HO, Hz⟩
  ihave HM := acc $$ HM
  icases HM with ⟨Hp, Hb⟩
  iapply core $$ Hp
  iintro Hp
  ihave HM := Hb $$ Hp
  iapply h
  isplitr; · iexact Hc
  isplitl [HM]; · iexact HM
  isplitl [HF]; · iexact HF
  isplitl [HO]; · iexact HO
  iexact Hz

/-- A load of a whole window; -/
theorem st_load {Q : α → sProp 𝕄} {j : ℕ} {i : Fin (sig.nNear .tc .vmem)} {hκ : sig.names .tc .vmem i = true} {f : (⟨.vmem, i, hκ⟩ : Ref sig .tc).ty.Contents (Elt F)}
    (acc : Acc I d g g ⟨.vmem, i, hκ⟩ f f) {off : Fin (⟨.vmem, i, hκ⟩ : Ref sig .tc).ty.shape.rank → ℕ} (hoff : off = fun _ => 0) {p hl} {k : (⟨.vmem, i, hκ⟩ : Ref sig .tc).ty.Contents (Elt F) → PG F α} (h : St κ I d g lo hi n j O ⊢ run d (k f) Q) :
    St κ I d g lo hi n j O ⊢ run d (Prog.lift (.load (Memref.whole ⟨.vmem, i, hκ⟩) (Rect.unit (s := (⟨.vmem, i, hκ⟩ : Ref sig .tc).ty.shape) off (⟨.vmem, i, hκ⟩ : Ref sig .tc).ty.shape.size p).toLoadRect hl) >>= k) Q := by
  refine St_win acc ?_ h
  iintro H Hk
  iapply (wp_load 𝒱₀ (d : Thread nD τ) none Set.univ (m := Memref.whole ⟨.vmem, i, hκ⟩) (r := (Rect.unit off (⟨.vmem, i, hκ⟩ : Ref sig .tc).ty.shape.size p).toLoadRect) (hl := hl) (k := k) (S := Finset.univ) (Finset.subset_univ _)) $$ H
  iintro H
  rw [Memref.readAt_unit_zero (Elt F) ⟨.vmem, i, hκ⟩ hoff p f]
  iapply Hk; iexact H
/-- of one expert's weights; -/
theorem st_loadW {Q : α → sProp 𝕄} {j : ℕ} (e : Fin 4) {off : Fin 3 → ℕ} (hoff : off = ![e.val, 0, 0]) {p hl} {k : Vec F S1x512x1024 .bf16 → PG F α}
    (h : St κ I d g lo hi n j O ⊢ run d (k (ewAt (I d).ew e)) Q) :
    St κ I d g lo hi n j O ⊢ run d (Prog.lift (.load (Memref.whole cc0_stg4_0) (Rect.unit (s := S4x512x1024) off S1x512x1024.size p).toLoadRect hl) >>= k) Q := by
  subst hoff
  refine St_win acc_ew ?_ h
  iintro H Hk
  iapply (wp_load 𝒱₀ (d : Thread nD τ) none Set.univ (m := Memref.whole cc0_stg4_0) (r := (Rect.unit (s := S4x512x1024) ![e.val, 0, 0] S1x512x1024.size p).toLoadRect) (hl := hl) (k := k) (S := Finset.univ) (Finset.subset_univ _)) $$ H
  iintro H
  iapply Hk; iexact H
/-- the store of the result. -/
theorem st_out {Q : α → sProp 𝕄} {j : ℕ} {g' : FVec F S1024x1024 .f32} {off : Fin 2 → ℕ} (hoff : off = fun _ => 0) {p hx hm} {k : PUnit → PG F α}
    (h : St κ I d g' lo hi n j O ⊢ run d (k ⟨⟩) Q) :
    St κ I d g lo hi n j O ⊢ run d (Prog.lift (.store (Memref.whole cc0_stg6_0) (Rect.unit (s := S1024x1024) off S1024x1024.size p) g' Finset.univ hx hm) >>= k) Q := by
  refine St_win (acc_out g') ?_ h
  iintro H Hk
  iapply (wp_store 𝒱₀ (d : Thread nD τ) none Set.univ (m := Memref.whole cc0_stg6_0) (r := Rect.unit (s := S1024x1024) off S1024x1024.size p) (w := g') (Mk := Finset.univ) (hx := hx) (hm := hm) (k := k) (f := g) (S := Finset.univ) (Finset.subset_univ _)) $$ H
  iintro H
  iapply Hk
  rw [show ((Memref.whole cc0_stg6_0).access (Rect.unit (s := S1024x1024) off S1024x1024.size p)).write (Elt F) g g' Finset.univ = g' from
    Memref.write_access_unit_zero_univ (Elt F) cc0_stg6_0 hoff p g g']
  iexact H

end windows

/-! The windows one by one: the tokens' experts, the tokens, the router's weights, the shared expert's weights, the matrix of ones below the
    diagonal, and the result so far. -/

theorem off_zero {off : Fin 2 → ℕ} (h : off = ![0, 0]) : off = fun _ => 0 := h.trans (funext fun a => by fin_cases a <;> rfl)

theorem st_inRt {Q : α → sProp 𝕄} {j : ℕ} {off : Fin 2 → ℕ} (hoff : off = ![0, 0]) {p hl} {k : Vec F S1024x1 .i32 → PG F α}
    (h : St κ I d g lo hi n j O ⊢ run d (k (I d).rt) Q) :
    St κ I d g lo hi n j O ⊢ run d (Prog.lift (.load (Memref.whole cc0_stg0_0) (Rect.unit (s := S1024x1) off S1024x1.size p).toLoadRect hl) >>= k) Q :=
  st_load acc_rt (off_zero hoff) h
theorem st_inX {Q : α → sProp 𝕄} {j : ℕ} {off : Fin 2 → ℕ} (hoff : off = ![0, 0]) {p hl} {k : Vec F S1024x512 .f32 → PG F α}
    (h : St κ I d g lo hi n j O ⊢ run d (k (I d).x) Q) :
    St κ I d g lo hi n j O ⊢ run d (Prog.lift (.load (Memref.whole cc0_stg1_0) (Rect.unit (s := S1024x512) off S1024x512.size p).toLoadRect hl) >>= k) Q :=
  st_load acc_x (off_zero hoff) h
theorem st_inRw {Q : α → sProp 𝕄} {j : ℕ} {off : Fin 2 → ℕ} (hoff : off = ![0, 0]) {p hl} {k : Vec F S512x64 .f32 → PG F α}
    (h : St κ I d g lo hi n j O ⊢ run d (k (I d).rw) Q) :
    St κ I d g lo hi n j O ⊢ run d (Prog.lift (.load (Memref.whole cc0_stg2_0) (Rect.unit (s := S512x64) off S512x64.size p).toLoadRect hl) >>= k) Q :=
  st_load acc_rw (off_zero hoff) h
theorem st_inSw {Q : α → sProp 𝕄} {j : ℕ} {off : Fin 2 → ℕ} (hoff : off = ![0, 0]) {p hl} {k : Vec F S512x1024 .f32 → PG F α}
    (h : St κ I d g lo hi n j O ⊢ run d (k (I d).sw) Q) :
    St κ I d g lo hi n j O ⊢ run d (Prog.lift (.load (Memref.whole cc0_stg3_0) (Rect.unit (s := S512x1024) off S512x1024.size p).toLoadRect hl) >>= k) Q :=
  st_load acc_sw (off_zero hoff) h
theorem st_inLt {Q : α → sProp 𝕄} {j : ℕ} {off : Fin 2 → ℕ} (hoff : off = ![0, 0]) {p hl} {k : Vec F S1024x1024 .bf16 → PG F α}
    (h : St κ I d g lo hi n j O ⊢ run d (k (I d).lt) Q) :
    St κ I d g lo hi n j O ⊢ run d (Prog.lift (.load (Memref.whole cc0_stg5_0) (Rect.unit (s := S1024x1024) off S1024x1024.size p).toLoadRect hl) >>= k) Q :=
  st_load acc_lt (off_zero hoff) h
theorem st_inOut {Q : α → sProp 𝕄} {j : ℕ} {off : Fin 2 → ℕ} (hoff : off = ![0, 0]) {p hl} {k : Vec F S1024x1024 .f32 → PG F α}
    (h : St κ I d g lo hi n j O ⊢ run d (k g) Q) :
    St κ I d g lo hi n j O ⊢ run d (Prog.lift (.load (Memref.whole cc0_stg6_0) (Rect.unit (s := S1024x1024) off S1024x1024.size p).toLoadRect hl) >>= k) Q :=
  st_load (acc_out g) (off_zero hoff) h

end Cert.MoE
-- ==== Proof.Barrier.lean ====
/-
  The barrier: what a device holds while it signals the others, and how the wait turns it into what the exchange starts from.
-/
module

public import proofs.«01_k».proof.Proof.Slots

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {κ : GSem nD τ sig → ℕ} {I : Dev nD → In F} {d : Dev nD}
variable {g : FVec F S1024x1024 .f32} {lo hi n : ℕ} {O : CellTallies nD τ sig Unit} {α : Type}

/-- What a lane holds for peer `i` before the barrier: the slot to fill, the right to credit the peer's landing cell, the right to credit the
    device's own send cell, and the two cells themselves. -/
def laneNew {C : Con F} (ln : Lane C) (d i : Dev nD) : sProp 𝕄 :=
  iprop(free d ln.M i ∗ dutyTok ER (cell i ln.kr d) 0 d ∗ (if i = d then emp else dutyTok ER (cell d ln.ks i) 0 i) ∗ sendNew d ln.ks i ∗ recvNew d ln.kr i)

/-- All three lanes. -/
def peerNew (I : Dev nD → In F) (d i : Dev nD) : sProp 𝕄 :=
  iprop(laneNew (laneX (con I)) d i ∗ laneNew (laneE (con I)) d i ∗ laneNew (laneY (con I)) d i)

/-- The device's landing slots for peer `i`. -/
def landing (d i : Dev nD) : sProp 𝕄 := iprop(free d xrM i ∗ free d erM i ∗ free d yrM i)

/-- What is left to signal from peer `n` on. -/
def toSignal (d : Dev nD) (n : ℕ) : sProp 𝕄 :=
  bigSep (Finset.univ.filter fun i : Dev nD => n ≤ i.val ∧ i ≠ d) fun i => iprop(dutyTok ER (barCell i) 0 d ∗ landing d i)

/-- Between two signals. -/
def StB (κ : GSem nD τ sig → ℕ) (I : Dev nD → In F) (d : Dev nD) (g : FVec F S1024x1024 .f32) (n : ℕ) : sProp 𝕄 :=
  iprop(ctx κ (con I) d ∗ Mem I d g ∗ bigSep Finset.univ (peerNew I d) ∗ landing d d ∗ toSignal d n ∗ ow d (owX d 0 + owe fB d n)
    ∗ cred (tallyAt (barCell d) () 15) ∗ atPos ER (barCell d) 0 ∅ 0)

omit [FloatOps F] in
theorem toSignal_self : (toSignal d d.val : sProp 𝕄) = toSignal d (d.val + 1) := by
  unfold toSignal
  congr 1
  ext p
  simp only [Finset.mem_filter, Finset.mem_univ, true_and]
  constructor
  · rintro ⟨h1, h2⟩; exact ⟨by have : p.val ≠ d.val := fun h => h2 (Fin.ext h); omega, h2⟩
  · rintro ⟨h1, h2⟩; exact ⟨by omega, h2⟩
omit [FloatOps F] in
theorem toSignal_step {m : Dev nD} (h : m ≠ d) :
    (toSignal d m.val : sProp 𝕄) = iprop((dutyTok ER (barCell m) 0 d ∗ landing d m) ∗ toSignal d (m.val + 1)) := by
  unfold toSignal
  have hs : Finset.univ.filter (fun p : Dev nD => m.val ≤ p.val ∧ p ≠ d)
      = insert m (Finset.univ.filter (fun p : Dev nD => m.val + 1 ≤ p.val ∧ p ≠ d)) := by
    ext p
    simp only [Finset.mem_filter, Finset.mem_univ, true_and, Finset.mem_insert]
    constructor
    · rintro ⟨h1, h2⟩
      by_cases hp : p = m
      · exact .inl hp
      · exact .inr ⟨by have : p.val ≠ m.val := fun h => hp (Fin.ext h); omega, h2⟩
    · rintro (rfl | ⟨h1, h2⟩)
      · exact ⟨le_refl _, h⟩
      · exact ⟨by omega, h2⟩
  rw [hs, bigSep_insert (by simp)]
  rfl

/-- The signal of peer `n`. -/
theorem st_signal {Q : α → sProp 𝕄} (hn : n < nD) {c : BitVec 1} (hc : c = neW d ⟨n, hn⟩) {k : PG F α}
    {dv : c = 1#1 → Dev nD} (hdv : ∀ h, dv h = ⟨n, hn⟩) (h : StB κ I d g (n + 1) ⊢ run d k Q) :
    StB κ I d g n ⊢ run d (if h : c = 1#1 then (semSignalWord (dv h) barS 1#32 >>= fun _ => k) else k) Q := by
  by_cases hd : (⟨n, hn⟩ : Dev nD) = d
  · rw [dif_neg (by rw [hc, neW_iff]; exact fun h' => h' hd)]
    refine BIBase.Entails.trans (Entails.of_eq ?_) h
    have e : n = d.val := congrArg Fin.val hd
    subst e
    unfold StB
    rw [toSignal_self, owe_self fB d]
  · have hc1 : c = 1#1 := by rw [hc, neW_iff]; exact hd
    rw [dif_pos hc1]
    have ht : (toSignal d n : sProp 𝕄) = _ := toSignal_step (m := ⟨n, hn⟩) hd
    have ho : owe fB d n = _ := owe_step fB d ⟨n, hn⟩ hd
    show StB κ I d g n ⊢ run d (.op (.semSignal ((dv hc1 : Dev nD) : Thread nD τ) barS 1) fun _ => k) Q
    unfold StB at h ⊢
    rw [ht, ho]
    unfold landing at h ⊢
    iintro ⟨#Hc, HM, HP, HL, ⟨⟨Ht, Hx, He, Hy⟩, HS⟩, HO, Hcr, Ha⟩
    iapply (signal_bar (C := con I) κ (k := fun _ => k) hd (hdv hc1) (O := owX d 0 + (owe fB d (n + 1) + fB ⟨n, hn⟩)) (O' := owX d 0 + owe fB d (n + 1)) (by abel)) $$ [HO Ht Hx He Hy]
    · ihave Hb := (ctx_bar κ d ⟨n, hn⟩) $$ Hc
      icases Hb with ⟨#Hi, #Hr⟩
      isplitr; · iexact Hi
      isplitl [HO]; · iexact HO
      isplitl [Ht]; · iexact Ht
      isplitr [Hr]
      · unfold barPay
        isplitl [Hx]; · iexact Hx
        isplitl [He]; · iexact He
        isplitl [Hy]; · iexact Hy
        isplitr; · iapply (ctx_reached κ d 1 ⟨n, hn⟩); iexact Hc
        isplitr; · iapply (ctx_reached κ d 3 ⟨n, hn⟩); iexact Hc
        iapply (ctx_reached κ d 5 ⟨n, hn⟩); iexact Hc
      iexact Hr
    iintro HO
    iapply h
    isplitr; · iexact Hc
    isplitl [HM]; · iexact HM
    isplitl [HP]; · iexact HP
    isplitl [HL]; · iexact HL
    isplitl [HS]; · iexact HS
    isplitl [HO]; · iexact HO
    isplitl [Hcr]; · iexact Hcr
    iexact Ha

omit [FloatOps F] in
/-- A peer's landing slots complete a lane. -/
theorem lane_begin {C : Con F} (ln : Lane C) (d i : Dev nD) :
    iprop(laneNew ln d i ∗ free i ln.R d ∗ reached ER (cell i ln.kr d) 0) ⊢ laneSt ln d i 0 := by
  unfold laneNew
  show _ ⊢ iprop(free d ln.M i ∗ pend ln d i ∗ sendNew d ln.ks i ∗ recvNew d ln.kr i)
  unfold pend
  iintro ⟨⟨Hf, Ht, Ht', Hs, Hr⟩, HR, Hq⟩
  isplitl [Hf]; · iexact Hf
  isplitl [HR Ht Hq Ht']
  · isplitl [HR]; · iexact HR
    isplitl [Ht]; · iexact Ht
    isplitl [Hq]; · iexact Hq
    iexact Ht'
  isplitl [Hs]; · iexact Hs
  iexact Hr

theorem peer_begin (d i : Dev nD) : iprop(peerNew I d i ∗ barPay d i) ⊢ Φ I d 0 i := by
  unfold peerNew barPay Φ
  iintro ⟨⟨HX, HE, HY⟩, Hx, He, Hy, H1, H3, H5⟩
  isplitl [HX Hx H1]
  · iapply (lane_begin (laneX (con I)) d i)
    isplitl [HX]; · iexact HX
    isplitl [Hx]; · iexact Hx
    iexact H1
  isplitl [HE He H3]
  · iapply (lane_begin (laneE (con I)) d i)
    isplitl [HE]; · iexact HE
    isplitl [He]; · iexact He
    iexact H3
  iapply (lane_begin (laneY (con I)) d i)
  isplitl [HY]; · iexact HY
  isplitl [Hy]; · iexact Hy
  iexact H5

omit [FloatOps F] in
/-- The others' payments and the device's own slots. -/
theorem payments (d : Dev nD) :
    iprop(barPay d d ∗ bigSep (Finset.univ.filter (· ≠ d)) (fun p => barPay d p)) ⊢ (bigSep Finset.univ (barPay d) : sProp 𝕄) := by
  rw [bigSep_erase (Finset.mem_univ d), Finset.filter_ne']
  exact BIBase.Entails.of_eq rfl

/-- The wait for all the others. -/
theorem st_barrier {Q : α → sProp 𝕄} {k : PG F α} (h : St κ I d g 0 4 0 0 (owX d 0) ⊢ run d k Q) :
    StB κ I d g 16 ⊢ run d (semWaitWord barS 15#32 >>= fun _ => k) Q := by
  show StB κ I d g 16 ⊢ run d (.op (.semWait barS 15) fun _ => k) Q
  unfold StB landing
  rw [owe_end, add_zero]
  iintro ⟨#Hc, HM, HP, ⟨Hx, He, Hy⟩, -, HO, Hcr, Ha⟩
  ihave Hb := (ctx_bar κ d d) $$ Hc
  icases Hb with ⟨#Hi, -⟩
  ihave Hl := (ctx_lev κ d) $$ Hc
  icases Hl with ⟨#Hl, -⟩
  iapply (wait_bar (C := con I) κ (k := fun _ => k) (above_owX (by decide) d 0)) $$ [HO Hcr Ha]
  · isplitr; · iexact Hi
    isplitr; · iexact Hl
    isplitl [Hcr]; · iexact Hcr
    isplitl [Ha]; · iexact Ha
    iexact HO
  iintro ⟨HB, Hz, HO⟩
  iapply h
  unfold St
  isplitr; · iexact Hc
  isplitl [HM]; · iexact HM
  isplitl [HP HB Hx He Hy]
  · rw [fam_start]
    iapply (BIBase.Entails.trans (Entails.of_eq (bigSep_sep' Finset.univ (peerNew I d) (barPay d)).symm) (bigSep_mono fun i _ => peer_begin d i))
    isplitl [HP]; · iexact HP
    iapply (payments d)
    isplitl [Hx He Hy]
    · unfold barPay
      isplitl [Hx]; · iexact Hx
      isplitl [He]; · iexact He
      isplitl [Hy]; · iexact Hy
      isplitr; · iapply (ctx_reached κ d 1 d); iexact Hc
      isplitr; · iapply (ctx_reached κ d 3 d); iexact Hc
      iapply (ctx_reached κ d 5 d); iexact Hc
    iexact HB
  isplitl [HO]; · iexact HO
  iexact Hz

end Cert.MoE
-- ==== Proof.Body.lean ====
module

public import proofs.«01_k».proof.Proof.Barrier

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {κ : GSem nD τ sig → ℕ} {I : Dev nD → In F} {d : Dev nD}
variable {g : FVec F S1024x1024 .f32} {lo hi n : ℕ} {O : CellTallies nD τ sig Unit} {α : Type}

/-- The body on the buffers of the launch. -/
abbrev bodyOn : PG F PUnit :=
  cc0__body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11

/-- All slots at `hi`: the next round over the slots begins there. -/
theorem St_turn {lo hi hi' n : ℕ} {O O' : CellTallies nD τ sig Unit} {q : sProp 𝕄} (hn : n = 16) (hO : O = O') (h : St κ I d g hi hi' 0 hi O' ⊢ q) :
    St κ I d g lo hi n lo O ⊢ q := by
  subst hn hO
  have e : fam (Φ I d) lo hi 16 lo = fam (Φ I d) hi hi' 0 hi := (fam_end _ _ _).trans (fam_start _ _ _).symm
  unfold St at h ⊢
  rwa [e]
theorem above_owY (d : Dev nD) (n : ℕ) : Above 2 (owe (fY d) d n) := Above.owe (above_fY (by decide) d) d n

set_option maxHeartbeats 0 in
/-- The body, run at any device: from its first signal to the wait for its last read-out. -/
theorem body_run {Q : PUnit → sProp 𝕄} (h : St κ I d (out3 I d) 10 11 16 10 0 ⊢ Q ⟨⟩) :
    StB κ I d g 0 ⊢ run d (bodyOn (F := F)) Q := by
  unfold bodyOn
  rw [cc0__body_eq_skeleton]; unfold cc0__body_skel
  refine st_bind ?_
  rw [k0_part69_eq_skeleton]; unfold k0_part69_skel
  refine st_bind ?_
  rw [k0_part1_eq_skeleton]; unfold k0_part1_skel
  with_reducible refine st_device ?_
  iterate 8 ((with_reducible refine st_signal (by decide) ?_ (fun _ => ?_) ?_); exact rfl; exact rfl)
  with_reducible refine st_pure ?_
  dsimp only
  with_reducible refine st_bind ?_
  rw [k0_part2_eq_skeleton]; unfold k0_part2_skel
  iterate 8 ((with_reducible refine st_signal (by decide) ?_ (fun _ => ?_) ?_); exact rfl; exact rfl)
  with_reducible refine st_barrier ?_
  refine st_load (acc_rt (I := I) (d := d) (g := g)) ?_ ?_; exact funext fun a => by fin_cases a <;> rfl
  with_reducible refine st_pure ?_
  dsimp only
  with_reducible refine st_bind ?_
  rw [k0_part3_eq_skeleton]; unfold k0_part3_skel
  refine st_load (acc_x (I := I) (d := d) (g := g)) ?_ ?_; exact funext fun a => by fin_cases a <;> rfl
  refine st_load (acc_rw (I := I) (d := d) (g := g)) ?_ ?_; exact funext fun a => by fin_cases a <;> rfl
  refine st_load (acc_lt (I := I) (d := d) (g := g)) ?_ ?_; exact funext fun a => by fin_cases a <;> rfl
  with_reducible refine st_pure ?_
  dsimp only
  repeat (first
    | with_reducible refine St_roll ?_
    | ((with_reducible refine st_storeX (by decide) ?_ ?_ ?_); exact rfl; exact rfl)
    | ((with_reducible refine st_deadX (by decide) ?_ (fun _ => ?_)); exact rfl)
    | ((with_reducible refine st_storeE (by decide) ?_ ?_ ?_); exact rfl; exact rfl)
    | ((with_reducible refine st_deadE (by decide) ?_ (fun _ => ?_)); exact rfl)
    | ((with_reducible refine st_sendXE (by decide) ?_ (fun _ => ?_) (fun _ => ?_) ?_ ?_ ?_ ?_ ?_ (fun _ => ?_) ?_ (fun _ => ?_) ?_)
       exact rfl; exact rfl; exact rfl; exact rfl; exact off3_eq d; exact rfl; exact off3_eq d; exact sem_eq 0 ⟨_, _⟩ rfl _
       exact sem_eq 1 _ (off1_eq d) _; exact sem_eq 2 ⟨_, _⟩ rfl _; exact sem_eq 3 _ (off1_eq d) _)
    | ((with_reducible refine st_hereXE (by decide) ?_ ?_ ?_ ?_ ?_ ?_ ?_ ?_); exact rfl; exact rfl; exact rfl; exact rfl; exact rfl
       exact sem_eq 1 ⟨_, _⟩ rfl _; exact sem_eq 3 ⟨_, _⟩ rfl _)
    | ((with_reducible refine st_inX ?_ ?_); exact rfl)
    | ((with_reducible refine st_inSw ?_ ?_); exact rfl)
    | ((with_reducible refine st_inOut ?_ ?_); exact rfl)
    | ((with_reducible refine st_out ?_ ?_); exact off_zero rfl)
    | ((with_reducible refine st_pure ?_); try dsimp only)
    | ((with_reducible refine st_bind ?_)
       first
      | (rw [k0_part4_eq_skeleton]; unfold k0_part4_skel)
      | (rw [k0_part5_eq_skeleton]; unfold k0_part5_skel)
      | (rw [k0_part6_eq_skeleton]; unfold k0_part6_skel)
      | (rw [k0_part7_eq_skeleton]; unfold k0_part7_skel)
      | (rw [k0_part8_eq_skeleton]; unfold k0_part8_skel)
      | (rw [k0_part9_eq_skeleton]; unfold k0_part9_skel)
      | (rw [k0_part10_eq_skeleton]; unfold k0_part10_skel)
      | (rw [k0_part11_eq_skeleton]; unfold k0_part11_skel)
      | (rw [k0_part12_eq_skeleton]; unfold k0_part12_skel)
      | (rw [k0_part13_eq_skeleton]; unfold k0_part13_skel)
      | (rw [k0_part14_eq_skeleton]; unfold k0_part14_skel)
      | (rw [k0_part15_eq_skeleton]; unfold k0_part15_skel)))
  with_reducible refine St_turn (hi' := 9) (O' := owe (fY d) d 0) ?_ ?_ ?_; exact rfl; exact by unfold owX; rw [owe_end, add_zero]
  repeat (first
    | with_reducible refine St_roll ?_
    | ((with_reducible refine st_waitX (by decide) ?_ ?_ (above_owY d _) ?_); exact sem_eq 1 ⟨_, _⟩ rfl _; exact rfl)
    | ((with_reducible refine st_waitE (by decide) ?_ ?_ (above_owY d _) ?_); exact sem_eq 3 ⟨_, _⟩ rfl _; exact rfl)
    | ((with_reducible refine st_loadX (by decide) ?_ ?_); exact rfl)
    | ((with_reducible refine st_loadE (by decide) ?_ ?_); exact rfl)
    | ((with_reducible refine st_loadW 0 ?_ ?_); exact rfl)
    | ((with_reducible refine st_loadW 1 ?_ ?_); exact rfl)
    | ((with_reducible refine st_loadW 2 ?_ ?_); exact rfl)
    | ((with_reducible refine st_loadW 3 ?_ ?_); exact rfl)
    | ((with_reducible refine st_deadY (by decide) ?_ (fun _ => ?_)); exact rfl)
    | ((with_reducible refine st_storeY (by decide) ?_ ?_ ?_); exact rfl; exact rfl)
    | ((with_reducible refine st_sendY (by decide) ?_ (fun _ => ?_) ?_ ?_ ?_ (fun _ => ?_) ?_); exact rfl; exact rfl; exact rfl; exact off3_eq d
       exact sem_eq 4 ⟨_, _⟩ rfl _; exact sem_eq 5 _ (off1_eq d) _)
    | ((with_reducible refine st_hereY (by decide) ?_ ?_ ?_ ?_ ?_); exact rfl; exact rfl; exact rfl; exact sem_eq 5 ⟨_, _⟩ rfl _)
    | ((with_reducible refine st_pure ?_); try dsimp only)
    | ((with_reducible refine st_bind ?_)
       first
       | (rw [k0_part16_eq_skeleton]; unfold k0_part16_skel)
       | (rw [k0_part17_eq_skeleton]; unfold k0_part17_skel)
       | (rw [k0_part18_eq_skeleton]; unfold k0_part18_skel)
       | (rw [k0_part19_eq_skeleton]; unfold k0_part19_skel)
       | (rw [k0_part20_eq_skeleton]; unfold k0_part20_skel)
       | (rw [k0_part21_eq_skeleton]; unfold k0_part21_skel)
       | (rw [k0_part22_eq_skeleton]; unfold k0_part22_skel)
       | (rw [k0_part23_eq_skeleton]; unfold k0_part23_skel)
       | (rw [k0_part24_eq_skeleton]; unfold k0_part24_skel)
       | (rw [k0_part25_eq_skeleton]; unfold k0_part25_skel)
       | (rw [k0_part26_eq_skeleton]; unfold k0_part26_skel)
       | (rw [k0_part27_eq_skeleton]; unfold k0_part27_skel)
       | (rw [k0_part28_eq_skeleton]; unfold k0_part28_skel)
       | (rw [k0_part29_eq_skeleton]; unfold k0_part29_skel)
       | (rw [k0_part30_eq_skeleton]; unfold k0_part30_skel)
       | (rw [k0_part31_eq_skeleton]; unfold k0_part31_skel)
       | (rw [k0_part32_eq_skeleton]; unfold k0_part32_skel)
       | (rw [k0_part33_eq_skeleton]; unfold k0_part33_skel)
       | (rw [k0_part34_eq_skeleton]; unfold k0_part34_skel)
       | (rw [k0_part35_eq_skeleton]; unfold k0_part35_skel)
       | (rw [k0_part36_eq_skeleton]; unfold k0_part36_skel)
       | (rw [k0_part37_eq_skeleton]; unfold k0_part37_skel)
       | (rw [k0_part38_eq_skeleton]; unfold k0_part38_skel)
       | (rw [k0_part39_eq_skeleton]; unfold k0_part39_skel)
       | (rw [k0_part40_eq_skeleton]; unfold k0_part40_skel)
       | (rw [k0_part41_eq_skeleton]; unfold k0_part41_skel)
       | (rw [k0_part42_eq_skeleton]; unfold k0_part42_skel)
       | (rw [k0_part43_eq_skeleton]; unfold k0_part43_skel)
       | (rw [k0_part44_eq_skeleton]; unfold k0_part44_skel)
       | (rw [k0_part45_eq_skeleton]; unfold k0_part45_skel)
       | (rw [k0_part46_eq_skeleton]; unfold k0_part46_skel)
       | (rw [k0_part47_eq_skeleton]; unfold k0_part47_skel)
       | (rw [k0_part48_eq_skeleton]; unfold k0_part48_skel)
       | (rw [k0_part49_eq_skeleton]; unfold k0_part49_skel)
       | (rw [k0_part50_eq_skeleton]; unfold k0_part50_skel)
       | (rw [k0_part51_eq_skeleton]; unfold k0_part51_skel)
       | (rw [k0_part52_eq_skeleton]; unfold k0_part52_skel)
       | (rw [k0_part53_eq_skeleton]; unfold k0_part53_skel)
       | (rw [k0_part54_eq_skeleton]; unfold k0_part54_skel)
       | (rw [k0_part55_eq_skeleton]; unfold k0_part55_skel)
       | (rw [k0_part56_eq_skeleton]; unfold k0_part56_skel)
       | (rw [k0_part57_eq_skeleton]; unfold k0_part57_skel)
       | (rw [k0_part58_eq_skeleton]; unfold k0_part58_skel)
       | (rw [k0_part59_eq_skeleton]; unfold k0_part59_skel)
       | (rw [k0_part60_eq_skeleton]; unfold k0_part60_skel)
       | (rw [k0_part61_eq_skeleton]; unfold k0_part61_skel)))
  with_reducible refine St_turn (hi' := 10) (O' := 0) ?_ ?_ ?_; exact rfl; exact owe_end _ _
  repeat (first
    | with_reducible refine St_roll ?_
    | ((with_reducible refine st_waitY (by decide) ?_ ?_ ?_); exact sem_eq 5 ⟨_, _⟩ rfl _; exact rfl)
    | ((with_reducible refine st_half 0 (by decide) ?_ ?_); exact rfl)
    | ((with_reducible refine st_half 1 (by decide) ?_ ?_); exact rfl)
    | ((with_reducible refine st_inOut ?_ ?_); exact rfl)
    | ((with_reducible refine st_out ?_ ?_); exact off_zero rfl)
    | ((with_reducible refine st_pure ?_); try dsimp only)
    | ((with_reducible refine st_bind ?_)
       first
       | (rw [k0_part62_eq_skeleton]; unfold k0_part62_skel)
       | (rw [k0_part63_eq_skeleton]; unfold k0_part63_skel)
       | (rw [k0_part64_eq_skeleton]; unfold k0_part64_skel)
       | (rw [k0_part65_eq_skeleton]; unfold k0_part65_skel)
       | (rw [k0_part66_eq_skeleton]; unfold k0_part66_skel)
       | (rw [k0_part67_eq_skeleton]; unfold k0_part67_skel)))
  with_reducible refine St_turn (hi' := 11) (O' := 0) ?_ ?_ ?_; exact rfl; exact rfl
  repeat (first
    | with_reducible refine St_roll ?_
    | ((with_reducible refine st_sent (by decide) ?_ ?_ ?_ ?_ (fun _ => ?_) (fun _ => ?_) (fun _ => ?_) ?_); exact rfl; exact sem_eq 0 ⟨_, _⟩ rfl _
       exact sem_eq 2 ⟨_, _⟩ rfl _; exact sem_eq 4 ⟨_, _⟩ rfl _; exact rfl; exact rfl; exact rfl)
    | ((with_reducible refine st_pure ?_); try dsimp only)
    | ((with_reducible refine st_bind ?_)
       first
       | (rw [k0_part68_eq_skeleton]; unfold k0_part68_skel)))
  exact h
end Cert.MoE
-- ==== Proof.Deal.lean ====
/-
  What the launch deals each device: its tokens, its credits, its cells' opening rights, and how they come together when the
  kernel's own semaphores are in scope.
-/
module

public import proofs.«01_k».proof.Proof.Body

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {κ : GSem nD τ sig → ℕ} {I : Dev nD → In F} {d : Dev nD}
variable {g : FVec F S1024x1024 .f32} {lo hi n : ℕ} {O : CellTallies nD τ sig Unit} {α : Type}

variable {C : Con F}

/-! ## Credits -/

omit [FloatOps F] in
/-- What is not needed may be left. -/
theorem discard (P : sProp 𝕄) : P ⊢ iprop(emp) :=
  BIBase.Entails.trans (Entails.of_eq (BI.equiv_iff.mp sep_emp).symm) sep_elim_right

omit [FloatOps F] in
theorem pairUp {ι : Type} [Fintype ι] {Φ Ψ : ι → sProp 𝕄} :
    iprop(bigSep Finset.univ Φ ∗ bigSep Finset.univ Ψ) ⊢ bigSep Finset.univ (fun c => iprop(Φ c ∗ Ψ c)) := Entails.of_eq (bigSep_sep' _ _ _).symm
omit [FloatOps F] in
theorem apart {ι : Type} [Fintype ι] {Φ Ψ : ι → sProp 𝕄} :
    bigSep Finset.univ (fun c => iprop(Φ c ∗ Ψ c)) ⊢ iprop(bigSep Finset.univ Φ ∗ bigSep Finset.univ Ψ) := Entails.of_eq (bigSep_sep' _ _ _)

/-- What is owed on a cell that only peer `d` of those of `c` names. -/
theorem owe_at {f : Dev nD → CellTallies nD τ sig Unit} {g : GSem nD τ sig} {c d : Dev nD} {n : ℕ}
    (hf : ∀ p, f p g () = if p = d then n else 0) (h : d ≠ c) : owe f c 0 g () = n := by
  unfold owe
  rw [Finset.sum_apply, Finsupp.finsetSum_apply, Finset.sum_congr rfl fun p _ => hf p,
    Finset.sum_ite_eq' _ d fun _ => n, if_pos (Finset.mem_filter.mpr ⟨Finset.mem_univ _, Nat.zero_le _, h⟩)]
theorem owe_none {f : Dev nD → CellTallies nD τ sig Unit} {g : GSem nD τ sig} {c : Dev nD}
    (hf : ∀ p, f p g () = 0) : owe f c 0 g () = 0 := by
  unfold owe
  rw [Finset.sum_apply, Finsupp.finsetSum_apply, Finset.sum_congr rfl fun p _ => hf p, Finset.sum_const_zero]

theorem bar_ne_cell (d p m : Dev nD) (k : Fin 6) : barCell d ≠ cell p k m := fun h => by
  have := congrArg (fun g : GSem nD τ sig => match g.2 with | .reg _ => true | .dma _ => false) h
  exact Bool.noConfusion this
theorem cell_inj {d d' m m' : Dev nD} {k k' : Fin 6} (h : cell d k m = cell d' k' m') : d = d' ∧ k = k' ∧ m = m' := by
  have h1 : d = d' := congrArg (fun g : GSem nD τ sig => g.1.1) h
  have h2 : dsem k m = dsem k' m' := SemLoc.dma.inj (congrArg (fun g : GSem nD τ sig => g.2) h)
  have h3 : 7 + 16 * k.val + m.val = 7 + 16 * k'.val + m'.val := congrArg Fin.val h2
  have hm : m.val < 16 := m.isLt
  have hm' : m'.val < 16 := m'.isLt
  exact ⟨h1, Fin.ext (by omega), Fin.ext (by omega)⟩

theorem tally_cell (p d c i : Dev nD) (k k' : Fin 6) (n : ℕ) :
    (tallyAt (cell p k' c) () n : CellTallies nD τ sig Unit) (cell d k i) () = if p = d ∧ k' = k ∧ c = i then n else 0 := by
  rw [tallyAt_apply]
  refine if_congr ⟨fun h => ?_, fun h => ?_⟩ rfl rfl
  · obtain ⟨h1, h2, h3⟩ := cell_inj h.1; exact ⟨h1.symm, h2.symm, h3.symm⟩
  · exact ⟨by rw [h.1, h.2.1, h.2.2], rfl⟩
theorem tally_bar (p d i : Dev nD) (k : Fin 6) (n : ℕ) :
    (tallyAt (barCell p) () n : CellTallies nD τ sig Unit) (cell d k i) () = 0 := by
  rw [tallyAt_apply, if_neg fun h => bar_ne_cell _ _ _ _ h.1.symm]

theorem fX_at (c p : Dev nD) (g : GSem nD τ sig) : fX c p g () = (tallyAt (cell p 1 c) () NX : CellTallies nD τ sig Unit) g () + (tallyAt (cell p 3 c) () NE : CellTallies nD τ sig Unit) g () := rfl

/-- On a landing cell only the sender named by it owes, the row's credit. -/
theorem owed_cell (d i c : Dev nD) (k : Fin 6) (hk : k.val % 2 = 1) (h : d ≠ i) :
    O₀ c (cell d k i) () = if c = i then rowN k.val else 0 := by
  have hB : owe fB c 0 (cell d k i) () = 0 := owe_none fun p => tally_bar ..
  unfold O₀ owX
  rw [Pi.add_apply, Finsupp.add_apply, Pi.add_apply, Finsupp.add_apply, hB, Nat.add_zero]
  by_cases hc : c = i
  · subst hc
    rw [if_pos rfl]
    obtain h1 | h3 | h5 : k = 1 ∨ k = 3 ∨ k = 5 := by clear hB; revert k; decide
    · subst h1
      rw [owe_none (f := fY c) fun p => by rw [tally_cell]; simp,
        owe_at (f := fX c) (n := rowN 1) (d := d) (fun p => by
          rw [fX_at, tally_cell, tally_cell]; simp [rowN]) h, Nat.zero_add]
      rfl
    · subst h3
      rw [owe_none (f := fY c) fun p => by rw [tally_cell]; simp,
        owe_at (f := fX c) (n := rowN 3) (d := d) (fun p => by
          rw [fX_at, tally_cell, tally_cell]; simp [rowN]) h, Nat.zero_add]
      rfl
    · subst h5
      rw [owe_at (f := fY c) (n := rowN 5) (d := d) (fun p => by rw [tally_cell]; simp [rowN]) h,
        owe_none (f := fX c) fun p => by rw [fX_at, tally_cell, tally_cell]; simp, Nat.add_zero]
      rfl
  · rw [if_neg hc, owe_none (f := fY c) fun p => by rw [tally_cell, if_neg fun h => hc h.2.2],
      owe_none (f := fX c) fun p => by
        rw [fX_at, tally_cell, tally_cell, if_neg fun h => hc h.2.2, if_neg fun h => hc h.2.2]]

/-- On a barrier cell every other device owes one. -/
theorem owed_bar (d c : Dev nD) : O₀ c (barCell d) () = if d ≠ c then 1 else 0 := by
  have hz (p m : Dev nD) (k : Fin 6) (n : ℕ) : (tallyAt (cell p k m) () n : CellTallies nD τ sig Unit) (barCell d) () = 0 := by
    rw [tallyAt_apply, if_neg fun h => bar_ne_cell _ _ _ _ h.1]
  have hb (p : Dev nD) : (fB p) (barCell d) () = if p = d then 1 else 0 := by
    rw [tallyAt_apply]
    exact if_congr ⟨fun h => (congrArg (fun g : GSem nD τ sig => g.1.1) h.1).symm, fun h => ⟨by rw [h], rfl⟩⟩ rfl rfl
  unfold O₀ owX
  rw [Pi.add_apply, Finsupp.add_apply, Pi.add_apply, Finsupp.add_apply, owe_none (f := fY c) fun p => hz ..,
    owe_none (f := fX c) fun p => by rw [fX_at, hz, hz], Nat.zero_add]
  by_cases h : d = c
  · subst h
    rw [if_neg (by simp)]
    unfold owe
    rw [Finset.sum_apply, Finsupp.finsetSum_apply]
    exact Finset.sum_eq_zero fun p hp => by rw [hb, if_neg (Finset.mem_filter.mp hp).2.2]
  · rw [if_pos h]; exact owe_at hb h

theorem launch_cell (d i : Dev nD) (k : Fin 6) (hk : k.val % 2 = 1) (h : d ≠ i) :
    tallyOn (cell d k i) (launchCredit (Pipeline.owing O₀) 0 (cell d k i)) = (tallyAt (cell d k i) () (rowN k.val) : CellTallies nD τ sig Unit) := by
  unfold tallyAt; refine congrArg _ (Finsupp.ext fun u => ?_); cases u
  rw [Pipeline.launchCredit_owing, Finsupp.single_eq_same, Finset.sum_congr rfl fun c _ => owed_cell d i c k hk h,
    Finset.sum_ite_eq' Finset.univ i fun _ => rowN k.val, if_pos (Finset.mem_univ _)]
theorem launch_bar (d : Dev nD) :
    tallyOn (barCell d) (launchCredit (Pipeline.owing O₀) 0 (barCell d)) = (tallyAt (barCell d) () 15 : CellTallies nD τ sig Unit) := by
  unfold tallyAt; refine congrArg _ (Finsupp.ext fun u => ?_); cases u
  rw [Pipeline.launchCredit_owing, Finsupp.single_eq_same, Finset.sum_congr rfl fun c _ => owed_bar d c]
  revert d; decide

/-- The credit of a landing cell that a peer owes. -/
def credOf (d : Dev nD) (p : Fin 6 × Dev nD) : sProp 𝕄 :=
  if p.1.val % 2 = 1 ∧ d ≠ p.2 then cred (tallyAt (cell d p.1 p.2) () (rowN p.1.val)) else iprop(emp)

def semEmb : Fin 6 × Dev nD ↪ SemLoc sig := ⟨fun p => .dma (dsem p.1 p.2), fun p q h => by
  obtain ⟨-, h1, h2⟩ := cell_inj (d := 0) (d' := 0) (congrArg (fun s => (((0 : Dev nD) : Thread nD τ), s)) h)
  exact Prod.ext h1 h2⟩

omit [FloatOps F] in
theorem creds (d : Dev nD) : (Pipeline.launchCred O₀ d : sProp 𝕄) ⊢ iprop(cred (tallyAt (barCell d) () 15) ∗ bigSep Finset.univ (credOf d)) := by
  unfold Pipeline.launchCred
  rw [bigSep_univ_at _ (SemLoc.reg barS), launch_bar]
  refine sep_mono_right ?_
  refine (bigSep_subset (t := Finset.univ.map semEmb) fun s hs => ?_).trans ?_
  · obtain ⟨p, -, rfl⟩ := Finset.mem_map.mp hs
    exact Finset.mem_erase.mpr ⟨fun h => bar_ne_cell d d p.2 p.1 (congrArg (fun s => ((d : Thread nD τ), s)) h.symm), Finset.mem_univ _⟩
  · rw [bigSep_map]
    refine bigSep_mono fun p _ => ?_
    unfold credOf
    split_ifs with h
    · exact Entails.of_eq (congrArg cred (launch_cell d p.2 p.1 h.1 h.2))
    · exact discard _

/-! ## Tokens -/

/-- The duty a device has a token for: on a landing cell the sender, on a send cell the device itself. -/
def tokOf (d : Dev nD) (p : Fin 6 × Dev nD) : sProp 𝕄 :=
  if p.1.val % 2 = 1 then dutyTok ER (cell p.2 p.1 d) 0 d else dutyTok ER (cell d p.1 p.2) 0 p.2

/-- A cell in the protocol, and a landing cell's credit; for the device's own send cells only the counter. -/
def cellNew (d : Dev nD) (p : Fin 6 × Dev nD) : sProp 𝕄 := if p.1.val % 2 = 1 then recvNew d p.1 p.2 else sendNew d p.1 p.2

/-- What a device holds from launch until its own semaphores come into scope, -/
def dealt (d : Dev nD) : sProp 𝕄 :=
  iprop(atPos ER (barCell d) 0 ∅ 0 ∗ bigSep Finset.univ (fun p : Fin 6 × Dev nD => openTok ER (cell d p.1 p.2)) ∗ bigSep Finset.univ (tokOf d)
    ∗ bigSep Finset.univ (fun i : Dev nD => dutyTok ER (barCell i) 0 d) ∗ cred (tallyAt (barCell d) () 15) ∗ bigSep Finset.univ (credOf d))
/-- and what it holds then. -/
def opened (C : Con F) (d : Dev nD) : sProp 𝕄 :=
  iprop(∃ κ, ctx κ C d ∗ atPos ER (barCell d) 0 ∅ 0 ∗ bigSep Finset.univ (fun p : Fin 6 × Dev nD => iprop(tokOf d p ∗ cellNew d p))
    ∗ bigSep Finset.univ (fun i : Dev nD => dutyTok ER (barCell i) 0 d) ∗ cred (tallyAt (barCell d) () 15))

omit [FloatOps F] in
theorem recv_new (d : Dev nD) (p : Fin 6 × Dev nD) (hk : p.1.val % 2 = 1) :
    iprop(atPos ER (cell d p.1 p.2) 0 ∅ 0 ∗ credOf d p) ⊢ (recvNew d p.1 p.2 : sProp 𝕄) := by
  unfold recvNew credOf
  refine sep_mono_right ?_
  by_cases hd : p.2 = d
  · rw [if_pos hd]; exact discard _
  · rw [if_neg hd, if_pos ⟨hk, fun h => hd h.symm⟩]

omit [FloatOps F] in
/-- One cell comes into the protocol. -/
theorem open_cell (d : Dev nD) (p : Fin 6 × Dev nD) :
    iprop(shared κ C ∗ (openTok ER (cell d p.1 p.2) ∗ semVal (cell d p.1 p.2) 0) ∗ credOf d p)
      ⊢ |={Set.univ}=> (iprop(reached ER (cell d p.1 p.2) 0 ∗ cellNew d p) : sProp 𝕄) := by
  have hI : shared κ C ⊢ iv C κ (cell d p.1 p.2) := by
    unfold shared
    refine (sep_elim_right.trans sep_elim_left).trans ?_
    exact bigSep_elim (s := Finset.univ) (Φ := fun q : Dev nD × Fin 6 × Dev nD => iv C κ (cell q.1 q.2.1 q.2.2)) (Finset.mem_univ (d, p.1, p.2))
  iintro ⟨Hs, ⟨Ho, Hv⟩, Hc⟩
  ihave HI := hI $$ Hs
  icases HI with #I
  imod (Rounds.cell_open ER (Rd C) (g := cell d p.1 p.2) (Set.mem_univ (κ (cell d p.1 p.2)))) $$ [Ho Hv] with ⟨Ha, #Hr⟩
  · isplitr; · iexact I
    isplitl [Ho] <;> iassumption
  unfold cellNew
  by_cases hk : p.1.val % 2 = 1
  · rw [if_pos hk]
    imodintro
    isplitr; · iexact Hr
    iapply (recv_new d p hk)
    isplitl [Ha] <;> iassumption
  · rw [if_neg hk]
    unfold sendNew zero
    by_cases hd : p.2 = d
    · rw [if_pos hd]
      imod (Rounds.cell_close ER (Rd C) (Set.mem_univ (κ (cell d p.1 p.2))) (fun h => h) (R := 0) (g := cell d p.1 p.2)
        (fun r _ => by rw [hd]; exact duties_self C d p.1 (by omega) r)) $$ [Ha] with Hz
      · isplitr; · iexact I
        iexact Ha
      imodintro
      isplitr; · iexact Hr
      iexact Hz
    · rw [if_neg hd]
      imodintro
      isplitr; · iexact Hr
      iexact Ha

omit [FloatOps F] in
/-- All of them. -/
theorem open_all (d : Dev nD) :
    iprop((∃ κ, shared κ C ∗ dealt d) ∗ bigSep Finset.univ (fun p : Fin 6 × Dev nD => semVal (cell d p.1 p.2) 0))
      ⊢ |={Set.univ}=> (opened C d : sProp 𝕄) := by
  have hall (κ : GSem nD τ sig → ℕ) : iprop(shared κ C ∗ bigSep Finset.univ (fun p : Fin 6 × Dev nD => iprop((openTok ER (cell d p.1 p.2) ∗ semVal (cell d p.1 p.2) 0) ∗ credOf d p)))
      ⊢ |={Set.univ}=> (bigSep Finset.univ (fun p : Fin 6 × Dev nD => iprop(reached ER (cell d p.1 p.2) 0 ∗ cellNew d p)) : sProp 𝕄) :=
    (bigSep_with_persistent (R := shared κ C) (Φ := fun p : Fin 6 × Dev nD => iprop((openTok ER (cell d p.1 p.2) ∗ semVal (cell d p.1 p.2) 0) ∗ credOf d p))
      fun p _ => open_cell d p).trans (bigSep_fupd _ _)
  unfold dealt opened
  iintro ⟨⟨%κ, #Hs, Ha, Ho, Ht, Hb, Hc, Hr⟩, Hv⟩
  ihave H := pairUp $$ [Ho Hv]
  · isplitl [Ho] <;> iassumption
  ihave H := pairUp $$ [H Hr]
  · isplitl [H] <;> iassumption
  imod (hall κ) $$ [H] with H
  · isplitr; · iexact Hs
    iexact H
  ihave H := apart $$ H
  icases H with ⟨#Hreach, Hn⟩
  imodintro
  iexists κ
  isplitr
  · unfold ctx
    isplitr; · iexact Hs
    iexact Hreach
  isplitl [Ha]; · iexact Ha
  isplitl [Ht Hn]
  · iapply pairUp; isplitl [Ht] <;> iassumption
  isplitl [Hb] <;> iassumption

end Cert.MoE
-- ==== Proof.Fund.lean ====
/-
  The launch: the protocol's ghost state is made for all cells at once and dealt out to the devices.
-/
module

public import proofs.«01_k».proof.Proof.Deal

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {κ : GSem nD τ sig → ℕ} {I : Dev nD → In F} {d : Dev nD}
variable {g : FVec F S1024x1024 .f32} {lo hi n : ℕ} {O : CellTallies nD τ sig Unit} {α : Type}

variable {C : Con F}

omit [FloatOps F] in
theorem both {ι : Type} [DecidableEq ι] {s t : Finset ι} (h : Disjoint s t) {Φ : ι → sProp 𝕄} :
    bigSep (s ∪ t) Φ = iprop(bigSep s Φ ∗ bigSep t Φ) := bigSep_union h

/-- The barrier cells, live from launch, -/
def barEmb : Dev nD ↪ GSem nD τ sig := ⟨fun d => barCell d, fun _ _ h => congrArg (fun g : GSem nD τ sig => g.1.1) h⟩
/-- and the others, not yet in scope. -/
def cellEmb : Dev nD × Fin 6 × Dev nD ↪ GSem nD τ sig := ⟨fun p => cell p.1 p.2.1 p.2.2, fun _ _ h => by
  obtain ⟨h1, h2, h3⟩ := cell_inj h; exact Prod.ext h1 (Prod.ext h2 h3)⟩
def barCells : Finset (GSem nD τ sig) := Finset.univ.map barEmb
def scCells : Finset (GSem nD τ sig) := Finset.univ.map cellEmb

theorem cells_disjoint : Disjoint barCells scCells := Finset.disjoint_left.mpr fun g h1 h2 => by
  obtain ⟨d, -, rfl⟩ := Finset.mem_map.mp h1
  obtain ⟨p, -, h⟩ := Finset.mem_map.mp h2
  exact bar_ne_cell _ _ _ _ h.symm

/-- The duty of a barrier cell named by a device, -/
def barTok : Dev nD × Dev nD ↪ GSem nD τ sig × ℕ × Dev nD := ⟨fun p => (barCell p.2, 0, p.1), fun p q h =>
  Prod.ext (congrArg (fun x : GSem nD τ sig × ℕ × Dev nD => x.2.2) h) (congrArg (fun x : GSem nD τ sig × ℕ × Dev nD => x.1.1.1) h)⟩
/-- and the one duty of a cell. -/
def cellTok : Dev nD × Fin 6 × Dev nD ↪ GSem nD τ sig × ℕ × Dev nD := ⟨fun p => (cell p.1 p.2.1 p.2.2, 0, p.2.2), fun _ _ h =>
  cellEmb.injective (congrArg (fun x : GSem nD τ sig × ℕ × Dev nD => x.1) h)⟩
def toks : Finset (GSem nD τ sig × ℕ × Dev nD) := Finset.univ.map barTok ∪ Finset.univ.map cellTok

theorem toks_disjoint : Disjoint (Finset.univ.map barTok) (Finset.univ.map cellTok) := Finset.disjoint_left.mpr fun g h1 h2 => by
  obtain ⟨d, -, rfl⟩ := Finset.mem_map.mp h1
  obtain ⟨p, -, h⟩ := Finset.mem_map.mp h2
  exact bar_ne_cell _ _ _ _ (congrArg (fun x : GSem nD τ sig × ℕ × Dev nD => x.1) h).symm

/-- A landing cell's token belongs to the sender. -/
def holder : Dev nD × Fin 6 × Dev nD ≃ Dev nD × Fin 6 × Dev nD where
  toFun p := if p.2.1.val % 2 = 1 then (p.2.2, p.2.1, p.1) else p
  invFun p := if p.2.1.val % 2 = 1 then (p.2.2, p.2.1, p.1) else p
  left_inv p := by
    by_cases h : p.2.1.val % 2 = 1
    · simp [h]
    · simp [h]
  right_inv p := by
    by_cases h : p.2.1.val % 2 = 1
    · simp [h]
    · simp [h]

omit [FloatOps F] in
theorem toks_dealt : bigSep toks (fun x => dutyTok ER x.1 x.2.1 x.2.2)
    ⊢ (bigSep Finset.univ (fun d : Dev nD => iprop(bigSep Finset.univ (tokOf d) ∗ bigSep Finset.univ (fun i : Dev nD => dutyTok ER (barCell i) 0 d))) : sProp 𝕄) := by
  have h1 : bigSep (Finset.univ.map barTok) (fun x => (dutyTok ER x.1 x.2.1 x.2.2 : sProp 𝕄))
      = bigSep Finset.univ (fun d : Dev nD => bigSep Finset.univ (fun i : Dev nD => dutyTok ER (barCell i) 0 d)) := by
    rw [bigSep_map, bigSep_univ_prod]; rfl
  have h2 : bigSep (Finset.univ.map cellTok) (fun x => (dutyTok ER x.1 x.2.1 x.2.2 : sProp 𝕄))
      = bigSep Finset.univ (fun d : Dev nD => bigSep Finset.univ (tokOf d)) := by
    rw [bigSep_map, bigSep_univ_equiv holder, bigSep_univ_prod]
    refine bigSep_congr fun d _ => bigSep_congr fun p _ => ?_
    unfold tokOf
    by_cases h : p.1.val % 2 = 1
    · rw [if_pos h, show holder (d, p) = (p.2, p.1, d) from if_pos h]; rfl
    · rw [if_neg h, show holder (d, p) = (d, p) from if_neg h]; rfl
  unfold toks
  rw [both toks_disjoint, h1, h2]
  iintro ⟨Hb, Hc⟩
  iapply pairUp
  isplitl [Hc] <;> iassumption

omit [FloatOps F] in
theorem dealt_intro (κ : GSem nD τ sig → ℕ) (d : Dev nD) :
    iprop(shared κ C ∗ (atPos ER (barCell d) 0 ∅ 0 ∗ bigSep Finset.univ (fun p : Fin 6 × Dev nD => openTok ER (cell d p.1 p.2))
        ∗ (bigSep Finset.univ (tokOf d) ∗ bigSep Finset.univ (fun i : Dev nD => dutyTok ER (barCell i) 0 d))
        ∗ (cred (tallyAt (barCell d) () 15) ∗ bigSep Finset.univ (credOf d))))
      ⊢ (iprop(∃ κ, shared κ C ∗ dealt d) : sProp 𝕄) := by
  unfold dealt
  iintro ⟨Hs, Ha, Ho, ⟨Ht, Hb⟩, Hc, Hr⟩
  iexists κ
  isplitl [Hs]; · iexact Hs
  isplitl [Ha]; · iexact Ha
  isplitl [Ho]; · iexact Ho
  isplitl [Ht]; · iexact Ht
  isplitl [Hb]; · iexact Hb
  isplitl [Hc] <;> iassumption

omit [FloatOps F] in
theorem shared_intro (κ : GSem nD τ sig → ℕ) :
    iprop(bigSep (barCells ∪ scCells) (fun g => iv C κ g) ∗ bigSep barCells (fun g => reached ER g 0) ∗ levAts L lv) ⊢ (shared κ C : sProp 𝕄) := by
  have e1 : bigSep barCells (fun g => iv C κ g) = bigSep Finset.univ (fun d : Dev nD => iv C κ (barCell d)) := by
    unfold barCells; rw [bigSep_map]; rfl
  have e2 : bigSep scCells (fun g => iv C κ g) = bigSep Finset.univ (fun p : Dev nD × Fin 6 × Dev nD => iv C κ (cell p.1 p.2.1 p.2.2)) := by
    unfold scCells; rw [bigSep_map]; rfl
  have e3 : bigSep barCells (fun g => (reached ER g 0 : sProp 𝕄)) = bigSep Finset.univ (fun d : Dev nD => reached ER (barCell d) 0) := by
    unfold barCells; rw [bigSep_map]; rfl
  rw [both cells_disjoint, e1, e2, e3]
  unfold shared
  iintro ⟨⟨Hb, Hc⟩, Hr, Hl⟩
  isplitl [Hb Hr]
  · iapply pairUp
    isplitl [Hb] <;> iassumption
  isplitl [Hc] <;> iassumption

omit [FloatOps F] in
/-- What the launch deals. -/
theorem fund (C : Con F) :
    iprop(bigSep Finset.univ (fun d : Dev nD => semVal (barCell d) 0) ∗ BI.own (ER (launchOf barCells scCells toks)) ∗ levAts L lv
        ∗ bigSep Finset.univ (fun d : Dev nD => Pipeline.launchCred O₀ d))
      ⊢ |={Set.univ}=> (bigSep Finset.univ (fun d : Dev nD => iprop(∃ κ, shared κ C ∗ dealt d)) : sProp 𝕄) := by
  have hv : bigSep Finset.univ (fun d : Dev nD => (semVal (barCell d) 0 : sProp 𝕄)) ⊢ bigSep barCells (fun g => (semVal g 0 : sProp 𝕄)) :=
    Entails.of_eq (by unfold barCells; rw [bigSep_map]; rfl)
  have hat : bigSep barCells (fun g => (atPos ER g 0 ∅ 0 : sProp 𝕄)) ⊢ bigSep Finset.univ (fun d : Dev nD => (atPos ER (barCell d) 0 ∅ 0 : sProp 𝕄)) :=
    Entails.of_eq (by unfold barCells; rw [bigSep_map]; rfl)
  have hopen : bigSep scCells (fun g => (openTok ER g : sProp 𝕄))
      ⊢ bigSep Finset.univ (fun d : Dev nD => bigSep Finset.univ (fun p : Fin 6 × Dev nD => (openTok ER (cell d p.1 p.2) : sProp 𝕄))) :=
    Entails.of_eq (by unfold scCells; rw [bigSep_map, bigSep_univ_prod]; rfl)
  have hcred : bigSep Finset.univ (fun d : Dev nD => (Pipeline.launchCred O₀ d : sProp 𝕄))
      ⊢ bigSep Finset.univ (fun d : Dev nD => (iprop(cred (tallyAt (barCell d) () 15) ∗ bigSep Finset.univ (credOf d)) : sProp 𝕄)) :=
    bigSep_mono fun d _ => creds d
  iintro ⟨Hv, Hu, #Hl, Hc⟩
  imod (Rounds.fund_launch ER (Rd C) cells_disjoint (fun g _ h => h) toks) $$ [Hv Hu] with ⟨%κ, -, #Hinv, #Hr, Hat, Hopen, Htok⟩
  · isplitl [Hv]
    · iapply hv $$ Hv
    · iexact Hu
  ihave Hs := (shared_intro κ (C := C)) $$ []
  · isplitr; · iexact Hinv
    isplitr; · iexact Hr
    iexact Hl
  icases Hs with #Hs
  imodintro
  iapply (bigSep_with_persistent (R := shared κ C) fun d _ => dealt_intro κ d)
  isplitr; · iexact Hs
  iapply pairUp; isplitl [Hat]; · iapply hat $$ Hat
  iapply pairUp; isplitl [Hopen]; · iapply hopen $$ Hopen
  iapply pairUp; isplitl [Htok]; · iapply toks_dealt $$ Htok
  iapply hcred $$ Hc

end Cert.MoE
-- ==== Proof.Start.lean ====
/-
  The kernel body as the launch asks for it: its windows and scratch buffers at entry are the state the body starts from, and the state
  it ends in gives them back.
-/
module

public import proofs.«01_k».proof.Proof.Fund

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {κ : GSem nD τ sig → ℕ} {I : Dev nD → In F} {d : Dev nD}
variable {g : FVec F S1024x1024 .f32} {lo hi n : ℕ} {O : CellTallies nD τ sig Unit} {α : Type}

variable {C : Con F}

/-! ## The scratch buffers -/

omit [FloatOps F] in
theorem whole_slots {w : ℕ} (M : Buf16 w) : Finset.univ.biUnion (slotSet M) = M.view.set := by
  rw [slotSet_union]
  unfold View.setOn View.set
  congr 1
  exact Finset.filter_true_of_mem fun i _ => ⟨i 0, Finset.mem_univ _, rfl⟩

/-- A whole buffer is its sixteen slots, -/
theorem to_slots {w : ℕ} (M : Buf16 w) (hM : M.view.set = Finset.univ) (f : Buf (Elt F) (M.view.loc (d : Thread nD τ))) :
    ((M.view.loc (d : Thread nD τ) ↦{fullShare} f) : sProp 𝕄) ⊢ bigSep Finset.univ (fun i : Dev nD => free d M i) := by
  refine BIBase.Entails.trans (Q := bigSep Finset.univ fun i : Dev nD => has d M i ((slot M i).view.read (Elt F) f)) ?_ (bigSep_mono fun i _ => ?_)
  · refine BIBase.Entails.trans (Entails.of_eq ?_) (slots_split M (fun i => (slot M i).view.read (Elt F) f) Finset.univ f fun _ _ => rfl)
    rw [whole_slots, hM]
  · show _ ⊢ iprop(∃ X : Slot F w, has d M i X)
    iintro H; iexists ((slot M i).view.read (Elt F) f); iexact H
/-- and back. -/
theorem of_slots {w : ℕ} (M : Buf16 w) (hM : M.view.set = Finset.univ) (f₀ : Buf (Elt F) (M.view.loc (d : Thread nD τ))) (X : Dev nD → Slot F w) :
    bigSep Finset.univ (fun i : Dev nD => has d M i (X i)) ⊢ (iprop(∃ f, (M.view.loc (d : Thread nD τ) ↦{fullShare} f)) : sProp 𝕄) := by
  refine (slots_join M X Finset.univ f₀).trans ?_
  rw [whole_slots, hM]
  iintro ⟨%f, -, H⟩
  iexists f; iexact H

/-! ## What the body starts from -/

omit [FloatOps F] in
theorem rows (Φ : Fin 6 × Dev nD → sProp 𝕄) : bigSep Finset.univ Φ
    = iprop(bigSep Finset.univ (fun i => Φ (0, i)) ∗ bigSep Finset.univ (fun i => Φ (1, i)) ∗ bigSep Finset.univ (fun i => Φ (2, i))
        ∗ bigSep Finset.univ (fun i => Φ (3, i)) ∗ bigSep Finset.univ (fun i => Φ (4, i)) ∗ bigSep Finset.univ (fun i => Φ (5, i))) := by
  rw [bigSep_univ_prod, bigSep_univ_eq_bigSepL [0, 1, 2, 3, 4, 5] (by decide) (by decide)]
  rfl

/-- A lane's tokens and cells. -/
def laneKit (ks kr : Fin 6) (d i : Dev nD) : sProp 𝕄 :=
  iprop((tokOf d (ks, i) ∗ cellNew d (ks, i)) ∗ (tokOf d (kr, i) ∗ cellNew d (kr, i)))

omit [FloatOps F] in
theorem lane_intro (ln : Lane C) (d i : Dev nD) : iprop(free d ln.M i ∗ laneKit ln.ks ln.kr d i) ⊢ (laneNew ln d i : sProp 𝕄) := by
  have hs : ¬ ln.ks.val % 2 = 1 := by rw [ln.even]; decide
  have e1 : tokOf (F := F) d (ln.ks, i) = dutyTok ER (cell d ln.ks i) 0 i := if_neg hs
  have e2 : cellNew (F := F) d (ln.ks, i) = sendNew d ln.ks i := if_neg hs
  have e3 : tokOf (F := F) d (ln.kr, i) = dutyTok ER (cell i ln.kr d) 0 d := if_pos ln.odd
  have e4 : cellNew (F := F) d (ln.kr, i) = recvNew d ln.kr i := if_pos ln.odd
  have e5 : (dutyTok ER (cell d ln.ks i) 0 i : sProp 𝕄) ⊢ if i = d then emp else dutyTok ER (cell d ln.ks i) 0 i := by
    split_ifs
    · exact discard _
    · exact .rfl
  unfold laneKit laneNew
  rw [e1, e2, e3, e4]
  iintro ⟨Hf, ⟨Hs, Hsn⟩, Hr, Hrn⟩
  isplitl [Hf]; · iexact Hf
  isplitl [Hr]; · iexact Hr
  isplitl [Hs]; · iapply e5 $$ Hs
  isplitl [Hsn] <;> iassumption

omit [FloatOps F] in
theorem kits (d : Dev nD) : bigSep Finset.univ (fun p : Fin 6 × Dev nD => iprop(tokOf d p ∗ cellNew d p))
    ⊢ (iprop(bigSep Finset.univ (laneKit 0 1 d) ∗ bigSep Finset.univ (laneKit 2 3 d) ∗ bigSep Finset.univ (laneKit 4 5 d)) : sProp 𝕄) := by
  rw [rows]
  iintro ⟨H0, H1, H2, H3, H4, H5⟩
  unfold laneKit
  isplitl [H0 H1]
  · iapply pairUp; isplitl [H0] <;> iassumption
  isplitl [H2 H3]
  · iapply pairUp; isplitl [H2] <;> iassumption
  · iapply pairUp; isplitl [H4] <;> iassumption

omit [FloatOps F] in
theorem lanes_intro (ln : Lane C) (d : Dev nD) :
    iprop(bigSep Finset.univ (fun i : Dev nD => free d ln.M i) ∗ bigSep Finset.univ (laneKit ln.ks ln.kr d)) ⊢ (bigSep Finset.univ (laneNew ln d) : sProp 𝕄) :=
  pairUp.trans (bigSep_mono fun i _ => lane_intro ln d i)

/-- The six scratch buffers at any contents. -/
def scratch (d : Dev nD) : sProp 𝕄 :=
  iprop((∃ f, (dxM.view.loc (d : Thread nD τ) ↦{fullShare} f)) ∗ (∃ f, (deM.view.loc (d : Thread nD τ) ↦{fullShare} f))
    ∗ (∃ f, (xrM.view.loc (d : Thread nD τ) ↦{fullShare} f)) ∗ (∃ f, (erM.view.loc (d : Thread nD τ) ↦{fullShare} f))
    ∗ (∃ f, (ysM.view.loc (d : Thread nD τ) ↦{fullShare} f)) ∗ (∃ f, (yrM.view.loc (d : Thread nD τ) ↦{fullShare} f)))

/-- What the body holds at entry besides its windows and what it owes. -/
def start (I : Dev nD → In F) (d : Dev nD) : sProp 𝕄 :=
  iprop(∃ κ, ctx κ (con I) d ∗ bigSep Finset.univ (peerNew I d) ∗ landing d d ∗ toSignal d 0
    ∗ cred (tallyAt (barCell d) () 15) ∗ atPos ER (barCell d) 0 ∅ 0)

omit [FloatOps F] in
theorem landings (d : Dev nD) :
    iprop(bigSep Finset.univ (landing d) ∗ bigSep Finset.univ (fun i : Dev nD => dutyTok ER (barCell i) 0 d)) ⊢ (iprop(landing d d ∗ toSignal d 0) : sProp 𝕄) := by
  unfold toSignal
  rw [show Finset.univ.filter (fun i : Dev nD => 0 ≤ i.val ∧ i ≠ d) = Finset.univ.erase d by ext i; simp]
  rw [bigSep_univ_at (landing d) d, bigSep_univ_at (fun i : Dev nD => dutyTok ER (barCell i) 0 d) d, bigSep_sep']
  iintro ⟨⟨H, Hl⟩, -, Ht⟩
  isplitl [H]; · iexact H
  isplitl [Ht] <;> iassumption

/-- The start, out of the scratch buffers and what has been opened. -/
theorem start_intro (I : Dev nD → In F) (d : Dev nD) : iprop(scratch d ∗ opened (con I) d) ⊢ start I d := by
  have hl : iprop(bigSep Finset.univ (fun i : Dev nD => free d xrM i) ∗ bigSep Finset.univ (fun i : Dev nD => free d erM i) ∗ bigSep Finset.univ (fun i : Dev nD => free d yrM i))
      ⊢ (bigSep Finset.univ (landing d) : sProp 𝕄) := (sep_mono_right pairUp).trans pairUp
  have hp : iprop(bigSep Finset.univ (laneNew (laneX (con I)) d) ∗ bigSep Finset.univ (laneNew (laneE (con I)) d) ∗ bigSep Finset.univ (laneNew (laneY (con I)) d))
      ⊢ bigSep Finset.univ (peerNew I d) := (sep_mono_right pairUp).trans pairUp
  have hX : iprop(bigSep Finset.univ (fun i : Dev nD => free d dxM i) ∗ bigSep Finset.univ (laneKit 0 1 d)) ⊢ (bigSep Finset.univ (laneNew (laneX (con I)) d) : sProp 𝕄) := lanes_intro (laneX (con I)) d
  have hE : iprop(bigSep Finset.univ (fun i : Dev nD => free d deM i) ∗ bigSep Finset.univ (laneKit 2 3 d)) ⊢ (bigSep Finset.univ (laneNew (laneE (con I)) d) : sProp 𝕄) := lanes_intro (laneE (con I)) d
  have hY : iprop(bigSep Finset.univ (fun i : Dev nD => free d ysM i) ∗ bigSep Finset.univ (laneKit 4 5 d)) ⊢ (bigSep Finset.univ (laneNew (laneY (con I)) d) : sProp 𝕄) := lanes_intro (laneY (con I)) d
  unfold scratch opened start
  iintro ⟨⟨⟨%f0, S0⟩, ⟨%f1, S1⟩, ⟨%f2, S2⟩, ⟨%f3, S3⟩, ⟨%f4, S4⟩, ⟨%f5, S5⟩⟩, %κ, #Hc, Ha, Hk, Hb, Hcr⟩
  ihave S0 := (to_slots dxM (View.set_whole _) f0) $$ S0
  ihave S1 := (to_slots deM (View.set_whole _) f1) $$ S1
  ihave S2 := (to_slots xrM (View.set_whole _) f2) $$ S2
  ihave S3 := (to_slots erM (View.set_whole _) f3) $$ S3
  ihave S4 := (to_slots ysM (View.set_whole _) f4) $$ S4
  ihave S5 := (to_slots yrM (View.set_whole _) f5) $$ S5
  ihave Hk := (kits (F := F) d) $$ Hk
  icases Hk with ⟨KX, KE, KY⟩
  ihave Hl := hl $$ [S2 S3 S5]
  · isplitl [S2]; · iexact S2
    isplitl [S3] <;> iassumption
  ihave Hl := (landings (F := F) d) $$ [Hl Hb]
  · isplitl [Hl] <;> iassumption
  icases Hl with ⟨Hld, Hts⟩
  iexists κ
  isplitr; · iexact Hc
  isplitl [S0 S1 S4 KX KE KY]
  · iapply hp
    isplitl [S0 KX]
    · iapply hX; isplitl [S0] <;> iassumption
    isplitl [S1 KE]
    · iapply hE; isplitl [S1] <;> iassumption
    · iapply hY; isplitl [S4] <;> iassumption
  isplitl [Hld]; · iexact Hld
  isplitl [Hts]; · iexact Hts
  isplitl [Hcr] <;> iassumption

/-! ## What it leaves -/

/-- What the body leaves besides its windows. -/
def finish (d : Dev nD) : sProp 𝕄 :=
  iprop(scratch d ∗ bigSep Finset.univ (fun p : Fin 6 × Dev nD => zero d p.1 p.2) ∗ semVal (barCell d) 0)

omit [FloatOps F] in
theorem lane_fin (ln : Lane C) (d i : Dev nD) :
    laneSt ln d i 5 ⊢ (iprop((has d ln.M i (ln.X d i) ∗ has d ln.R i (ln.X i d)) ∗ zero d ln.ks i ∗ zero d ln.kr i) : sProp 𝕄) := by
  show iprop(sendGot C d ln.ks i ∗ got C d ln.kr i) ⊢ _
  unfold sendGot got
  rw [ln.recvRow, ln.sendRow]
  unfold sendPay recvPay
  by_cases h : i = d
  · subst h
    rw [if_pos rfl, if_pos rfl]
    iintro ⟨Hz, ⟨HR, HM⟩, Hz'⟩
    isplitl [HR HM]
    · isplitl [HM] <;> iassumption
    isplitl [Hz] <;> iassumption
  · rw [if_neg h, if_neg h]
    iintro ⟨⟨HM, Hz⟩, ⟨HR, -⟩, Hz'⟩
    isplitl [HR HM]
    · isplitl [HM] <;> iassumption
    isplitl [Hz] <;> iassumption

omit [FloatOps F] in
theorem lanes_fin (ln : Lane C) (d : Dev nD) :
    bigSep Finset.univ (fun i : Dev nD => laneSt ln d i 5)
      ⊢ (iprop((bigSep Finset.univ (fun i : Dev nD => has d ln.M i (ln.X d i)) ∗ bigSep Finset.univ (fun i : Dev nD => has d ln.R i (ln.X i d)))
        ∗ bigSep Finset.univ (fun i : Dev nD => zero d ln.ks i) ∗ bigSep Finset.univ (fun i : Dev nD => zero d ln.kr i)) : sProp 𝕄) :=
  BIBase.Entails.trans (bigSep_mono fun i _ => lane_fin ln d i) (BIBase.Entails.trans apart (BIClass.sep_mono apart apart))

theorem finish_intro (I : Dev nD → In F) (d : Dev nD) : iprop(bigSep Finset.univ (Φ I d 11) ∗ semVal (barCell d) 0) ⊢ (finish d : sProp 𝕄) := by
  have h3 : bigSep Finset.univ (Φ I d 11) ⊢ (iprop(bigSep Finset.univ (fun i : Dev nD => laneSt (laneX (con I)) d i 5)
      ∗ bigSep Finset.univ (fun i : Dev nD => laneSt (laneE (con I)) d i 5) ∗ bigSep Finset.univ (fun i : Dev nD => laneSt (laneY (con I)) d i 5)) : sProp 𝕄) :=
    BIBase.Entails.trans (apart (Φ := fun i : Dev nD => laneSt (laneX (con I)) d i 5)) (sep_mono_right apart)
  have v₀ : Elt F .bf16 := constant S_ .bf16 0#16 (fun a => a.elim0)
  have hX : bigSep Finset.univ (fun i : Dev nD => laneSt (laneX (con I)) d i 5)
      ⊢ (iprop((bigSep Finset.univ (fun i : Dev nD => has d dxM i ((con I).x d i)) ∗ bigSep Finset.univ (fun i : Dev nD => has d xrM i ((con I).x i d)))
        ∗ bigSep Finset.univ (fun i : Dev nD => zero d 0 i) ∗ bigSep Finset.univ (fun i : Dev nD => zero d 1 i)) : sProp 𝕄) := lanes_fin (laneX (con I)) d
  have hE : bigSep Finset.univ (fun i : Dev nD => laneSt (laneE (con I)) d i 5)
      ⊢ (iprop((bigSep Finset.univ (fun i : Dev nD => has d deM i ((con I).e d i)) ∗ bigSep Finset.univ (fun i : Dev nD => has d erM i ((con I).e i d)))
        ∗ bigSep Finset.univ (fun i : Dev nD => zero d 2 i) ∗ bigSep Finset.univ (fun i : Dev nD => zero d 3 i)) : sProp 𝕄) := lanes_fin (laneE (con I)) d
  have hY : bigSep Finset.univ (fun i : Dev nD => laneSt (laneY (con I)) d i 5)
      ⊢ (iprop((bigSep Finset.univ (fun i : Dev nD => has d ysM i ((con I).y d i)) ∗ bigSep Finset.univ (fun i : Dev nD => has d yrM i ((con I).y i d)))
        ∗ bigSep Finset.univ (fun i : Dev nD => zero d 4 i) ∗ bigSep Finset.univ (fun i : Dev nD => zero d 5 i)) : sProp 𝕄) := lanes_fin (laneY (con I)) d
  unfold finish
  iintro ⟨H, Hb⟩
  ihave H := h3 $$ H
  icases H with ⟨HX, HE, HY⟩
  ihave HX := hX $$ HX
  ihave HE := hE $$ HE
  ihave HY := hY $$ HY
  icases HX with ⟨⟨A0, A2⟩, Z0, Z1⟩
  icases HE with ⟨⟨A1, A3⟩, Z2, Z3⟩
  icases HY with ⟨⟨A4, A5⟩, Z4, Z5⟩
  isplitl [A0 A1 A2 A3 A4 A5]
  · unfold scratch
    isplitl [A0]; · iapply (of_slots dxM (View.set_whole _) (fun _ => v₀) _) $$ A0
    isplitl [A1]; · iapply (of_slots deM (View.set_whole _) (fun _ => v₀) _) $$ A1
    isplitl [A2]; · iapply (of_slots xrM (View.set_whole _) (fun _ => v₀) _) $$ A2
    isplitl [A3]; · iapply (of_slots erM (View.set_whole _) (fun _ => v₀) _) $$ A3
    isplitl [A4]; · iapply (of_slots ysM (View.set_whole _) (fun _ => v₀) _) $$ A4
    iapply (of_slots yrM (View.set_whole _) (fun _ => v₀) _) $$ A5
  isplitl [Z0 Z1 Z2 Z3 Z4 Z5]
  · iapply (Entails.of_eq (rows fun p : Fin 6 × Dev nD => zero d p.1 p.2).symm)
    isplitl [Z0]; · iexact Z0
    isplitl [Z1]; · iexact Z1
    isplitl [Z2]; · iexact Z2
    isplitl [Z3]; · iexact Z3
    isplitl [Z4] <;> iassumption
  iexact Hb

/-- The body, from its start to what it leaves. -/
theorem body_whole (I : Dev nD → In F) (d : Dev nD) (g : FVec F S1024x1024 .f32) :
    iprop(start I d ∗ Mem I d g ∗ ow d (O₀ d)) ⊢ run d (bodyOn (F := F)) (fun _ => iprop(Mem I d (out3 I d) ∗ finish d ∗ ow d 0)) := by
  unfold start
  iintro ⟨⟨%κ, Hc, Hp, Hl, Ht, Hcr, Ha⟩, Hm, Ho⟩
  iapply (body_run (κ := κ) (I := I) (d := d) (g := g) ?_)
  · unfold St
    rw [fam_end]
    iintro ⟨-, Hm, Hf, Ho, Hb⟩
    isplitl [Hm]; · iexact Hm
    isplitl [Hf Hb]
    · iapply (finish_intro I d)
      isplitl [Hf] <;> iassumption
    iexact Ho
  · unfold StB
    isplitl [Hc]; · iexact Hc
    isplitl [Hm]; · iexact Hm
    isplitl [Hp]; · iexact Hp
    isplitl [Hl]; · iexact Hl
    isplitl [Ht]; · iexact Ht
    isplitl [Ho]; · iexact Ho
    isplitl [Hcr] <;> iassumption

/-- It leaves the generator register alone. -/
theorem body_framed (I : Dev nD → In F) (d : Dev nD) (g : FVec F S1024x1024 .f32) :
    iprop((start I d ∗ Mem I d g ∗ ow d (O₀ d)) ∗ ∃ r, prngReg d r)
      ⊢ run d (bodyOn (F := F)) (fun _ => iprop((Mem I d (out3 I d) ∗ finish d ∗ ow d 0) ∗ ∃ r, prngReg d r)) := by
  iintro ⟨H, Hr⟩
  iapply wp_frame_r
  isplitr [Hr]
  · iapply (body_whole I d g) $$ H
  · iexact Hr

end Cert.MoE
-- ==== Proof.Data.lean ====
/-
  The launch's proof data: what each window's array holds, what the body leaves, and the body as the launch asks for it.
-/
module

public import proofs.«01_k».proof.Proof.Start

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {κ : GSem nD τ sig → ℕ} {I : Dev nD → In F} {d : Dev nD}
variable {g : FVec F S1024x1024 .f32} {lo hi n : ℕ} {O : CellTallies nD τ sig Unit} {α : Type}

variable (m : (ℓ : Loc nD τ sig) → Buf (Elt F) ℓ)

/-- What device `c` reads: its windows' blocks, as the region finds them. -/
def inp (c : Dev nD) : In F where
  rt := iblk m c 0 t0_0
  x := iblk m c 1 t0_0
  rw := iblk m c 2 t0_0
  sw := iblk m c 3 t0_0
  ew := iblk m c 4 t0_0
  lt := iblk m c 5 t0_0

/-- What it holds before the body, and after it. -/
def Φ₀ (c : Dev nD) : sProp 𝕄 := iprop(start (inp m) c ∗ ∃ r, prngReg c r)
def Φ₁ (c : Dev nD) : sProp 𝕄 := iprop(finish c ∗ ∃ r, prngReg c r)

def dat0 (c : Dev nD) : Pipeline.Dat τ (Elt F) Unit ℕ UU ℕ cfg0 c where
  A w := V m c (Pipeline.arrRef spec0 w)
  after w t := match w with
    | ⟨0, _⟩ => (inp m c).rt
    | ⟨1, _⟩ => (inp m c).x
    | ⟨2, _⟩ => (inp m c).rw
    | ⟨3, _⟩ => (inp m c).sw
    | ⟨4, _⟩ => (inp m c).ew
    | ⟨5, _⟩ => (inp m c).lt
    | ⟨6, _⟩ => out3 (inp m) c
  Φ t := if t.val = 0 then Φ₀ m c else Φ₁ c
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m

theorem owed_first (c : Dev nD) : (dat0 m c).owed t0_0.castSucc = O₀ c := rfl
theorem owed_last (c : Dev nD) : (dat0 m c).owed t0_0.succ = 0 := rfl
theorem before_0 (c : Dev nD) (d) : (dat0 m c).before (0 : Fin 7) t0_0 d = (inp m c).rt := by unfold Pipeline.Dat.before; rw [if_pos (fetch0_0 t0_0)]; rfl
theorem before_1 (c : Dev nD) (d) : (dat0 m c).before (1 : Fin 7) t0_0 d = (inp m c).x := by unfold Pipeline.Dat.before; rw [if_pos (fetch0_1 t0_0)]; rfl
theorem before_2 (c : Dev nD) (d) : (dat0 m c).before (2 : Fin 7) t0_0 d = (inp m c).rw := by unfold Pipeline.Dat.before; rw [if_pos (fetch0_2 t0_0)]; rfl
theorem before_3 (c : Dev nD) (d) : (dat0 m c).before (3 : Fin 7) t0_0 d = (inp m c).sw := by unfold Pipeline.Dat.before; rw [if_pos (fetch0_3 t0_0)]; rfl
theorem before_4 (c : Dev nD) (d) : (dat0 m c).before (4 : Fin 7) t0_0 d = (inp m c).ew := by unfold Pipeline.Dat.before; rw [if_pos (fetch0_4 t0_0)]; rfl
theorem before_5 (c : Dev nD) (d) : (dat0 m c).before (5 : Fin 7) t0_0 d = (inp m c).lt := by unfold Pipeline.Dat.before; rw [if_pos (fetch0_5 t0_0)]; rfl

theorem body_at : (defs₀ (F := F)) Proc.tc 0 (t0_0, cfg0.slots t0_0) = bodyOn := rfl
theorem Φ_first (c : Dev nD) : (dat0 m c).Φ t0_0.castSucc = Φ₀ m c := rfl
section
attribute [local irreducible] inp
theorem after_0 (c : Dev nD) : (dat0 m c).after 0 t0_0 = (inp m c).rt := rfl
theorem after_1 (c : Dev nD) : (dat0 m c).after 1 t0_0 = (inp m c).x := rfl
theorem after_2 (c : Dev nD) : (dat0 m c).after 2 t0_0 = (inp m c).rw := rfl
theorem after_3 (c : Dev nD) : (dat0 m c).after 3 t0_0 = (inp m c).sw := rfl
theorem after_4 (c : Dev nD) : (dat0 m c).after 4 t0_0 = (inp m c).ew := rfl
theorem after_5 (c : Dev nD) : (dat0 m c).after 5 t0_0 = (inp m c).lt := rfl
theorem after_6 (c : Dev nD) : (dat0 m c).after 6 t0_0 = out3 (inp m) c := rfl
end
theorem Φ_last (c : Dev nD) : (dat0 m c).Φ t0_0.succ = Φ₁ c := rfl

theorem owes_first (c : Dev nD) : (dat0 m c).owesAt () t0_0.castSucc ⊢ ow c (O₀ c) := by
  unfold Pipeline.Dat.owesAt Pipeline.owesWithin ow
  rw [owed_first]
  iintro ⟨%W, -, HO⟩
  iexists W; iexact HO
theorem owes_last (c : Dev nD) : ow c 0 ⊢ (dat0 m c).owesAt () t0_0.succ := by
  unfold Pipeline.Dat.owesAt Pipeline.owesWithin ow
  rw [owed_last]
  iintro ⟨%W, HO⟩
  iexists W
  isplitr; · ipureintro; exact fun _ _ => Or.inl trivial
  iexact HO

/-- The body as the launch asks for it. -/
theorem body_obligation (c : Dev nD) : Pipeline.BodyObligation (dat0 m c) defs₀ 𝒱₀ () Set.univ := fun t => by
  rw [fin_N0 t]
  rw [bigSep_W0, bigSep_W0]
  simp only [owns_whole_eq]
  rw [body_at, Φ_first, Φ_last]
  unfold Φ₀ Φ₁
  iintro ⟨⟨Hs, Hr⟩, HO, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩, ⟨%d6, %g6, -, H6⟩⟩
  obtain rfl := h0.trans (before_0 m c d0)
  obtain rfl := h1.trans (before_1 m c d1)
  obtain rfl := h2.trans (before_2 m c d2)
  obtain rfl := h3.trans (before_3 m c d3)
  obtain rfl := h4.trans (before_4 m c d4)
  obtain rfl := h5.trans (before_5 m c d5)
  ihave HO := (owes_first m c) $$ HO
  iapply (wp_mono (Q := fun _ => iprop((Mem (inp m) c (out3 (inp m) c) ∗ finish c ∗ ow c 0) ∗ ∃ r, prngReg c r)) _ _ _ fun _ => ?_)
  · unfold Mem
    iintro ⟨⟨⟨H0, H1, H2, H3, H4, H5, H6⟩, Hf, HO⟩, Hr⟩
    isplitl [Hf Hr]; · isplitl [Hf] <;> iassumption
    isplitl [HO]; · iapply (owes_last m c) $$ HO
    isplitl [H0]; · iexists (inp m c).rt; isplitr; · (ipureintro; exact (after_0 m c).symm)
                    iexact H0
    isplitl [H1]; · iexists (inp m c).x; isplitr; · (ipureintro; exact (after_1 m c).symm)
                    iexact H1
    isplitl [H2]; · iexists (inp m c).rw; isplitr; · (ipureintro; exact (after_2 m c).symm)
                    iexact H2
    isplitl [H3]; · iexists (inp m c).sw; isplitr; · (ipureintro; exact (after_3 m c).symm)
                    iexact H3
    isplitl [H4]; · iexists (inp m c).ew; isplitr; · (ipureintro; exact (after_4 m c).symm)
                    iexact H4
    isplitl [H5]; · iexists (inp m c).lt; isplitr; · (ipureintro; exact (after_5 m c).symm)
                    iexact H5
    iexists (out3 (inp m) c); isplitr; · (ipureintro; exact (after_6 m c).symm)
    iexact H6
  iapply (body_framed (inp m) c g6)
  isplitr [Hr]
  · isplitl [Hs]; · iexact Hs
    isplitr [HO]
    · unfold Mem
      isplitl [H0]; · iexact H0
      isplitl [H1]; · iexact H1
      isplitl [H2]; · iexact H2
      isplitl [H3]; · iexact H3
      isplitl [H4]; · iexact H4
      isplitl [H5] <;> iassumption
    · iexact HO
  · iexact Hr

end Cert.MoE
-- ==== Proof.Region.lean ====
/-
  The kernel call as one region of @main: what it finds in each buffer, what it leaves, and what crosses into the body.
-/
module

public import proofs.«01_k».proof.Proof.Data

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {κ : GSem nD τ sig → ℕ} {I : Dev nD → In F} {d : Dev nD}
variable {g : FVec F S1024x1024 .f32} {lo hi n : ℕ} {O : CellTallies nD τ sig Unit} {α : Type}

variable (m : (ℓ : Loc nD τ sig) → Buf (Elt F) ℓ)

/-- Device `c`'s buffers as launched, after the first and second stretch of host operations, and after the kernel call. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) := StableHlo.after hostOps0_1 (V₁ m c)
def V₃ (c : Dev nD) : Valuation τ sig (Elt F) := Function.update (V₂ m c) (Proc.devRef .tc main_v4) ((dat0 m c).arrAt 6 cfg0.N)

theorem V₂_eq (c : Dev nD) (b : Ref sig .tc) : V₂ m c (Proc.devRef .tc b) = V m c b := rfl

/-- The kernel's own semaphores. -/
def osem (p : Fin 6 × Dev nD) : SemLoc sig := .dma (dsem p.1 p.2)

theorem osem_facts : Pipeline.OwnSemFacts spec0 osem := by decide

/-- The buffers no window stages. -/
def others : Finset (DevRef τ sig) := Pipeline.ucRefs τ sig \ Pipeline.arrRefs (τ := τ) spec0

/-- What the launch has kept for the kernel, what its opening makes of it, and what the kernel leaves. -/
def Tk (c : Dev nD) : sProp 𝕄 := iprop(∃ κ, shared κ (con (inp m)) ∗ dealt c)
def Xk (c : Dev nD) : sProp 𝕄 := opened (con (inp m)) c
def Yk (c : Dev nD) : sProp 𝕄 := semVal (barCell c) 0

theorem ownSems (c : Dev nD) : (Pipeline.ownSems0 osem c : sProp 𝕄) = bigSep Finset.univ (fun p : Fin 6 × Dev nD => semVal (cell c p.1 p.2) 0) := rfl

theorem hopen (c : Dev nD) : iprop(Tk m c ∗ Pipeline.ownSems0 osem c ∗ levAts L lv) ⊢ (|={Set.univ}=> Xk m c : sProp 𝕄) := by
  rw [ownSems]
  unfold Tk Xk
  refine .trans ?_ (open_all (C := con (inp m)) c)
  iintro ⟨HT, Hs, -⟩
  isplitl [HT] <;> iassumption

theorem held_none (c : Dev nD) (W : Valuation τ sig (Elt F)) : (StableHlo.held (c.tc : Thread nD τ) ∅ W : sProp 𝕄) = BI.emp := by
  unfold StableHlo.held; exact BI.bigSep_empty

theorem scratch_eq (c : Dev nD) : (Pipeline.scopedRest (Pipeline.pin (pcfgs (F := F)) adm 0).spec c : sProp 𝕄) = scratch c :=
  scopedRest0_eq c

theorem hin (c : Dev nD) : iprop(Pipeline.scopedRest (Pipeline.pin (pcfgs (F := F)) adm 0).spec c ∗ (∃ r, prngReg c r)
      ∗ StableHlo.held (c.tc : Thread nD τ) ∅ (V₂ m c) ∗ Xk m c)
    ⊢ (pdats m 0 c).Φ 0 := by
  rw [show (pdats m 0 c).Φ 0 = Φ₀ m c from rfl, scratch_eq]
  unfold Φ₀ Xk
  iintro ⟨Hs, Hp, -, HX⟩
  isplitl [Hs HX]
  · iapply (start_intro (inp m) c)
    isplitl [Hs] <;> iassumption
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₃ m c) ∗ Pipeline.ownSems0 osem c ∗ Yk c) := by
  rw [show (pdats m 0 c).Φ (Fin.last _) = Φ₁ c from rfl, scratch_eq, ownSems, held_none]
  unfold Φ₁ finish Yk zero
  iintro ⟨⟨Hs, Hz, Hb⟩, Hp⟩
  isplitl [Hs]; · iexact Hs
  isplitl [Hp]; · iexact Hp
  isplitr; · iempintro
  isplitl [Hz] <;> iassumption

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · obtain ⟨h1, h2⟩ := above_O₀ c g i h
    exact ⟨by rw [L, if_pos h1]; exact Finset.mem_singleton_self _, h2⟩
  · exact absurd h (Nat.lt_irrefl 0)

theorem V₃_out (c : Dev nD) : V₃ m c (Proc.devRef .tc main_v4) = (dat0 m c).arrAt 6 cfg0.N := by
  rw [V₃, Function.update_self]

theorem V₃_ne (c : Dev nD) {b : DevRef τ sig} (h : b ≠ Proc.devRef .tc main_v4) : V₃ m c b = V₂ m c b := by
  rw [V₃, Function.update_of_ne h]

theorem arr_last (c : Dev nD) (w : Fin 7) : (dat0 m c).arrAt w cfg0.N = V₃ m c (Proc.devRef .tc (Pipeline.arrRef spec0 w)) := by
  have hne (w : Fin 7) (hw : w ≠ 6) : Pipeline.arrRef spec0 w ≠ main_v4 := by revert w; decide
  by_cases hw : w = 6
  · subst hw; exact (V₃_out m c).symm
  · rw [V₃_ne m c (StableHlo.devRef_ne_of_ne (hne w hw)),
      Pipeline.Dat.arrAt_in (dat0 m c) w (by revert w; decide) _]
    rfl

theorem stage_low : ∀ (w : Fin 7) (s : Fin (spec0 w).nbuf), ((spec0 w).sem s).val < 7 := by decide

theorem stage_cut (w : Fin 7) (s : Fin (spec0 w).nbuf) (c : Dev nD) : lv ((c : Thread nD τ), .dma ((spec0 w).sem s)) () ≤ 0 := by
  show (if ((spec0 w).sem s).val < 7 then 0 else _) ≤ 0
  rw [if_pos (stage_low w s)]

theorem others_kept (c : Dev nD) (b : DevRef τ sig) (hb : b ∈ others \ (∅ : Finset (DevRef τ sig))) : V₃ m c b = V₂ m c b := by
  refine V₃_ne m c fun h => ?_
  subst h
  exact absurd hb (by decide)

set_option backward.isDefEq.respectTransparency.types false in
/-- The kernel call. -/
def kernelCall : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ others (Finset.empty_subset _) kit rfl (fun c => (body_obligation m c).loose)
    (fun _ => 0) O₀ (fun c => (zero_add (O₀ c)).symm) (fun _ => rfl) (fun _ => rfl) (fun c => (dat0 m c).share_full fun _ => rfl)
    (V₂ m) (V₃ m) (others_kept m)
    (Tk m) Yk (Xk m) Yk (hopen m) (hin m) (hout m)
    (fun c => by iintro H; imodintro; iexact H)
    (fun _ => 0)
    ⟨fun c w s => by rw [L_tc]; exact Finset.mem_singleton_self _, fun c w s => stage_cut w s c, fun c t g i h => owed_cut m c t g i h⟩
    (fun _ => iprop(emp))
    (fun _ _ => rfl) (arr_last m)

end Cert.MoE
-- ==== Proof.Launch.lean ====
/-
  The whole program's run: the host operations, the kernel call, and what every final state holds.
-/
module

public import proofs.«01_k».proof.Proof.Region

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {κ : GSem nD τ sig → ℕ} {I : Dev nD → In F} {d : Dev nD}
variable {g : FVec F S1024x1024 .f32} {lo hi n : ℕ} {O : CellTallies nD τ sig Unit} {α : Type}

variable (m : (ℓ : Loc nD τ sig) → Buf (Elt F) ℓ) (ρ : Dev nD → PrngReg)

/-- What the host operations leave alone. -/
def R (c : Dev nD) : sProp 𝕄 := iprop(Tk m c ∗ (∃ r, prngReg c r) ∗ ∃ W, owes (c : Thread nD τ) (O₀ c) W)

def host0 : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op (List.forall_iff_forall_mem.mp hostOps0_sub op h)) (List.forall_iff_forall_mem.mp hostOps0_fresh) (V₀ m) (R m)
def host1 : Pipeline.HostSeg (Name := ℕ) (U := UU) (pcfgs (F := F)) defs₀ 𝒱₀ L lv :=
  Pipeline.HostSeg.ofOps _ _ _ _ _ (Pipeline.ucRefs τ sig) hostOps0_1
    (fun op h => Pipeline.sub_ucRefs op (List.forall_iff_forall_mem.mp hostOps0_1_sub op h)) (List.forall_iff_forall_mem.mp hostOps0_1_fresh) (V₁ m) (R m)

def segs : List (Pipeline.Seg (pcfgs (F := F)) adm (pdats m) () defs₀ 𝒱₀ L lv) :=
  [.host (host0 m), .host (host1 m), .region (kernelCall m)]

theorem main_segs (c : Dev nD) : main (F := F) c = Pipeline.Seg.run (segs m) := by
  rw [main_chain, Pipeline.Seg.run_eq_chain]
  rfl

theorem arr_others (c : Dev nD) (W : Valuation τ sig (Elt F)) :
    (StableHlo.held (c.tc : Thread nD τ) (Pipeline.ucRefs τ sig) W : sProp 𝕄)
      = iprop(StableHlo.held (c.tc : Thread nD τ) (Pipeline.arrRefs (τ := τ) spec0) W ∗ StableHlo.held (c.tc : Thread nD τ) others W) :=
  StableHlo.held_sub_split _ (Pipeline.arrRefs_sub_ucRefs spec0 (by decide)) W

theorem call_pre (c : Dev nD) : iprop(StableHlo.held (c.tc : Thread nD τ) (Pipeline.ucRefs τ sig) (V₂ m c) ∗ R m c) ⊢ (kernelCall m).pre c := by
  show _ ⊢ iprop(StableHlo.held (c.tc : Thread nD τ) (Pipeline.arrRefs (τ := τ) spec0) (V₂ m c) ∗ (∃ r, prngReg c r)
    ∗ (StableHlo.held (c.tc : Thread nD τ) others (V₂ m c) ∗ emp) ∗ Tk m c ∗ ∃ Wd, owes (c : Thread nD τ) (0 + O₀ c) Wd)
  rw [arr_others, zero_add]
  unfold R
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

/-- What each device holds at the end. -/
def Tₙ (c : Dev nD) : sProp 𝕄 := iprop(StableHlo.held (c.tc : Thread nD τ) (Pipeline.ucRefs τ sig) (V₃ m c) ∗ semVal (barCell c) 0)

theorem call_post (c : Dev nD) : (kernelCall m).post c ⊢ iprop(Tₙ m c ∗ ∃ W, owes (c : Thread nD τ) (0 : CellTallies nD τ sig Unit) W) := by
  show iprop(StableHlo.held (c.tc : Thread nD τ) (Pipeline.arrRefs (τ := τ) spec0) (V₃ m c) ∗ (∃ r, prngReg c r)
    ∗ (StableHlo.held (c.tc : Thread nD τ) others (V₃ m c) ∗ emp) ∗ Yk c ∗ ∃ Wd, owes (c : Thread nD τ) (0 : CellTallies nD τ sig Unit) Wd) ⊢ _
  unfold Tₙ Yk
  rw [arr_others]
  iintro ⟨Ha, -, ⟨Ho, -⟩, Hb, HO⟩
  isplitr [HO]
  · isplitr [Hb]; · isplitl [Ha] <;> iassumption
    iexact Hb
  iexact HO

/-! ## The launch -/

def u₀ : UU :=
  (initOf (Pipeline.cells (Pipeline.pin (pcfgs (F := F)) adm) cellOf_inj) (Pipeline.launchToks (Pipeline.pin (pcfgs (F := F)) adm) cellOf_inj),
    launchOf barCells scCells toks)

/-- The protocol's own element, in device 0's keeping until the launch deals it. -/
def G (c : Dev nD) : sProp 𝕄 := if c = 0 then BI.own (ER (launchOf barCells scCells toks)) else iprop(emp)

theorem G_all : bigSep Finset.univ (G (F := F)) = BI.own (ER (launchOf barCells scCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem unscoped_bar : ∀ sm : SemLoc sig, sm.isScoped .tc = false → sm = .reg barS := by decide

theorem unscoped_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What each device holds at the start. -/
def T₀ (c : Dev nD) : sProp 𝕄 := iprop(StableHlo.held (c.tc : Thread nD τ) (Pipeline.ucRefs τ sig) (V₀ m c) ∗ R m c)

def own₀ (c : Dev nD) : sProp 𝕄 :=
  iprop(StableHlo.held (c.tc : Thread nD τ) (Pipeline.ucRefs τ sig) (V₀ m c) ∗ owes (c : Thread nD τ) (O₀ c) ∅ ∗ prngReg c (ρ c))

theorem T₀_intro (c : Dev nD) : iprop(own₀ m ρ c ∗ Tk m c) ⊢ T₀ m c := by
  unfold own₀ T₀ R
  iintro ⟨⟨Hh, HO, Hp⟩, HT⟩
  isplitl [Hh]; · iexact Hh
  isplitl [HT]; · iexact HT
  isplitl [Hp]; · iexists (ρ c); iexact Hp
  iexists ∅; iexact HO

theorem at_launch (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(own₀ m ρ c ∗ semVal (barCell c) 0 ∗ G c ∗ Pipeline.launchCred O₀ c) : sProp 𝕄) := by
  rw [show unscopedBufs c (fun b => m ((c : Thread nD τ).loc b)) = StableHlo.held (c.tc : Thread nD τ) (Pipeline.ucRefs τ sig) (V₀ m c) from Pipeline.unscopedBufs_held c (V₀ m c),
    unscoped_eq]
  unfold own₀
  iintro ⟨Hh, Hb, HO, Hc, Hp, HG⟩
  isplitl [Hh HO Hp]
  · isplitl [Hh]; · iexact Hh
    isplitl [HO] <;> iassumption
  isplitl [Hb]; · iexact Hb
  isplitl [HG] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have h1 : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => (iprop(own₀ m ρ c ∗ semVal (barCell c) 0 ∗ G c ∗ Pipeline.launchCred O₀ c) : sProp 𝕄)) := bigSep_mono fun c _ => at_launch m ρ c
  have h2 : iprop(bigSep Finset.univ (own₀ m ρ) ∗ bigSep Finset.univ (Tk m)) ⊢ (bigSep Finset.univ (T₀ m) : sProp 𝕄) := pairUp.trans (bigSep_mono fun c _ => T₀_intro m ρ c)
  have h3 : bigSep Finset.univ (G (F := F)) ⊢ BI.own (ER (launchOf barCells scCells toks)) := Entails.of_eq G_all
  have h4 := fund (F := F) (con (inp m))
  iintro ⟨H, HL⟩
  ihave H := h1 $$ H
  ihave H := apart $$ H; icases H with ⟨Ho, H⟩
  ihave H := apart $$ H; icases H with ⟨Hb, H⟩
  ihave H := apart $$ H; icases H with ⟨HG, Hc⟩
  ihave HG := h3 $$ HG
  imod h4 $$ [Hb HG HL Hc] with HT
  · isplitl [Hb]; · iexact Hb
    isplitl [HG]; · iexact HG
    isplitl [HL] <;> iassumption
  imodintro
  iapply h2
  isplitl [Ho]; · iexact Ho
  iexact HT

/-- Reading one buffer of those held. -/
theorem held_reads (c : Dev nD) (W : Valuation τ sig (Elt F)) (s : Phys nD τ sig (Elt F)) :
    iprop(StableHlo.held (c.tc : Thread nD τ) (Pipeline.ucRefs τ sig) W ∗ SI s)
      ⊢ (⌜∀ b ∈ Pipeline.ucRefs τ sig, s.mem.mem (c, b) = W b⌝ : sProp 𝕄) := by
  have h (b : DevRef τ sig) (hb : b ∈ Pipeline.ucRefs τ sig) : iprop(StableHlo.held (c.tc : Thread nD τ) (Pipeline.ucRefs τ sig) W ∗ SI s)
      ⊢ (⌜s.mem.mem (c, b) = W b⌝ : sProp 𝕄) := by
    refine (BIClass.sep_mono (show _ ⊢ ((c, b) ↦{fullShare} W b) from bigSep_elim hb) .rfl).trans ?_
    iintro ⟨Hx, HSI⟩
    icombine HSI Hx gives %hx
    ipureintro
    exact Buf.eq_of_forall_mem_univ hx
  exact fun x hx b hb => h b hb x hx

theorem mem_uc (b : Ref sig .tc) (h : b.isScoped = false) : (Proc.devRef .tc b : DevRef τ sig) ∈ Pipeline.ucRefs τ sig :=
  Finset.mem_filter.mpr ⟨StableHlo.devRef_mem_tcRefs _, fun h' => Bool.false_ne_true (h.symm.trans h')⟩

/-- What a final state reads at device `c`. -/
def Reads (c : Dev nD) (s : MemSt nD τ sig (Elt F)) : Prop :=
  (∀ b ∈ Pipeline.ucRefs τ sig, s.mem (c, b) = V₃ m c b) ∧ s.sem (barCell c) = 0

theorem reads (c : Dev nD) (s : Phys nD τ sig (Elt F)) : iprop(Tₙ m c ∗ SI s) ⊢ (|={Set.univ}=> iprop(⌜Reads m c s.mem⌝ ∗ SI s) : sProp 𝕄) := by
  have hr : iprop(StableHlo.held (c.tc : Thread nD τ) (Pipeline.ucRefs τ sig) (V₃ m c) ∗ SI s)
      ⊢ (<pers> ⌜∀ b ∈ Pipeline.ucRefs τ sig, s.mem.mem (c, b) = V₃ m c b⌝ : sProp 𝕄) := (held_reads c (V₃ m c) s).trans BI.persistently_pure.2
  unfold Tₙ
  iintro ⟨⟨Hh, Hb⟩, HSI⟩
  icombine HSI Hb gives %hb
  ihave #H := hr $$ [Hh HSI]
  · isplitl [Hh] <;> iassumption
  icases H with %h
  imodintro
  isplitr
  · ipureintro
    exact ⟨h, by simpa using hb⟩
  iexact HSI

set_option backward.isDefEq.respectTransparency.types false in
/-- Every fair run of the program ends, with every buffer of @main as computed and every semaphore at zero. -/
theorem run_all : θ_run defs (onTc (τ := τ) (main (F := F))) (s₀ m ρ) (fun r => (∀ c : Dev nD, Reads m c r.2) ∧ r.2.sem = fun _ => 0) :=
  Pipeline.θ_run_regions_kit_sems (pcfgs (F := F)) adm (pdats m) () cellOf_inj EP defs₀ 𝒱₀ L lv m ρ main (segs m)
    (fun c Q => by rw [main_segs m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      rw [G_all]
      iintro Hu
      ihave H := (ownU_pair _ _) $$ Hu
      icases H with ⟨HP, HX⟩
      imodintro
      isplitl [HP] <;> iassumption)
    (T₀ := T₀ m) (Tₙ := Tₙ m)
    (hch := ⟨fun c => .rfl, fun c => .rfl, fun c => call_pre m c, fun c => call_post m c⟩)
    (hinit := init m ρ)
    (QY := fun c s => Reads m c s)
    (hfin := fun c s => reads m c s)
    (hQ := fun s h hs => ⟨h, sem_eq_zero hs fun c sm hsm => by
      obtain rfl := unscoped_bar sm hsm
      exact (h c).2⟩)

end Cert.MoE
-- ==== Proof.Frames.lean ====
/-
  The frames: each program's arguments end as they began, with every semaphore at zero.
-/
module

public import proofs.«01_k».proof.Proof.Launch
public import proofs.«01_k».proof.Proof.Gen.Kernel
public import proofs.«01_k».proof.Proof.Gen.ReferenceIdeal.Run
public import proofs.«01_k».proof.Defs

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {κ : GSem nD τ sig → ℕ} {I : Dev nD → In F} {d : Dev nD}
variable {g : FVec F S1024x1024 .f32} {lo hi n : ℕ} {O : CellTallies nD τ sig Unit} {α : Type}

variable (m : (ℓ : Loc nD τ sig) → Buf (Elt F) ℓ) (ρ : Dev nD → PrngReg)

/-- The five arguments as they were launched. -/
def Kept (s : MemSt nD τ sig (Elt F)) (c : Dev nD) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)

theorem reads_at {c : Dev nD} {s : MemSt nD τ sig (Elt F)} (h : Reads m c s) (b : Ref sig .tc) (hb : b.isScoped = false) (hne : b ≠ main_v4) :
    s.mem ((c : Thread nD τ).loc b) = V m c b :=
  (h.1 _ (mem_uc b hb)).trans ((V₃_ne m c (StableHlo.devRef_ne_of_ne hne)).trans (V₂_eq m c b))

theorem reads_kept {c : Dev nD} {s : MemSt nD τ sig (Elt F)} (h : Reads m c s) : Kept m s c :=
  ⟨(reads_at m h main_arg0 rfl (by decide)).trans (V_main_arg0 m c), (reads_at m h main_arg1 rfl (by decide)).trans (V_main_arg1 m c),
    (reads_at m h main_arg2 rfl (by decide)).trans (V_main_arg2 m c), (reads_at m h main_arg3 rfl (by decide)).trans (V_main_arg3 m c),
    (reads_at m h main_arg4 rfl (by decide)).trans (V_main_arg4 m c)⟩

/-- The kernel's frame, at any floats. -/
theorem run_frame : θ_run defs (onTc (τ := τ) (main (F := F))) (s₀ m ρ) (fun r => (∀ c : Dev nD, Kept m r.2 c) ∧ r.2.sem = fun _ => 0) :=
  (θ_run defs _ _).mono (fun _ h => ⟨fun c => reads_kept m (h.1 c), h.2⟩) (run_all m ρ)

theorem frame_ideal : Cert.quiescent_KernelIdeal := fun m g _ => run_frame (F := Ideal) m g

/-- The kernel and its idealization are one program, so what is proved at any floats is the kernel's frame too. -/
theorem kernel_same : Cert.quiescent_Kernel = ∀ (m : (ℓ : Loc nD τ sig) → Buf (Elt Bits) ℓ) (ρ : Dev nD → PrngReg), True →
    θ_run defs (onTc (τ := τ) (main (F := Bits))) (s₀ m ρ) (fun r => (∀ c : Dev nD, Kept m r.2 c) ∧ r.2.sem = fun _ => 0) := by
  chain_rfl

theorem frame_kernel : Cert.quiescent_Kernel := kernel_same.mpr fun m ρ _ => run_frame m ρ

theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

end Cert.MoE
-- ==== Proof.Exact.lean ====
/-
  Arithmetic over the extended reals: one-hot sums, counts, conversions of counts, and the softmax of finite scores.
-/
module

public import Idealize.ShloMosaic.Lib.Pointwise

@[expose] public section

noncomputable section

namespace Cert.MoE

open Idealize.ShloMosaic
open Idealize.ShloMosaic.TcCoe
open scoped BigOperators

/-! ## Words -/

/-- Words of small numbers are equal exactly when the numbers are. -/
theorem word_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A compared pair of words, as a number: one where they are equal, zero elsewhere. -/
theorem sitofp_eq {φ : FTy} (a b : BitVec 32) :
    FloatOps.sitofp (F := Ideal) φ (BitVec.setWidth 32 (IntOp.cmpi .eq a b)) = if a = b then (1 : EReal) else 0 := by
  by_cases h : a = b
  · subst h
    have : IntOp.cmpi CmpIPredicate.eq a a = 1#1 := by simp [IntOp.cmpi]
    rw [this, if_pos rfl]
    show (((BitVec.setWidth 32 (1#1)).toInt : ℝ) : EReal) = 1
    norm_num
  · have : IntOp.cmpi CmpIPredicate.eq a b = 0#1 := by
      show BitVec.ofBool (a == b) = 0#1
      rw [beq_eq_false_iff_ne.2 h]; rfl
    rw [this, if_neg h]
    show (((BitVec.setWidth 32 (0#1)).toInt : ℝ) : EReal) = 0
    norm_num

/-- A choice made by comparing words. -/
theorem select_eq {β : Type} (a b : BitVec 32) (x y : β) : Scalar.select (IntOp.cmpi .eq a b) x y = if a = b then x else y := by
  by_cases h : a = b
  · subst h
    have : IntOp.cmpi CmpIPredicate.eq a a = 1#1 := by simp [IntOp.cmpi]
    rw [this, if_pos rfl]; rfl
  · have : IntOp.cmpi CmpIPredicate.eq a b = 0#1 := by
      show BitVec.ofBool (a == b) = 0#1
      rw [beq_eq_false_iff_ne.2 h]; rfl
    rw [this, if_neg h]; rfl

/-- The word of a small number converted to a float is that number … -/
theorem sitofp_nat {φ : FTy} {n : ℕ} (h : n < 2 ^ 31) : FloatOps.sitofp (F := Ideal) φ (BitVec.ofNat 32 n) = ((n : ℝ) : EReal) := by
  show (((BitVec.ofNat 32 n).toInt : ℝ) : EReal) = _
  have : (BitVec.ofNat 32 n).toInt = n := by
    rw [BitVec.toInt_eq_toNat_of_lt (by rw [BitVec.toNat_ofNat]; omega), BitVec.toNat_ofNat, Nat.mod_eq_of_lt (by omega)]
  rw [this]; norm_num

/-- … and converted back it is the word again. -/
theorem fptosi_nat {φ : FTy} {n : ℕ} (h : n < 2 ^ 31) : FloatOps.fptosi (F := Ideal) (φ := φ) 32 ((n : ℝ) : EReal) = BitVec.ofNat 32 n := by
  show Ideal.fptosi 32 ((n : ℝ) : EReal) = _
  rw [Ideal.fptosi, Ideal.toIntClamped_coe, if_pos (Nat.cast_nonneg n), Int.floor_natCast]
  have : max (-((2 ^ (32 - 1) : ℕ) : ℤ)) (min (((2 ^ (32 - 1) : ℕ) : ℤ) - 1) (n : ℤ)) = n := by omega
  rw [this, BitVec.ofInt_natCast]

/-! ## Sums -/

/-- A sum that picks one term is that term. -/
theorem sum_pick {ι : Type} [Fintype ι] [DecidableEq ι] (P : ι → Prop) [DecidablePred P] (f : ι → EReal) (a : ι)
    (hP : ∀ i, P i ↔ i = a) : ∑ i, (if P i then (1 : EReal) else 0) * f i = f a := by
  rw [Finset.sum_eq_single a]
  · rw [if_pos ((hP a).2 rfl), one_mul]
  · intro i _ hi
    rw [if_neg (fun h => hi ((hP i).1 h)), zero_mul]
  · intro h; exact absurd (Finset.mem_univ a) h

/-- A sum that picks no term is zero. -/
theorem sum_none {ι : Type} [Fintype ι] (P : ι → Prop) [DecidablePred P] (f : ι → EReal)
    (hP : ∀ i, ¬ P i) : ∑ i, (if P i then (1 : EReal) else 0) * f i = 0 :=
  Finset.sum_eq_zero fun i _ => by rw [if_neg (hP i), zero_mul]

/-- A sum of ones over those that satisfy a condition counts them. -/
theorem sum_count {ι : Type} [Fintype ι] (P : ι → Prop) [DecidablePred P] :
    ∑ i, (if P i then (1 : EReal) else 0) = (((Finset.univ.filter P).card : ℝ) : EReal) := by
  rw [← Finset.sum_filter, Finset.sum_const, nsmul_one]
  exact (EReal.coe_coe_eq_natCast _).symm

/-- A factor that is nonnegative and finite goes in and out of a sum. -/
theorem mul_sum_of_nonneg {ι : Type} (S : Finset ι) {p : EReal} (h0 : 0 ≤ p) (h1 : p ≠ ⊤) (f : ι → EReal) :
    p * ∑ i ∈ S, f i = ∑ i ∈ S, p * f i := by
  classical
  induction S using Finset.induction_on with
  | empty => rw [Finset.sum_empty, Finset.sum_empty, mul_zero]
  | insert a S ha ih => rw [Finset.sum_insert ha, Finset.sum_insert ha, EReal.left_distrib_of_nonneg_of_ne_top h0 h1, ih]

/-- An extended real that is a real. -/
def Fin' (x : EReal) : Prop := ∃ r : ℝ, x = r

theorem Fin'.mul {x y : EReal} : Fin' x → Fin' y → Fin' (x * y)
  | ⟨a, ha⟩, ⟨b, hb⟩ => ⟨a * b, by rw [ha, hb, EReal.coe_mul]⟩

theorem Fin'.sum {ι : Type} (S : Finset ι) (f : ι → EReal) (h : ∀ i, Fin' (f i)) : Fin' (∑ i ∈ S, f i) := by
  classical
  induction S using Finset.induction_on with
  | empty => exact ⟨0, by rw [Finset.sum_empty, EReal.coe_zero]⟩
  | insert a S ha ih =>
    obtain ⟨x, hx⟩ := h a
    obtain ⟨y, hy⟩ := ih
    exact ⟨x + y, by rw [Finset.sum_insert ha, hx, hy, EReal.coe_add]⟩

/-- A sum of positive reals, not an empty one, is a positive real. -/
theorem pos_sum {ι : Type} (S : Finset ι) (f : ι → EReal) (h : ∀ i, ∃ r : ℝ, 0 < r ∧ f i = r) :
    ∃ r : ℝ, (0 ≤ r ∧ (S.Nonempty → 0 < r)) ∧ ∑ i ∈ S, f i = r := by
  classical
  induction S using Finset.induction_on with
  | empty => exact ⟨0, ⟨le_refl _, fun h => absurd h Finset.not_nonempty_empty⟩, by rw [Finset.sum_empty, EReal.coe_zero]⟩
  | insert a S ha ih =>
    obtain ⟨x, hx, ex⟩ := h a
    obtain ⟨y, ⟨hy, -⟩, ey⟩ := ih
    exact ⟨x + y, ⟨by linarith, fun _ => by linarith⟩, by rw [Finset.sum_insert ha, ex, ey, EReal.coe_add]⟩

/-! ## The softmax -/

/-- The greatest of the scores, -/
abbrev top {n : ℕ} (s : Fin n → EReal) : EReal := Finset.univ.fold max (Ideal.ofBits .f32 0xFF800000#32) s
/-- and the probability the softmax gives to one of them. -/
abbrev soft {n : ℕ} (s : Fin n → EReal) (j : Fin n) : EReal :=
  Ideal.div (Ideal.exp (s j - top s)) (∑ i, Ideal.exp (s i - top s))

theorem lowest : Ideal.ofBits .f32 0xFF800000#32 = ⊥ := by simp [Ideal.ofBits, Ideal.ieee]

theorem top_fin {n : ℕ} (s : Fin n → EReal) (j : Fin n) (h : ∀ i, Fin' (s i)) : Fin' (top s) := by
  have h1 : top s < ⊤ := by
    refine Finset.fold_max_lt _ |>.2 ⟨by rw [lowest]; exact bot_lt_top, fun i _ => ?_⟩
    obtain ⟨r, hr⟩ := h i
    rw [hr]; exact EReal.coe_lt_top r
  have h2 : s j ≤ top s := Finset.le_fold_max _ |>.2 (Or.inr ⟨j, Finset.mem_univ j, le_refl _⟩)
  obtain ⟨r, hr⟩ := h j
  have h3 : ⊥ < top s := lt_of_lt_of_le (by rw [hr]; exact EReal.bot_lt_coe r) h2
  exact ⟨(top s).toReal, (EReal.coe_toReal h1.ne h3.ne').symm⟩

/-- Of finite scores the softmax's probabilities are nonnegative and finite. -/
theorem soft_fin {n : ℕ} (s : Fin n → EReal) (j : Fin n) (h : ∀ i, Fin' (s i)) : 0 ≤ soft s j ∧ soft s j ≠ ⊤ := by
  obtain ⟨μ, hμ⟩ := top_fin s j h
  have hx : ∀ i, ∃ r : ℝ, 0 < r ∧ Ideal.exp (s i - top s) = r := fun i => by
    obtain ⟨r, hr⟩ := h i
    exact ⟨Real.exp (r - μ), Real.exp_pos _, by rw [hr, hμ, ← EReal.coe_sub]; rfl⟩
  obtain ⟨a, ha, ea⟩ := hx j
  obtain ⟨b, ⟨-, hb⟩, eb⟩ := pos_sum Finset.univ _ hx
  have hb := hb ⟨j, Finset.mem_univ j⟩
  have e : soft s j = ((a * (1 / b) : ℝ) : EReal) := by
    show Ideal.div _ _ = _
    rw [ea, eb, Ideal.div_coe hb.ne', EReal.coe_mul]
  rw [e]
  exact ⟨EReal.coe_nonneg.2 (by positivity), EReal.coe_ne_top _⟩

end Cert.MoE
-- ==== Proof.Places.lean ====
/-
  The places that tokens take: the peer a token goes to, its rank among the tokens for that peer, and that no two tokens share a place.
-/
module

public import Mathlib.Data.Finset.Card
public import Mathlib.Data.Fintype.Basic
public import Mathlib.Tactic.Linarith
public import Idealize.ShloMosaic.Lib.Pointwise

@[expose] public section

noncomputable section

namespace Cert.MoE

open Idealize.ShloMosaic
open Idealize.ShloMosaic.TcCoe
open scoped BigOperators

variable (e : Fin 1024 → Fin 64)

/-- The peer a token goes to, four experts to a device, -/
def peer (t : Fin 1024) : ℕ := (e t).val / 4
/-- how many tokens before it go to the same peer, -/
def rank (t : Fin 1024) : ℕ := (Finset.univ.filter fun t' => t' < t ∧ peer e t' = peer e t).card
/-- and its place among all the rows the device sends. -/
def spot (t : Fin 1024) : ℕ := peer e t * 112 + rank e t

/-- No peer is sent more tokens than a slot has rows. -/
def Fits : Prop := ∀ k : Fin 16, (Finset.univ.filter fun t => peer e t = k.val).card ≤ 112

variable {e}

theorem peer_lt (t : Fin 1024) : peer e t < 16 := by
  have := (e t).isLt
  unfold peer; omega

theorem rank_lt (h : Fits e) (t : Fin 1024) : rank e t < 112 := by
  refine lt_of_lt_of_le (Finset.card_lt_card ?_) (h ⟨peer e t, peer_lt t⟩)
  refine (Finset.ssubset_iff_of_subset fun x hx => ?_).2 ⟨t, ?_, ?_⟩
  · exact Finset.mem_filter.2 ⟨Finset.mem_univ x, (Finset.mem_filter.1 hx).2.2⟩
  · exact Finset.mem_filter.2 ⟨Finset.mem_univ t, rfl⟩
  · exact fun hx => lt_irrefl _ (Finset.mem_filter.1 hx).2.1

theorem spot_lt (h : Fits e) (t : Fin 1024) : spot e t < 1792 := by
  have := rank_lt h t
  have := peer_lt (e := e) t
  unfold spot; omega

/-- Of two tokens for one peer the later has the greater rank. -/
theorem rank_mono {t u : Fin 1024} (h : t < u) (hp : peer e t = peer e u) : rank e t < rank e u := by
  refine Finset.card_lt_card ((Finset.ssubset_iff_of_subset fun x hx => ?_).2 ⟨t, ?_, ?_⟩)
  · obtain ⟨-, h1, h2⟩ := Finset.mem_filter.1 hx
    exact Finset.mem_filter.2 ⟨Finset.mem_univ x, h1.trans h, h2.trans hp⟩
  · exact Finset.mem_filter.2 ⟨Finset.mem_univ t, h, hp⟩
  · exact fun hx => lt_irrefl _ (Finset.mem_filter.1 hx).2.1

/-- A peer and a row of its slot are the place of one token at most. -/
theorem spot_eq_iff (h : Fits e) (t u : Fin 1024) : spot e u = peer e t * 112 + rank e t ↔ u = t := by
  constructor
  · intro he
    have h1 := rank_lt h t
    have h2 := rank_lt h u
    unfold spot at he
    have hp : peer e u = peer e t := by omega
    have hr : rank e u = rank e t := by omega
    rcases lt_trichotomy u t with hl | hl | hl
    · have := rank_mono hl hp; omega
    · exact hl
    · have := rank_mono hl hp.symm; omega
  · rintro rfl; rfl

end Cert.MoE
-- ==== Proof.Dispatch.lean ====
/-
  What the kernel's dispatch computes: the place of a token, and which token a row of a slot holds.
-/
module

public import proofs.«01_k».proof.Proof.Contents
public import proofs.«01_k».proof.Proof.Exact
public import proofs.«01_k».proof.Proof.Places

@[expose] public section

noncomputable section

namespace Cert.MoE

open Cert.KernelIdeal Cert.KernelIdeal.Gen
open Idealize.ShloMosaic
open Idealize.ShloMosaic.TcCoe
open scoped BigOperators

/-- The device's routes: its tokens' experts, which fit the slots, and the matrix that counts the tokens before one. -/
structure Routes (I : In Ideal) (e : Fin 1024 → Fin 64) : Prop where
  rt : ∀ t : Fin 1024, I.rt (ix2 t 0) = BitVec.ofNat 32 (e t).val
  fits : Fits e
  lt : ∀ t u : Fin 1024, I.lt (ix2 t u) = if u < t then (1 : EReal) else 0

/-- The division of an expert's number by four, as the program computes it. -/
abbrev quarter (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 4#32 0#32)) (Scalar.extui (Scalar.cmpi CmpIPredicate.slt 4#32 0#32))))
      (IntOp.cmpi CmpIPredicate.ne (IntOp.remsi ArithUnit.vector w 4#32) 0#32))
    (IntOp.subi (IntOp.divsi ArithUnit.vector w 4#32) 1#32)
    (IntOp.divsi ArithUnit.vector w 4#32)

theorem quarter_eq : ∀ e : Fin 64, quarter (BitVec.ofNat 32 e.val) = BitVec.ofNat 32 (e.val / 4) := by decide

variable {I : In Ideal} {e : Fin 1024 → Fin 64}

/-- The place of a token, read off the program. -/
theorem placeOf_apply (I : In Ideal) (t : Fin 1024) : placeOf I (ix2 t 0) =
    (fun r : BitVec 32 => Scalar.select (IntOp.cmpi .slt r 112#32) (IntOp.addi (IntOp.muli (quarter (I.rt (ix2 t 0))) 112#32) r) 4294967295#32)
      (FloatOps.fptosi (F := Ideal) (φ := .f32) 32 (∑ k : Fin 16, (∑ u : Fin 1024, I.lt (ix2 t u) *
        (if quarter (I.rt (ix2 u 0)) = BitVec.ofNat 32 k.val then (1 : EReal) else 0)) *
        (if quarter (I.rt (ix2 t 0)) = BitVec.ofNat 32 k.val then (1 : EReal) else 0))) := by
  unfold placeOf
  unfold_payloads
  pointwise [dot_S1024x1024_S1024x16_S1024x16_1_0_0_1_n_n, S1024x1, S1024, S1024x16, S1024x1024]
  simp only [sitofp_eq]

/-- A token's place is the one its peer and its rank give. -/
theorem placeOf_eq (h : Routes I e) (t : Fin 1024) : placeOf I (ix2 t 0) = BitVec.ofNat 32 (spot e t) := by
  have hq : ∀ u, quarter (I.rt (ix2 u 0)) = BitVec.ofNat 32 (peer e u) := fun u => by rw [h.rt u]; exact quarter_eq (e u)
  have hk : ∀ (u : Fin 1024) (k : Fin 16), (quarter (I.rt (ix2 u 0)) = BitVec.ofNat 32 k.val) ↔ peer e u = k.val := fun u k => by
    rw [hq u]; have := peer_lt (e := e) u; exact word_inj (by omega) (by omega)
  have hs : (∑ k : Fin 16, (∑ u : Fin 1024, I.lt (ix2 t u) *
        (if quarter (I.rt (ix2 u 0)) = BitVec.ofNat 32 k.val then (1 : EReal) else 0)) *
        (if quarter (I.rt (ix2 t 0)) = BitVec.ofNat 32 k.val then (1 : EReal) else 0)) = ((rank e t : ℝ) : EReal) := by
    simp only [hk, h.lt]
    rw [Finset.sum_eq_single (⟨peer e t, peer_lt t⟩ : Fin 16)]
    · rw [if_pos rfl, mul_one, rank, ← sum_count]
      refine Finset.sum_congr rfl fun u _ => ?_
      by_cases h1 : u < t <;> by_cases h2 : peer e u = peer e t <;> simp [h1, h2]
    · intro k _ hne
      rw [if_neg (fun hp => hne (Fin.ext hp.symm)), mul_zero]
    · intro hh; exact absurd (Finset.mem_univ _) hh
  have hr := rank_lt h.fits t
  have hp := peer_lt (e := e) t
  rw [placeOf_apply, hs, fptosi_nat (by omega), hq t]
  have hc : IntOp.cmpi CmpIPredicate.slt (BitVec.ofNat 32 (rank e t)) 112#32 = 1#1 := by
    show BitVec.ofBool ((BitVec.ofNat 32 (rank e t)).slt 112#32) = 1#1
    have : (BitVec.ofNat 32 (rank e t)).slt 112#32 = true := by
      rw [BitVec.slt_iff_toInt_lt, BitVec.toInt_eq_toNat_of_lt (by rw [BitVec.toNat_ofNat]; omega), BitVec.toNat_ofNat,
        Nat.mod_eq_of_lt (by omega)]
      show (rank e t : ℤ) < 112
      omega
    rw [this]; rfl
  show Scalar.select (IntOp.cmpi .slt _ _) (IntOp.addi (IntOp.muli _ _) _) _ = _
  rw [hc]
  show BitVec.ofNat 32 (peer e t) * 112#32 + BitVec.ofNat 32 (rank e t) = _
  rw [spot, BitVec.ofNat_add, BitVec.ofNat_mul]

/-- Whether a token takes a row of a peer's slot. -/
theorem pickOf_apply (h : Routes I e) (m : Dev nD) (t : Fin 1024) (r : Fin 112) :
    pickOf I m (ix2 t r) = if spot e t = m.val * 112 + r.val then (1 : EReal) else 0 := by
  have hm : m.val < 16 := m.isLt
  have ha : IntOp.addi (BitVec.ofNat 32 r.val) (BitVec.ofNat 32 (112 * m.val)) = BitVec.ofNat 32 (m.val * 112 + r.val) := by
    show BitVec.ofNat 32 r.val + BitVec.ofNat 32 (112 * m.val) = _
    rw [← BitVec.ofNat_add]; congr 1; omega
  unfold pickOf
  pointwise
  rw [sitofp_eq, placeOf_eq h, ha]
  have := spot_lt h.fits t
  have := r.isLt
  refine if_congr (word_inj (by omega) (by omega)) rfl rfl

end Cert.MoE
-- ==== Proof.Send.lean ====
/-
  What a device sends for a token, and what the experts make of it.
-/
module

public import proofs.«01_k».proof.Proof.Dispatch

@[expose] public section

noncomputable section

namespace Cert.MoE

open Cert.KernelIdeal Cert.KernelIdeal.Gen
open Idealize.ShloMosaic
open Idealize.ShloMosaic.TcCoe
open scoped BigOperators

variable {I : In Ideal} {e : Fin 1024 → Fin 64}

/-- A token's scores, -/
abbrev scores (I : In Ideal) (t : Fin 1024) (j : Fin 64) : EReal := ∑ k : Fin 512, I.x (ix2 t k) * I.rw (ix2 k j)
/-- and the probability of its expert. -/
abbrev probOf (I : In Ideal) (e : Fin 1024 → Fin 64) (t : Fin 1024) : EReal := soft (scores I t) (e t)

/-- A token is scaled by the probability of its expert. -/
theorem scaledOf_apply (h : Routes I e) (t : Fin 1024) (k : Fin 512) :
    scaledOf I (ix2 t k) = I.x (ix2 t k) * probOf I e t := by
  unfold scaledOf
  unfold_payloads
  pointwise [dot_S1024x512_S512x64_S1024x64_1_0_0_1_n_n]
  congr 1
  simp only [sitofp_eq, h.rt t]
  have : ∀ j : Fin 64, (BitVec.ofNat 32 (e t).val = BitVec.ofNat 32 j.val) ↔ j = e t := fun j => by
    have := (e t).isLt; have := j.isLt
    rw [word_inj (by omega) (by omega), Fin.ext_iff, eq_comm]
  refine (Finset.sum_congr rfl fun j _ => mul_comm _ _).trans ?_
  exact sum_pick _ _ (e t) this

theorem markOf_apply (h : Routes I e) (t : Fin 1024) : markOf I (ix2 t 0) = ((((e t).val + 1 : ℕ) : ℝ) : EReal) := by
  unfold markOf
  unfold_payloads
  pointwise
  have := (e t).isLt
  rw [h.rt t, ← sitofp_nat (φ := .bf16) (by omega), BitVec.ofNat_add]
  rfl

/-- The row of a token's place holds the token, scaled, -/
theorem xOf_apply (h : Routes I e) (t : Fin 1024) (m : Dev nD) (hm : m.val = peer e t) (k : Fin 512) :
    xOf I m (ix3 0 ⟨rank e t, rank_lt h.fits t⟩ k) = I.x (ix2 t k) * probOf I e t := by
  unfold xOf
  pointwise [dot_S1024x112_S1024x512_S112x512_0_0_1_1_n_n]
  simp only [pickOf_apply h, hm]
  rw [sum_pick _ _ t (spot_eq_iff h.fits t), scaledOf_apply h]

/-- and its mark. -/
theorem eOf_apply (h : Routes I e) (t : Fin 1024) (m : Dev nD) (hm : m.val = peer e t) :
    eOf I m (ix3 0 ⟨rank e t, rank_lt h.fits t⟩ 0) = ((((e t).val + 1 : ℕ) : ℝ) : EReal) := by
  unfold eOf
  pointwise [dot_S1024x112_S1024x1_S112x1_0_0_1_1_n_n]
  simp only [pickOf_apply h, hm]
  rw [sum_pick _ _ t (spot_eq_iff h.fits t), markOf_apply h]

/-! ## The experts -/

theorem meW_eq : ∀ d : Dev nD, meW d = BitVec.ofNat 32 d.val := by decide

theorem ewAt_apply (ew : Vec Ideal S4x512x1024 .bf16) (j : Fin 4) (k : Fin 512) (c : Fin 1024) :
    ewAt ew j (ix3 0 k c) = ew (ix3 j k c) := by
  show ew _ = ew _
  congr 1
  funext a
  match a with
  | ⟨0, _⟩ => exact Fin.ext (by show _ = j.val; simp)
  | ⟨1, _⟩ => exact Fin.ext (by show _ = k.val; simp)
  | ⟨2, _⟩ => exact Fin.ext (by show _ = c.val; simp)

/-- What one expert adds to a row: its product where the row is marked as its own, nothing elsewhere. -/
theorem partOf_apply (d : Dev nD) (ew : Vec Ideal S4x512x1024 .bf16) (X : Slot Ideal 512) (E : Slot Ideal 1) (r : Fin 112)
    (n : ℕ) (hn : n < 64) (hE : E (ix3 0 r 0) = (((n + 1 : ℕ) : ℝ) : EReal)) (j : Fin 4) (c : Fin 1024) :
    partOf d ew X E j (ix2 r c) = if n = d.val * 4 + j.val then ∑ k : Fin 512, X (ix3 0 r k) * ew (ix3 j k c) else 0 := by
  have hd : d.val < 16 := d.isLt
  have hj := j.isLt
  have hw : Scalar.addi (Scalar.addi (Scalar.muli (meW d) 4#32) (BitVec.ofNat 32 j.val)) 1#32 = BitVec.ofNat 32 (d.val * 4 + j.val + 1) := by
    rw [meW_eq]
    show BitVec.ofNat 32 d.val * 4#32 + BitVec.ofNat 32 j.val + 1#32 = _
    rw [BitVec.ofNat_add, BitVec.ofNat_add, BitVec.ofNat_mul]
  unfold partOf
  pointwise [dot_S112x512_S512x1024_S112x1024_1_0_0_1_n_n]
  rw [select_eq, hw, hE, fptosi_nat (by omega)]
  simp only [ewAt_apply]
  refine if_congr ((word_inj (by omega) (by omega)).trans ⟨fun h => by omega, fun h => by omega⟩) rfl rfl

/-- A row marked for an expert of the device is that expert's product. -/
theorem yOf_apply (d : Dev nD) (ew : Vec Ideal S4x512x1024 .bf16) (X : Slot Ideal 512) (E : Slot Ideal 1) (r : Fin 112)
    (q : Fin 4) (hE : E (ix3 0 r 0) = (((d.val * 4 + q.val + 1 : ℕ) : ℝ) : EReal)) (c : Fin 1024) :
    yOf d ew X E (ix3 0 r c) = ∑ k : Fin 512, X (ix3 0 r k) * ew (ix3 q k c) := by
  have hd : d.val < 16 := d.isLt
  have hp := fun j => partOf_apply d ew X E r (d.val * 4 + q.val) (by omega) hE j c
  unfold yOf
  pointwise [hp]
  fin_cases q <;> simp

end Cert.MoE
-- ==== Proof.Outcome.lean ====
/-
  The result of a device at an index: the shared expert's product and, times the probability, the product with the token's own expert.
-/
module

public import proofs.«01_k».proof.Proof.Send

@[expose] public section

noncomputable section

namespace Cert.MoE

open Cert.KernelIdeal Cert.KernelIdeal.Gen
open Idealize.ShloMosaic
open Idealize.ShloMosaic.TcCoe
open scoped BigOperators

variable {e : Fin 1024 → Fin 64}

/-- What came back, at a slot of a half, a row and a column. -/
theorem backOf_apply (I : Dev nD → In Ideal) (d m : Dev nD) (h : Fin 2) (a : Fin 8) (hm : m.val = 8 * h.val + a.val) (r : Fin 112) (c : Fin 1024) :
    backOf I d h (ix3 a r c) = yOf m (I m).ew (xOf (I d) m) (eOf (I d) m) (ix3 0 r c) := by
  have hi : (ix3 0 r c : S1x112x1024.Idx) = fun i => match i with | 0 => (0 : Fin 1) | 1 => (r : Fin 112) | 2 => (c : Fin 1024) := by
    funext i; match i with | ⟨0, _⟩ => rfl | ⟨1, _⟩ => rfl | ⟨2, _⟩ => rfl
  have hb : 8 * h.val + a.val < nD := hm ▸ m.isLt
  obtain rfl : m = ⟨8 * h.val + a.val, hb⟩ := Fin.ext hm
  rw [hi]
  rfl

/-- The token's row as it comes back from its peer. -/
theorem back_row (I : Dev nD → In Ideal) (d m : Dev nD) (hr : Routes (I d) e) (t : Fin 1024) (hm : m.val = peer e t) (h : Fin 2) (a : Fin 8)
    (ha : m.val = 8 * h.val + a.val) (q : Fin 4) (hq : q.val = (e t).val % 4) (r : Fin 112) (hrr : r.val = rank e t) (c : Fin 1024) :
    backOf I d h (ix3 a r c) = ∑ k : Fin 512, (I d).x (ix2 t k) * probOf (I d) e t * (I m).ew (ix3 q k c) := by
  obtain rfl : r = ⟨rank e t, rank_lt hr.fits t⟩ := Fin.ext hrr
  have hE := eOf_apply hr t m hm
  have hv : (e t).val = m.val * 4 + q.val := by rw [hm, hq, peer]; omega
  rw [hv] at hE
  rw [backOf_apply I d m h a ha, yOf_apply m (I m).ew _ _ _ q hE]
  exact Finset.sum_congr rfl fun k _ => by rw [xOf_apply hr t m hm k]

/-- The result of a device at a token and a column. -/
theorem out3_apply (I : Dev nD → In Ideal) (d m : Dev nD) (hr : Routes (I d) e) (t : Fin 1024) (hm : m.val = peer e t)
    (q : Fin 4) (hq : q.val = (e t).val % 4) (hs : ∀ j, Fin' (scores (I d) t j)) (c : Fin 1024) :
    out3 I d (ix2 t c) = (∑ k : Fin 512, (I d).x (ix2 t k) * (I d).sw (ix2 k c))
      + probOf (I d) e t * ∑ k : Fin 512, (I d).x (ix2 t k) * (I m).ew (ix3 q k c) := by
  have hrk := rank_lt hr.fits t
  have hpk := peer_lt (e := e) t
  have hsp := spot_lt hr.fits t
  have hse : spot e t = peer e t * 112 + rank e t := rfl
  have hback : (∑ k : Fin 512, (I d).x (ix2 t k) * probOf (I d) e t * (I m).ew (ix3 q k c))
      = probOf (I d) e t * ∑ k : Fin 512, (I d).x (ix2 t k) * (I m).ew (ix3 q k c) := by
    have hp := soft_fin _ (e t) hs
    rw [mul_sum_of_nonneg _ hp.1 hp.2]
    exact Finset.sum_congr rfl fun k _ => by rw [mul_comm ((I d).x _), mul_assoc]
  unfold out3 out2 out1
  unfold_payloads
  pointwise [dot_S1024x896_S896x1024_S1024x1024_1_0_0_1_n_n, dot_S1024x512_S512x1024_S1024x1024_1_0_0_1_n_n]
  have hw : ∀ n : ℕ, n < 1792 → ((placeOf (I d) (ix2 t 0) = BitVec.ofNat 32 n) ↔ spot e t = n) := fun n hn => by
    rw [placeOf_eq hr]; exact word_inj (by omega) (by omega)
  have h1 : ∀ x : Fin 896, (placeOf (I d) (ix2 t 0) = BitVec.ofNat 32 x.val) ↔ spot e t = x.val := fun x => hw _ (by omega)
  have h2 : ∀ x : Fin 896, (placeOf (I d) (ix2 t 0) = BitVec.ofNat 32 (896 + x.val)) ↔ spot e t = 896 + x.val := fun x => hw _ (by omega)
  simp only [sitofp_eq, h1, h2]
  rw [← hback]
  by_cases hh : peer e t < 8
  · have hl := back_row I d m hr t hm 0 ⟨spot e t / 112, by omega⟩ (by show m.val = 8 * 0 + spot e t / 112; omega) q hq
      ⟨spot e t % 112, by omega⟩ (by show spot e t % 112 = _; omega) c
    rw [sum_none (fun x : Fin 896 => spot e t = 896 + x.val) _ (fun x => by omega), add_zero,
      sum_pick (fun x : Fin 896 => spot e t = x.val) _ (⟨spot e t, by omega⟩ : Fin 896) (fun x => by rw [Fin.ext_iff, eq_comm])]
    exact congrArg _ hl
  · have hl := back_row I d m hr t hm 1 ⟨(spot e t - 896) / 112, by omega⟩ (by show m.val = 8 * 1 + (spot e t - 896) / 112; omega) q hq
      ⟨(spot e t - 896) % 112, by omega⟩ (by show (spot e t - 896) % 112 = _; omega) c
    rw [sum_none (fun x : Fin 896 => spot e t = x.val) _ (fun x => by have := x.isLt; omega), add_zero,
      sum_pick (fun x : Fin 896 => spot e t = 896 + x.val) _ (⟨spot e t - 896, by omega⟩ : Fin 896)
        (fun x => by rw [Fin.ext_iff]; show _ ↔ x.val = spot e t - 896; omega)]
    exact congrArg _ hl

end Cert.MoE
-- ==== Proof.Windows.lean ====
/-
  What the region's windows hold over the extended reals, and what it leaves in the result's array.
-/
module

public import proofs.«01_k».proof.Proof.Launch
public import proofs.«01_k».proof.Proof.Exact
public import Idealize.ShloMosaic.Lib.StableHlo.ReadAt
public import Idealize.ShloMosaic.Lib.Pipeline.ValueKit
public import Idealize.ShloMosaic.Lib.WordCmp

@[expose] public section

noncomputable section

namespace Cert.MoE

open Cert.KernelIdeal Cert.KernelIdeal.Gen
open Idealize.ShloMosaic
open Idealize.ShloMosaic.TcCoe
open scoped BigOperators

variable (m : (ℓ : Loc nD τ sig) → Buf (Elt Ideal) ℓ) (c : Dev nD)

/-- Every window is its whole array. -/
theorem index_0 : win0_0.index t0_0 = ![0, 0] := by decide
theorem index_1 : win0_1.index t0_0 = ![0, 0] := by decide
theorem index_2 : win0_2.index t0_0 = ![0, 0] := by decide
theorem index_3 : win0_3.index t0_0 = ![0, 0] := by decide
theorem index_4 : win0_4.index t0_0 = ![0, 0, 0] := by decide
theorem index_5 : win0_5.index t0_0 = ![0, 0] := by decide

/-! ## Each window's entries -/

theorem inp_rt (t : Fin 1024) (z : Fin 1) : (inp m c).rt (ix2 t z) = m ((c : Thread nD τ).loc main_arg2) (ix2 t z) := by
  rw [← V_main_arg2 m c]
  show iblk m c 0 t0_0 (ix2 t z) = _
  blk_ext [iblk, index_0]

theorem inp_x (t : Fin 1024) (k : Fin 512) : (inp m c).x (ix2 t k) = m ((c : Thread nD τ).loc main_arg0) (ix2 t k) := by
  rw [← V_main_arg0 m c]
  show iblk m c 1 t0_0 (ix2 t k) = _
  blk_ext [iblk, index_1]

/-- The experts' weights are handed over in a narrower format, which over the extended reals changes nothing. -/
theorem ew_at (q : Fin 4) (k : Fin 512) (j : Fin 1024) : V m c main_v1 (ix3 q k j) = m ((c : Thread nD τ).loc main_arg3) (ix3 q k j) := by
  unfold V
  after_reads_at

theorem inp_ew (q : Fin 4) (k : Fin 512) (j : Fin 1024) : (inp m c).ew (ix3 q k j) = m ((c : Thread nD τ).loc main_arg3) (ix3 q k j) := by
  rw [← ew_at m c]
  show iblk m c 4 t0_0 (ix3 q k j) = _
  blk_ext [iblk, index_4]

theorem inp_rw (k : Fin 512) (j : Fin 64) : (inp m c).rw (ix2 k j) = m ((c : Thread nD τ).loc main_arg1) (ix2 k j) := by
  rw [← V_main_arg1 m c]
  show iblk m c 2 t0_0 (ix2 k j) = _
  blk_ext [iblk, index_2]

theorem inp_sw (k : Fin 512) (j : Fin 1024) : (inp m c).sw (ix2 k j) = m ((c : Thread nD τ).loc main_arg4) (ix2 k j) := by
  rw [← V_main_arg4 m c]
  show iblk m c 3 t0_0 (ix2 k j) = _
  blk_ext [iblk, index_3]

/-- A number less one is at least another exactly when the other comes before it. -/
theorem word_before (t u : Fin 1024) : Scalar.select (IntOp.cmpi CmpIPredicate.sge (IntOp.addi (BitVec.ofNat 32 t.val) 4294967295#32) (BitVec.ofNat 32 u.val))
    (1 : EReal) 0 = if u < t then (1 : EReal) else 0 := by
  have ht := t.isLt
  have hu := u.isLt
  rcases Nat.eq_zero_or_pos t.val with h | h
  · have hw : IntOp.addi (BitVec.ofNat 32 t.val) 4294967295#32 = 4294967295#32 := by rw [h]; decide
    have hi : ((4294967295#32 : BitVec 32)).toInt = -1 := by decide
    have hj : (BitVec.ofNat 32 u.val).toInt = u.val := by
      rw [BitVec.toInt_eq_toNat_of_lt (by rw [BitVec.toNat_ofNat]; omega), BitVec.toNat_ofNat, Nat.mod_eq_of_lt (by omega)]
    rw [hw, WordCmp.cmpi_sge_eq, hi, hj, decide_eq_false (by omega), if_neg (by rw [Fin.lt_def]; omega)]
    rfl
  · have hw : IntOp.addi (BitVec.ofNat 32 t.val) 4294967295#32 = BitVec.ofNat 32 (t.val - 1) := by
      apply BitVec.eq_of_toNat_eq
      show (BitVec.ofNat 32 t.val + 4294967295#32).toNat = _
      rw [BitVec.toNat_add, BitVec.toNat_ofNat, BitVec.toNat_ofNat, BitVec.toNat_ofNat]
      omega
    rw [hw, WordCmp.cmpi_sge_ofNat (by omega) (by omega)]
    by_cases hl : u < t
    · rw [if_pos hl, decide_eq_true (by rw [Fin.lt_def] at hl; omega)]; rfl
    · rw [if_neg hl, decide_eq_false (by rw [Fin.lt_def] at hl; omega)]; rfl

/-- The table the ranks are counted with: one below the diagonal, zero on it and above. -/
theorem lt_at (t u : Fin 1024) : V m c main_v3 (ix2 t u) = if u < t then (1 : EReal) else 0 := by
  unfold V
  after_reads_at
  rw [word_before]

/-- That table's window, of any contents. -/
theorem whole_5 (f : Buf (Elt Ideal) ((c : Thread nD τ).loc main_v3)) (t u : Fin 1024) :
    ((cfg0.win 5).blk t0_0).view.read (Elt Ideal) f (ix2 t u) = f (ix2 t u) := by
  blk_ext [index_5]

theorem inp_lt (t u : Fin 1024) : (inp m c).lt (ix2 t u) = if u < t then (1 : EReal) else 0 := by
  have h : (inp m c).lt = iblk m c 5 t0_0 := by unfold inp; with_reducible rfl
  rw [h, iblk]
  exact (whole_5 c _ t u).trans (lt_at m c t u)

/-- The result's array ends with what the body leaves. -/
theorem result_whole : (dat0 m c).arrAt 6 cfg0.N = out3 (inp m) c := by
  refine (dat0 m c).arrAt_eq_of_after_last 6 t0_0 (by decide +kernel) _ fun j => ?_
  rw [after_6]
  show out3 (inp m) c (fun a => ⟨(j a).val, _⟩) = _
  exact rfl

end Cert.MoE
-- ==== Proof.Whole.lean ====
/-
  The reference's result as a function of its five arguments, and that function at an index.
-/
module

public import proofs.«01_k».proof.Proof.Gen.ReferenceIdeal.Run
public import proofs.«01_k».proof.Proof.Exact

@[expose] public section

noncomputable section

namespace Cert.MoE

open Idealize.ShloMosaic
open Idealize.ShloMosaic.TcCoe
open scoped BigOperators

open Cert.ReferenceIdeal Cert.ReferenceIdeal.Facts₀

variable [Cert.ReferenceIdeal.Facts]

/-- The experts' numbers as the reference reads them: a negative one counted from the end. -/
def wrapped (rt : IVec S16384x1 32) : IVec S16384x1 32 :=
  select (cmpi .slt rt (broadcastInDim S16384x1 ![] bcast_S_S16384x1 (constantI S_ 32 0#32)))
    (addi rt (broadcastInDim S16384x1 ![] bcast_S_S16384x1 (constantI S_ 32 64#32))) rt

/-- The same, of the flat array. -/
def wrappedFlat (rt : IVec S16384x1 32) : IVec S16384 32 :=
  select (cmpi .slt (shapeCast _ rt shapeCasts_S16384x1_S16384) (broadcastInDim S16384 ![] bcast_S_S16384 (constantI S_ 32 0#32)))
    (addi (shapeCast _ rt shapeCasts_S16384x1_S16384) (broadcastInDim S16384 ![] bcast_S_S16384 (constantI S_ 32 64#32)))
    (shapeCast _ rt shapeCasts_S16384x1_S16384)

/-- Where they are in range. -/
def inRange (rt : IVec S16384x1 32) : IVec S16384x1 1 :=
  Host.reduce IntOp.andi (andi (cmpi .sge (shapeCast _ (wrapped rt) shapeCasts_S16384x1_S16384x1x1)
      (broadcastInDim S16384x1x1 ![] bcast_S_S16384x1x1 (constantI S_ 32 0#32)))
    (cmpi .sle (shapeCast _ (wrapped rt) shapeCasts_S16384x1_S16384x1x1)
      (broadcastInDim S16384x1x1 ![0, 1, 2] bcast_S1x1x1_S16384x1x1_0_1_2 (broadcastInDim S1x1x1 ![2] bcast_S1_S1x1x1_2 (constantI S1 32 63#32)))))
    (constantI S_ 1 1#1) reducesTo_S16384x1x1_S16384x1_d2 h_S_

/-- The exponentials of the scores less the greatest, -/
def expsOf (x : FVec Ideal S16384x512 .f32) (rw' : FVec Ideal S512x64 .f32) : FVec Ideal S16384x64 .f32 :=
  Host.exp (subf (Host.dotGeneral dot_S16384x512_S512x64_S16384x64_1_0_0_1_n_n none x rw') (broadcastInDim S16384x64 ![0, 1] bcast_S16384x1_S16384x64_0_1
    (broadcastInDim S16384x1 ![0] bcast_S16384_S16384x1_0 (Host.reduce FloatOps.maximumf
      (Host.dotGeneral dot_S16384x512_S512x64_S16384x64_1_0_0_1_n_n none x rw') (constant S_ .f32 0xFF800000#32) reducesTo_S16384x64_S16384_d1 h_S_))))

/-- the probabilities, -/
def probsOf (x : FVec Ideal S16384x512 .f32) (rw' : FVec Ideal S512x64 .f32) : FVec Ideal S16384x64 .f32 :=
  Host.divf (expsOf x rw') (broadcastInDim S16384x64 ![0, 1] bcast_S16384x1_S16384x64_0_1 (broadcastInDim S16384x1 ![0] bcast_S16384_S16384x1_0
    (Host.reduceAdd (expsOf x rw') (constant S_ .f32 0x00000000#32) reducesTo_S16384x64_S16384_d1 h_S_)))

/-- the one of each token's expert, -/
def chosenOf (x : FVec Ideal S16384x512 .f32) (rw' : FVec Ideal S512x64 .f32) (rt : IVec S16384x1 32) : FVec Ideal S16384x1 .f32 :=
  select (inRange rt) (Host.gather gather_S16384x64_S16384x1x1_S16384x1_n_1_0_0_1_2_11 (probsOf x rw')
    (shapeCast _ (wrapped rt) shapeCasts_S16384x1_S16384x1x1)) (broadcastInDim S16384x1 ![] bcast_S_S16384x1 (constant S_ .f32 0x7FC00000#32))

/-- the weights of each token's expert, -/
def weightsOf (rt : IVec S16384x1 32) (ew : FVec Ideal S64x512x1024 .f32) : FVec Ideal S16384x512x1024 .f32 :=
  Host.gather gather_S64x512x1024_S16384x1_S16384x512x1024_12_0_n_n_0_1_15121024 ew
    (broadcastInDim S16384x1 ![0] bcast_S16384_S16384x1_0 (wrappedFlat rt))

/-- and the reference's result. -/
def wholeOf (x : FVec Ideal S16384x512 .f32) (rw' : FVec Ideal S512x64 .f32) (rt : IVec S16384x1 32) (ew : FVec Ideal S64x512x1024 .f32)
    (sw : FVec Ideal S512x1024 .f32) : FVec Ideal S16384x1024 .f32 :=
  addf (Host.dotGeneral dot_S16384x512_S512x1024_S16384x1024_1_0_0_1_n_n none x sw)
    (mulf (broadcastInDim S16384x1024 ![0, 1] bcast_S16384x1_S16384x1024_0_1 (chosenOf x rw' rt))
      (Host.dotGeneral dot_S16384x512_S16384x512x1024_S16384x1024_1_1_n_2_0_0 none x (weightsOf rt ew)))

variable (x : FVec Ideal S16384x512 .f32) (rw' : FVec Ideal S512x64 .f32) (rt : IVec S16384x1 32) (ew : FVec Ideal S64x512x1024 .f32)
    (sw : FVec Ideal S512x1024 .f32) (t : Fin 16384) (n : Fin 64) (hn : rt (ix2 t 0) = BitVec.ofNat 32 n.val)

theorem probsOf_apply (j : Fin 64) : probsOf x rw' (ix2 t j) = soft (fun j => ∑ k : Fin 512, x (ix2 t k) * rw' (ix2 k j)) j := by
  unfold probsOf expsOf
  pointwise [dot_S16384x512_S512x64_S16384x64_1_0_0_1_n_n]

/-- A small word read back as a number. -/
theorem word_read (n : Fin 64) : min (BitVec.ofNat 32 n.val).toInt.toNat 63 = n.val := by
  revert n
  decide

theorem word_wrap (n : Fin 64) : Scalar.select (IntOp.cmpi CmpIPredicate.slt (BitVec.ofNat 32 n.val) 0#32)
    (IntOp.addi (BitVec.ofNat 32 n.val) 64#32) (BitVec.ofNat 32 n.val) = BitVec.ofNat 32 n.val := by
  revert n
  decide

theorem word_in (n : Fin 64) : IntOp.andi (IntOp.cmpi CmpIPredicate.sge (BitVec.ofNat 32 n.val) 0#32)
    (IntOp.cmpi CmpIPredicate.sle (BitVec.ofNat 32 n.val) 63#32) = 1#1 := by
  revert n
  decide

include hn in
theorem wrapped_apply : wrapped rt (ix2 t 0) = BitVec.ofNat 32 n.val := by
  unfold wrapped
  pointwise
  rw [hn, word_wrap]

include hn in
theorem wrappedFlat_apply : wrappedFlat rt (ix1 t) = BitVec.ofNat 32 n.val := by
  unfold wrappedFlat
  pointwise
  rw [hn, word_wrap]

include hn in
theorem inRange_apply : inRange rt (ix2 t 0) = 1#1 := by
  unfold inRange
  pointwise
  rw [wrapped_apply rt t n hn, word_in]
  rfl

/-- The two look-ups' dimension numbers: one number per token, of its column -/
abbrev byColumn : GatherDims S16384x64 S16384x1x1 S16384x1 := gather_S16384x64_S16384x1x1_S16384x1_n_1_0_0_1_2_11

/-- and of its plane. -/
abbrev byPlane : GatherDims S64x512x1024 S16384x1 S16384x512x1024 := gather_S64x512x1024_S16384x1_S16384x512x1024_12_0_n_n_0_1_15121024

/-- The probability looked up at a token's number: the row is the token's, the column the number, kept within the table. -/
theorem lookup_apply (p : FVec Ideal S16384x64 .f32) (i : IVec S16384x1x1 32) (t : Fin 16384) :
    Host.gather byColumn p i (ix2 t 0)
      = p (ix2 t ⟨min (i (ix3 t 0 0)).toInt.toNat 63, by omega⟩) := by
  unfold Host.gather
  congr 1
  funext a
  refine Fin.ext ?_
  show GatherDims.start _ _ i a + GatherDims.batchCoord _ _ a + GatherDims.offCoord _ _ a = _
  have hk : a ∉ byColumn.sKept := fun h => by
    rw [GatherDims.mem_sKept] at h
    match a with
    | ⟨0, _⟩ => exact h.2 (List.mem_singleton.mpr rfl)
    | ⟨1, _⟩ => exact h.1 (List.mem_singleton.mpr rfl)
  rw [GatherDims.offCoord_eq_zero _ _ _ hk, Nat.add_zero]
  match a with
  | ⟨0, h0⟩ =>
    rw [GatherDims.start_batching _ _ _ _ (List.mem_singleton.mpr rfl)]
    unfold GatherDims.batchCoord
    rw [dif_pos (show (⟨0, h0⟩ : Fin 2) ∈ byColumn.operandBatchingDims from List.mem_singleton.mpr rfl), Nat.zero_add]
    rfl
  | ⟨1, h1⟩ =>
    rw [GatherDims.batchCoord_eq_zero _ _ _ (fun h => absurd (congrArg Fin.val (List.mem_singleton.mp h)) (show ¬ (1 = 0) by decide))]
    unfold GatherDims.start
    rw [dif_pos (show (⟨1, h1⟩ : Fin 2) ∈ byColumn.startIndexMap from List.mem_singleton.mpr rfl), Nat.add_zero]
    have hsi : byColumn.siIdx (ix2 t 0)
        ⟨List.idxOf (⟨1, h1⟩ : Fin 2) byColumn.startIndexMap,
          List.idxOf_lt_length_iff.2 (List.mem_singleton.mpr rfl)⟩ = ix3 t 0 0 := by
      funext b
      refine Fin.ext ?_
      match b with
      | ⟨0, _⟩ => rfl
      | ⟨1, _⟩ => rfl
      | ⟨2, _⟩ => rfl
    rw [hsi]
    rfl

/-- The weights looked up at a token's number: the plane is the number, kept within the table; row and column the result's. -/
theorem plane_apply (w : FVec Ideal S64x512x1024 .f32) (i : IVec S16384x1 32) (t : Fin 16384) (k : Fin 512) (c : Fin 1024) :
    Host.gather byPlane w i (ix3 t k c)
      = w (ix3 ⟨min (i (ix2 t 0)).toInt.toNat 63, by omega⟩ k c) := by
  unfold Host.gather
  congr 1
  funext a
  refine Fin.ext ?_
  show GatherDims.start _ _ i a + GatherDims.batchCoord _ _ a + GatherDims.offCoord _ _ a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (List.mem_singleton.mpr rfl)), Nat.add_zero]
    unfold GatherDims.start
    rw [dif_pos (show (⟨0, h0⟩ : Fin 3) ∈ byPlane.startIndexMap from List.mem_singleton.mpr rfl)]
    have hsi : byPlane.siIdx (ix3 t k c)
        ⟨List.idxOf (⟨0, h0⟩ : Fin 3) byPlane.startIndexMap,
          List.idxOf_lt_length_iff.2 (List.mem_singleton.mpr rfl)⟩ = ix2 t 0 := by
      funext b
      refine Fin.ext ?_
      match b with
      | ⟨0, _⟩ => rfl
      | ⟨1, _⟩ => rfl
    rw [hsi]
    rfl
  | ⟨1, h1⟩ =>
    unfold GatherDims.start
    rw [dif_neg (show (⟨1, h1⟩ : Fin 3) ∉ byPlane.startIndexMap from fun h =>
      absurd (congrArg Fin.val (List.mem_singleton.mp h)) (show ¬ (1 = 0) by decide)), Nat.zero_add]
    unfold GatherDims.offCoord
    rw [dif_pos (show (⟨1, h1⟩ : Fin 3) ∈ byPlane.sKept from (GatherDims.mem_sKept _ _).mpr ⟨fun h =>
      absurd (congrArg Fin.val (List.mem_singleton.mp h)) (show ¬ (1 = 0) by decide), List.not_mem_nil⟩)]
    rfl
  | ⟨2, h2⟩ =>
    unfold GatherDims.start
    rw [dif_neg (show (⟨2, h2⟩ : Fin 3) ∉ byPlane.startIndexMap from fun h =>
      absurd (congrArg Fin.val (List.mem_singleton.mp h)) (show ¬ (2 = 0) by decide)), Nat.zero_add]
    unfold GatherDims.offCoord
    rw [dif_pos (show (⟨2, h2⟩ : Fin 3) ∈ byPlane.sKept from (GatherDims.mem_sKept _ _).mpr ⟨fun h =>
      absurd (congrArg Fin.val (List.mem_singleton.mp h)) (show ¬ (2 = 0) by decide), List.not_mem_nil⟩)]
    rfl

include hn in
theorem chosenOf_apply : chosenOf x rw' rt (ix2 t 0) = soft (fun j => ∑ k : Fin 512, x (ix2 t k) * rw' (ix2 k j)) n := by
  unfold chosenOf
  pointwise
  rw [inRange_apply rt t n hn, lookup_apply]
  pointwise
  have hi : (⟨min (wrapped rt (ix2 t 0)).toInt.toNat 63, by omega⟩ : Fin 64) = n :=
    Fin.ext (by show min (wrapped rt (ix2 t 0)).toInt.toNat 63 = n.val; rw [wrapped_apply rt t n hn, word_read])
  rw [hi, probsOf_apply]

include hn in
theorem weightsOf_apply (k : Fin 512) (c : Fin 1024) : weightsOf rt ew (ix3 t k c) = ew (ix3 n k c) := by
  unfold weightsOf
  rw [plane_apply]
  pointwise
  have hi : (⟨min (wrappedFlat rt (ix1 t)).toInt.toNat 63, by omega⟩ : Fin 64) = n :=
    Fin.ext (by show min (wrappedFlat rt (ix1 t)).toInt.toNat 63 = n.val; rw [wrappedFlat_apply rt t n hn, word_read])
  rw [hi]

include hn in
/-- THE REFERENCE'S RESULT AT A TOKEN AND A COLUMN: the token by the shared weights, plus its expert's probability times the
    token by the expert's weights. -/
theorem wholeOf_apply (c : Fin 1024) : wholeOf x rw' rt ew sw (ix2 t c)
    = (∑ k : Fin 512, x (ix2 t k) * sw (ix2 k c))
      + soft (fun j => ∑ k : Fin 512, x (ix2 t k) * rw' (ix2 k j)) n * ∑ k : Fin 512, x (ix2 t k) * ew (ix3 n k c) := by
  unfold wholeOf
  pointwise [dot_S16384x512_S512x1024_S16384x1024_1_0_0_1_n_n, dot_S16384x512_S16384x512x1024_S16384x1024_1_1_n_2_0_0]
  rw [chosenOf_apply x rw' rt t n hn]
  simp only [weightsOf_apply rt ew t n hn]

end Cert.MoE
-- ==== Proof.Admit.lean ====
/-
  What the precondition says of one device's blocks: every token names an expert, no peer is sent more tokens than a slot has rows, and the tokens and the router's weights are reals.
-/
module

public import proofs.«01_k».proof.Pre_routed_KernelIdeal
public import proofs.«01_k».proof.Pre_routed_ReferenceIdeal
public import proofs.«01_k».proof.Proof.Exact
public import proofs.«01_k».proof.Proof.Places
public import Idealize.ShloMosaic.Lib.IndicatorCount
public import Idealize.ShloMosaic.Lib.WordCmp
public import Idealize.ShloMosaic.Lib.Affine

@[expose] public section

noncomputable section

namespace Cert.MoE

open Idealize.ShloMosaic
open Idealize.ShloMosaic.TcCoe
open scoped BigOperators
open Idealize.ShloMosaic.WordCmp

/-- The shape relations the precondition's operations take, -/
instance routed_facts : Cert.Pre_routed_KernelIdeal.Facts := by constructor <;> decide

/-- and the same of it read on the reference's program. -/
instance routed_facts' : Cert.Pre_routed_ReferenceIdeal.Facts := by constructor <;> decide

/-- An `and` over a finite set that came out one met only ones. -/
theorem all_one {ι : Type} (S : Finset ι) (f : ι → BitVec 1) (h : S.fold IntOp.andi 1#1 f = 1#1) : ∀ i ∈ S, f i = 1#1 := by
  classical
  induction S using Finset.induction_on with
  | empty => intro i hi; exact absurd hi (Finset.notMem_empty i)
  | insert a S ha ih =>
    rw [Finset.fold_insert ha] at h
    obtain ⟨h1, h2⟩ := IntOp.andi_eq_one.1 h
    intro i hi
    rcases Finset.mem_insert.1 hi with rfl | hi
    exacts [h1, ih h2 i hi]

/-- The same over a whole type. -/
theorem every_one {ι : Type} [Fintype ι] (f : ι → BitVec 1) (h : Finset.univ.fold IntOp.andi 1#1 f = 1#1) (i : ι) : f i = 1#1 :=
  all_one _ f h i (Finset.mem_univ i)

/-- A comparison of extended reals that came out one. -/
theorem abs_lt_top {a : EReal} (h : BitVec.ofBool (decide (FloatOps.absf (F := Ideal) (φ := .f32) a < Ideal.ofBits .f32 2139095040#32)) = 1#1) : Fin' a := by
  have ht : Ideal.ofBits .f32 2139095040#32 = ⊤ := by simp [Ideal.ofBits, Ideal.ieee]
  rw [ht] at h
  have hl : max a (-a) < ⊤ := by
    by_contra hc
    have : decide (FloatOps.absf (F := Ideal) (φ := .f32) a < (⊤ : EReal)) = false := decide_eq_false hc
    rw [this] at h
    exact absurd h (by decide)
  induction a using EReal.rec with
  | bot => exact absurd hl (by simp)
  | coe r => exact ⟨r, rfl⟩
  | top => exact absurd hl (by simp)

/-- A word is the word of its number. -/
theorem word_self (v : BitVec 32) : BitVec.ofNat 32 v.toNat = v := by simp

/-- A device's first expert, and the next device's, as words. -/
theorem word_mul (k : Fin 16) : IntOp.muli 4#32 (BitVec.ofNat 32 k.val) = BitVec.ofNat 32 (4 * k.val) := by revert k; decide
theorem word_add (k : Fin 16) : IntOp.addi (BitVec.ofNat 32 (4 * k.val)) 4#32 = BitVec.ofNat 32 (4 * k.val + 4) := by revert k; decide

/-- What the precondition says. -/
structure Admits (x : (⟨2, ![1024, 512]⟩ : Shape).Idx → EReal) (w : (⟨2, ![512, 64]⟩ : Shape).Idx → EReal)
    (r : (⟨2, ![1024, 1]⟩ : Shape).Idx → BitVec 32) (e : Fin 1024 → Fin 64) : Prop where
  rt : ∀ t, r (ix2 t 0) = BitVec.ofNat 32 (e t).val
  fits : Fits e
  x : ∀ t k, Fin' (x (ix2 t k))
  w : ∀ k j, Fin' (w (ix2 k j))

/-- THE PRECONDITION READ: the experts its tokens name, and the rest of them. -/
theorem admits {x : FVec Ideal Cert.Pre_routed_KernelIdeal.S1024x512 .f32} {w : FVec Ideal Cert.Pre_routed_KernelIdeal.S512x64 .f32}
    {r : IVec Cert.Pre_routed_KernelIdeal.S1024x1 32} {ew : FVec Ideal Cert.Pre_routed_KernelIdeal.S4x512x1024 .f32}
    {sw : FVec Ideal Cert.Pre_routed_KernelIdeal.S512x1024 .f32}
    (h : Cert.Pre_routed_KernelIdeal.fn (F := Ideal) x w r ew sw = fun _ => 1#1) : ∃ e, Admits x w r e := by
  have h := congrFun h (fun a => absurd a.isLt (Nat.not_lt_zero _))
  unfold Cert.Pre_routed_KernelIdeal.fn Cert.Pre_routed_KernelIdeal.fn_part1 Cert.Pre_routed_KernelIdeal.fn_part2 at h
  pointwise at h
  obtain ⟨h, hw⟩ := IntOp.andi_eq_one.1 h
  obtain ⟨h, hx⟩ := IntOp.andi_eq_one.1 h
  obtain ⟨h, hc⟩ := IntOp.andi_eq_one.1 h
  obtain ⟨h0, h64⟩ := IntOp.andi_eq_one.1 h
  have hx := every_one _ hx
  have hw := every_one _ hw
  have hc := every_one _ hc
  have h0 := every_one _ h0
  have h64 := every_one _ h64
  have hlt : ∀ t : Fin 1024, (r (ix2 t 0)).toNat < 64 := fun t => by
    have h : IntOp.andi (IntOp.cmpi .sge (r (ix2 t 0)) 0#32) (IntOp.cmpi .slt (r (ix2 t 0)) 64#32) = 1#1 :=
      IntOp.andi_eq_one.2 ⟨h0 (t, 0), h64 (t, 0)⟩
    rw [andi_sge_zero_slt_ofNat (by decide)] at h
    exact (ofBool_decide_eq_one_iff _).1 h
  refine ⟨fun t => ⟨(r (ix2 t 0)).toNat, hlt t⟩, ?_, ?_, fun t k => abs_lt_top (hx (t, k)),
    fun k j => abs_lt_top (hw (k, j))⟩
  · intro t
    exact (word_self _).symm
  · intro k
    have h := hc k
    rw [IndicatorCount.fold_addi_setWidth_eq_card] at h
    have hle : (Finset.univ.filter fun t : Fin 1024 => IntOp.andi (IntOp.cmpi CmpIPredicate.sge (r (ix2 t 0)) (IntOp.muli 4#32 (BitVec.ofNat 32 k.val)))
        (IntOp.cmpi CmpIPredicate.slt (r (ix2 t 0)) (IntOp.addi (IntOp.muli 4#32 (BitVec.ofNat 32 k.val)) 4#32)) = 1#1).card ≤ 1024 :=
      (Finset.card_le_univ _).trans (by simp)
    generalize hS : (Finset.univ.filter fun t : Fin 1024 => IntOp.andi (IntOp.cmpi CmpIPredicate.sge (r (ix2 t 0)) (IntOp.muli 4#32 (BitVec.ofNat 32 k.val)))
        (IntOp.cmpi CmpIPredicate.slt (r (ix2 t 0)) (IntOp.addi (IntOp.muli 4#32 (BitVec.ofNat 32 k.val)) 4#32)) = 1#1) = S at h hle
    have h := (cmpi_sle_ofNat_eq_one_iff (w := 32) (by omega) (by omega)).1 h
    refine le_trans (Finset.card_le_card fun t ht => ?_) h
    rw [← hS]
    refine Finset.mem_filter.2 ⟨Finset.mem_univ t, ?_⟩
    have hp : (r (ix2 t 0)).toNat / 4 = k.val := (Finset.mem_filter.1 ht).2
    have hr : r (ix2 t 0) = BitVec.ofNat 32 (r (ix2 t 0)).toNat := (word_self _).symm
    have h1 : IntOp.muli 4#32 (BitVec.ofNat 32 k.val) = BitVec.ofNat 32 (4 * k.val) := word_mul k
    have h2 : IntOp.addi (BitVec.ofNat 32 (4 * k.val)) 4#32 = BitVec.ofNat 32 (4 * k.val + 4) := word_add k
    have hk := k.isLt
    have hl := hlt t
    rw [h1, h2, hr]
    exact IntOp.andi_eq_one.2 ⟨(cmpi_sge_ofNat_eq_one_iff (by omega) (by omega)).2 (by omega),
      (cmpi_slt_ofNat_eq_one_iff (by omega) (by omega)).2 (by omega)⟩

end Cert.MoE
-- ==== Proof.Agree.lean ====
/-
  The kernel's result against the reference's: first entry by entry, then as whole programs.
-/
module

public import proofs.«01_k».proof.Proof.Outcome
public import proofs.«01_k».proof.Proof.Windows
public import proofs.«01_k».proof.Proof.Whole
public import proofs.«01_k».proof.Proof.Admit
public import proofs.«01_k».proof.Proof.Frames
public import Idealize.ShloMosaic.Lib.LayoutAt

@[expose] public section

noncomputable section

namespace Cert.MoE

open Cert.KernelIdeal Cert.KernelIdeal.Gen
open Idealize.ShloMosaic
open Idealize.ShloMosaic.TcCoe
open scoped BigOperators

/-- The row of the whole array that is device `c`'s row `t`, -/
def tokenRow (c : Dev nD) (t : Fin 1024) : Fin 16384 := ⟨c.val * 1024 + t.val, by have := c.isLt; have : nD = 16 := rfl; omega⟩
/-- and the expert of all of them that is device `c`'s expert `q`. -/
def expertPlane (c : Dev nD) (q : Fin 4) : Fin 64 := ⟨c.val * 4 + q.val, by have := c.isLt; have : nD = 16 := rfl; omega⟩

section
variable {α : Type}

theorem block_x (c : Dev nD) (v : (⟨2, ![16384, 512]⟩ : Shape).Idx → α) (t : Fin 1024) (k : Fin 512) :
    Layout.block ⟨2, ![1024, 512]⟩ ⟨2, ![16384, 512]⟩ 0 16 c v (by decide) (ix2 t k) = v (ix2 (tokenRow c t) k) := by
  unfold tokenRow
  shard_norm
  shard_ext

theorem block_rt (c : Dev nD) (v : (⟨2, ![16384, 1]⟩ : Shape).Idx → α) (t : Fin 1024) (z : Fin 1) :
    Layout.block ⟨2, ![1024, 1]⟩ ⟨2, ![16384, 1]⟩ 0 16 c v (by decide) (ix2 t z) = v (ix2 (tokenRow c t) z) := by
  unfold tokenRow
  shard_norm
  shard_ext

theorem block_ew (c : Dev nD) (v : (⟨3, ![64, 512, 1024]⟩ : Shape).Idx → α) (q : Fin 4) (k : Fin 512) (j : Fin 1024) :
    Layout.block ⟨3, ![4, 512, 1024]⟩ ⟨3, ![64, 512, 1024]⟩ 0 16 c v (by decide) (ix3 q k j) = v (ix3 (expertPlane c q) k j) := by
  unfold expertPlane
  shard_norm
  shard_ext

theorem block_out (c : Dev nD) (v : (⟨2, ![16384, 1024]⟩ : Shape).Idx → α) (t : Fin 1024) (j : Fin 1024) :
    Layout.block ⟨2, ![1024, 1024]⟩ ⟨2, ![16384, 1024]⟩ 0 16 c v (by decide) (ix2 t j) = v (ix2 (tokenRow c t) j) := by
  unfold tokenRow
  shard_norm
  shard_ext

end
/-- The devices' inputs are the blocks of the reference's arrays. -/
structure Cut (I : Dev nD → In Ideal) (X : FVec Ideal Cert.ReferenceIdeal.S16384x512 .f32) (W : FVec Ideal Cert.ReferenceIdeal.S512x64 .f32)
    (R : IVec Cert.ReferenceIdeal.S16384x1 32) (E : FVec Ideal Cert.ReferenceIdeal.S64x512x1024 .f32)
    (S : FVec Ideal Cert.ReferenceIdeal.S512x1024 .f32) : Prop where
  x : ∀ c t k, (I c).x (ix2 t k) = X (ix2 (tokenRow c t) k)
  rw : ∀ c k j, (I c).rw (ix2 k j) = W (ix2 k j)
  rt : ∀ c t, (I c).rt (ix2 t 0) = R (ix2 (tokenRow c t) 0)
  ew : ∀ c q k j, (I c).ew (ix3 q k j) = E (ix3 (expertPlane c q) k j)
  sw : ∀ c k j, (I c).sw (ix2 k j) = S (ix2 k j)

variable {I : Dev nD → In Ideal} {X : FVec Ideal Cert.ReferenceIdeal.S16384x512 .f32} {W : FVec Ideal Cert.ReferenceIdeal.S512x64 .f32}
    {R : IVec Cert.ReferenceIdeal.S16384x1 32} {E : FVec Ideal Cert.ReferenceIdeal.S64x512x1024 .f32}
    {S : FVec Ideal Cert.ReferenceIdeal.S512x1024 .f32} {e : Fin 1024 → Fin 64}

/-- A token's expert is the `q`-th of the device it goes to. -/
theorem plane_peer (p : Dev nD) (q : Fin 4) (t : Fin 1024) (hp : p.val = peer e t) (hq : q.val = (e t).val % 4) : expertPlane p q = e t := by
  apply Fin.ext
  show p.val * 4 + q.val = (e t).val
  rw [hp, hq]
  unfold peer
  omega

/-- The kernel's entry is the reference's. -/
theorem entry (h : Cut I X W R E S) (c : Dev nD) (hr : Routes (I c) e) (hx : ∀ t k, Fin' ((I c).x (ix2 t k))) (hw : ∀ k j, Fin' ((I c).rw (ix2 k j)))
    (t j : Fin 1024) : out3 I c (ix2 t j) = wholeOf X W R E S (ix2 (tokenRow c t) j) := by
  have hn : R (ix2 (tokenRow c t) 0) = BitVec.ofNat 32 (e t).val := (h.rt c t).symm.trans (hr.rt t)
  rw [out3_apply I c ⟨peer e t, peer_lt t⟩ hr t rfl ⟨(e t).val % 4, Nat.mod_lt _ (by decide)⟩ rfl
      (fun j => Fin'.sum _ _ fun k => (hx t k).mul (hw k j)) j, wholeOf_apply X W R E S (tokenRow c t) (e t) hn j]
  unfold probOf scores
  simp only [h.x, h.rw, h.sw, h.ew, plane_peer ⟨peer e t, peer_lt t⟩ ⟨(e t).val % 4, Nat.mod_lt _ (by decide)⟩ t rfl rfl]

variable (m : (ℓ : Loc nD τ sig) → Buf (Elt Ideal) ℓ)

theorem routes_of {c : Dev nD} (ha : Admits (m ((c : Thread nD τ).loc main_arg0)) (m ((c : Thread nD τ).loc main_arg1)) (m ((c : Thread nD τ).loc main_arg2)) e) :
    Routes (inp m c) e :=
  ⟨fun t => (inp_rt m c t 0).trans (ha.rt t), ha.fits, fun t u => inp_lt m c t u⟩

/-- The reference's result from what its device was launched with. -/
def answer (m' : (ℓ : Loc Cert.ReferenceIdeal.nD Cert.ReferenceIdeal.τ Cert.ReferenceIdeal.sig) → Buf (Elt Ideal) ℓ) (d : Dev Cert.ReferenceIdeal.nD) :
    FVec Ideal Cert.ReferenceIdeal.S16384x1024 .f32 :=
  wholeOf (m' ((d.tc : Thread Cert.ReferenceIdeal.nD Cert.ReferenceIdeal.τ).loc Cert.ReferenceIdeal.main_arg0))
    (m' ((d.tc : Thread Cert.ReferenceIdeal.nD Cert.ReferenceIdeal.τ).loc Cert.ReferenceIdeal.main_arg1))
    (m' ((d.tc : Thread Cert.ReferenceIdeal.nD Cert.ReferenceIdeal.τ).loc Cert.ReferenceIdeal.main_arg2))
    (m' ((d.tc : Thread Cert.ReferenceIdeal.nD Cert.ReferenceIdeal.τ).loc Cert.ReferenceIdeal.main_arg3))
    (m' ((d.tc : Thread Cert.ReferenceIdeal.nD Cert.ReferenceIdeal.τ).loc Cert.ReferenceIdeal.main_arg4))

theorem reference_runs (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ fun r =>
      ∀ d : Dev Cert.ReferenceIdeal.nD,
        r.2.mem ((d.tc : Thread Cert.ReferenceIdeal.nD Cert.ReferenceIdeal.τ).loc Cert.ReferenceIdeal.main_v23) = answer m' d
        ∧ r.2.mem ((d.tc : Thread Cert.ReferenceIdeal.nD Cert.ReferenceIdeal.τ).loc Cert.ReferenceIdeal.main_arg0) = m' ((d.tc : Thread Cert.ReferenceIdeal.nD Cert.ReferenceIdeal.τ).loc Cert.ReferenceIdeal.main_arg0)
        ∧ r.2.mem ((d.tc : Thread Cert.ReferenceIdeal.nD Cert.ReferenceIdeal.τ).loc Cert.ReferenceIdeal.main_arg1) = m' ((d.tc : Thread Cert.ReferenceIdeal.nD Cert.ReferenceIdeal.τ).loc Cert.ReferenceIdeal.main_arg1)
        ∧ r.2.mem ((d.tc : Thread Cert.ReferenceIdeal.nD Cert.ReferenceIdeal.τ).loc Cert.ReferenceIdeal.main_arg2) = m' ((d.tc : Thread Cert.ReferenceIdeal.nD Cert.ReferenceIdeal.τ).loc Cert.ReferenceIdeal.main_arg2)
        ∧ r.2.mem ((d.tc : Thread Cert.ReferenceIdeal.nD Cert.ReferenceIdeal.τ).loc Cert.ReferenceIdeal.main_arg3) = m' ((d.tc : Thread Cert.ReferenceIdeal.nD Cert.ReferenceIdeal.τ).loc Cert.ReferenceIdeal.main_arg3)
        ∧ r.2.mem ((d.tc : Thread Cert.ReferenceIdeal.nD Cert.ReferenceIdeal.τ).loc Cert.ReferenceIdeal.main_arg4) = m' ((d.tc : Thread Cert.ReferenceIdeal.nD Cert.ReferenceIdeal.τ).loc Cert.ReferenceIdeal.main_arg4) :=
  Cert.ReferenceIdeal.Value.run m' g'

/-- What the algebraic claim says of the kernel's program and the reference's. -/
theorem agree : Cert.algebraic_KernelIdeal_ReferenceIdeal_pre_routed_KernelIdeal := by
  intro m g m' g' hp hin
  have hcut : Cut (inp m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    ⟨fun c t k => (inp_x m c t k).trans ((congrFun (hin c).1 (ix2 t k)).trans (block_x c _ t k)),
      fun c k j => (inp_rw m c k j).trans (congrFun (hin c).2.1 (ix2 k j)),
      fun c t => (inp_rt m c t 0).trans ((congrFun (hin c).2.2.1 (ix2 t 0)).trans (block_rt c _ t 0)),
      fun c q k j => (inp_ew m c q k j).trans ((congrFun (hin c).2.2.2.1 (ix3 q k j)).trans (block_ew c _ q k j)),
      fun c k j => (inp_sw m c k j).trans (congrFun (hin c).2.2.2.2 (ix2 k j))⟩
  refine ⟨answer m' 0, (θ_run defs _ _).mono (fun r h c => ⟨?_, reads_kept m (h.1 c)⟩) (run_all m g),
    (θ_run Cert.ReferenceIdeal.defs _ _).mono (fun r h => h 0) (reference_runs m' g')⟩
  obtain ⟨e, ha⟩ := admits (hp c)
  refine ((h.1 c).1 _ (mem_uc main_v4 rfl)).trans ((V₃_out m c).trans ((result_whole m c).trans ?_))
  refine funext fun i => ?_
  rw [eq_ix2 i]
  refine Eq.trans ?_ (block_out c _ _ _).symm
  exact entry hcut c (routes_of m ha) (fun t k => (inp_x m c t k).symm ▸ ha.x t k) (fun k j => (inp_rw m c k j).symm ▸ ha.w k j) _ _

/-! ## The two frames as read under the precondition: the frames themselves, which need none of it -/

theorem frame_ideal_routed : Cert.quiescent_KernelIdeal_pre_routed_KernelIdeal := fun m g _ => run_frame (F := Ideal) m g

theorem frame_reference_routed : Cert.quiescent_ReferenceIdeal_pre_routed_ReferenceIdeal := fun m g _ => frame_reference m g trivial

end Cert.MoE
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.MoE.routed_facts, Cert.MoE.routed_facts',
  Cert.MoE.frame_kernel, Cert.MoE.frame_ideal, Cert.MoE.frame_ideal_routed, Cert.MoE.frame_reference, Cert.MoE.frame_reference_routed,
  trivial, Cert.MoE.agree⟩

end Cert.Proof

end
